-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ScHist [hPre_ids_in_pool : Cert.Pre_ids_in_pool.Facts] (m : (ℓ : Loc Cert.ScHist.nD Cert.ScHist.τ Cert.ScHist.sig) → Buf (Elt Bits) ℓ) : Prop :=
  ∀ c : Dev Cert.ScHist.nD,
    (Cert.Pre_ids_in_pool.fn (F := Bits) (m ((c.tc : Thread Cert.ScHist.nD Cert.ScHist.τ).loc Cert.ScHist.main_arg0))) = (fun _ => 1#1)

def Pre_ScHistIdeal [hPre_ids_in_pool : Cert.Pre_ids_in_pool.Facts] (m : (ℓ : Loc Cert.ScHistIdeal.nD Cert.ScHistIdeal.τ Cert.ScHistIdeal.sig) → Buf (Elt Ideal) ℓ) : Prop :=
  ∀ c : Dev Cert.ScHistIdeal.nD,
    (Cert.Pre_ids_in_pool.fn (F := Ideal) (m ((c.tc : Thread Cert.ScHistIdeal.nD Cert.ScHistIdeal.τ).loc Cert.ScHistIdeal.main_arg0))) = (fun _ => 1#1)

def Pre_ScHistReferenceIdeal (m : (ℓ : Loc Cert.ScHistReferenceIdeal.nD Cert.ScHistReferenceIdeal.τ Cert.ScHistReferenceIdeal.sig) → Buf (Elt Ideal) ℓ) : Prop :=
  True

def Pre_ScHistReferenceIdeal_ids_in_pool [hPre_ids_in_pool : Cert.Pre_ids_in_pool.Facts] (m : (ℓ : Loc Cert.ScHistReferenceIdeal.nD Cert.ScHistReferenceIdeal.τ Cert.ScHistReferenceIdeal.sig) → Buf (Elt Ideal) ℓ) : Prop :=
  ∀ c : Dev Cert.ScHistReferenceIdeal.nD,
    (Cert.Pre_ids_in_pool.fn (F := Ideal) (m ((c.tc : Thread Cert.ScHistReferenceIdeal.nD Cert.ScHistReferenceIdeal.τ).loc Cert.ScHistReferenceIdeal.main_arg0))) = (fun _ => 1#1)

def Pre_ScHistReference [hPre_ids_in_pool : Cert.Pre_ids_in_pool.Facts] (m : (ℓ : Loc Cert.ScHistReference.nD Cert.ScHistReference.τ Cert.ScHistReference.sig) → Buf (Elt Bits) ℓ) : Prop :=
  ∀ c : Dev Cert.ScHistReference.nD,
    (Cert.Pre_ids_in_pool.fn (F := Bits) (m ((c.tc : Thread Cert.ScHistReference.nD Cert.ScHistReference.τ).loc Cert.ScHistReference.main_arg0))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ScHist [hScHist : Cert.ScHist.Facts] [hPre_ids_in_pool : Cert.Pre_ids_in_pool.Facts] : Prop :=
  ∀ (m : (ℓ : Loc Cert.ScHist.nD Cert.ScHist.τ Cert.ScHist.sig) → Buf (Elt Bits) ℓ) (g : Dev Cert.ScHist.nD → PrngReg), Pre_ScHist m →
    θ_run (Cert.ScHist.defs (F := Bits)) (Cert.ScHist.threads (F := Bits)) ⟨m, fun _ => 0, g⟩ (fun r => (∀ c : Dev Cert.ScHist.nD,
      r.2.mem ((c.tc : Thread Cert.ScHist.nD Cert.ScHist.τ).loc Cert.ScHist.main_arg0) = m ((c.tc : Thread Cert.ScHist.nD Cert.ScHist.τ).loc Cert.ScHist.main_arg0))
      ∧ r.2.sem = fun _ => 0)

def quiescent_ScHistIdeal [hScHistIdeal : Cert.ScHistIdeal.Facts] [hPre_ids_in_pool : Cert.Pre_ids_in_pool.Facts] : Prop :=
  ∀ (m : (ℓ : Loc Cert.ScHistIdeal.nD Cert.ScHistIdeal.τ Cert.ScHistIdeal.sig) → Buf (Elt Ideal) ℓ) (g : Dev Cert.ScHistIdeal.nD → PrngReg), Pre_ScHistIdeal m →
    θ_run (Cert.ScHistIdeal.defs (F := Ideal)) (Cert.ScHistIdeal.threads (F := Ideal)) ⟨m, fun _ => 0, g⟩ (fun r => (∀ c : Dev Cert.ScHistIdeal.nD,
      r.2.mem ((c.tc : Thread Cert.ScHistIdeal.nD Cert.ScHistIdeal.τ).loc Cert.ScHistIdeal.main_arg0) = m ((c.tc : Thread Cert.ScHistIdeal.nD Cert.ScHistIdeal.τ).loc Cert.ScHistIdeal.main_arg0))
      ∧ r.2.sem = fun _ => 0)

def quiescent_ScHistReferenceIdeal [hScHistReferenceIdeal : Cert.ScHistReferenceIdeal.Facts] : Prop :=
  ∀ (m : (ℓ : Loc Cert.ScHistReferenceIdeal.nD Cert.ScHistReferenceIdeal.τ Cert.ScHistReferenceIdeal.sig) → Buf (Elt Ideal) ℓ) (g : Dev Cert.ScHistReferenceIdeal.nD → PrngReg), Pre_ScHistReferenceIdeal m →
    θ_run (Cert.ScHistReferenceIdeal.defs (F := Ideal)) (onTc (τ := Cert.ScHistReferenceIdeal.τ) (Cert.ScHistReferenceIdeal.main (F := Ideal))) ⟨m, fun _ => 0, g⟩ (fun r => (∀ c : Dev Cert.ScHistReferenceIdeal.nD,
      r.2.mem ((c.tc : Thread Cert.ScHistReferenceIdeal.nD Cert.ScHistReferenceIdeal.τ).loc Cert.ScHistReferenceIdeal.main_arg0) = m ((c.tc : Thread Cert.ScHistReferenceIdeal.nD Cert.ScHistReferenceIdeal.τ).loc Cert.ScHistReferenceIdeal.main_arg0))
      ∧ r.2.sem = fun _ => 0)

def quiescent_ScHistReferenceIdeal_pre_ids_in_pool [hScHistReferenceIdeal : Cert.ScHistReferenceIdeal.Facts] [hPre_ids_in_pool : Cert.Pre_ids_in_pool.Facts] : Prop :=
  ∀ (m : (ℓ : Loc Cert.ScHistReferenceIdeal.nD Cert.ScHistReferenceIdeal.τ Cert.ScHistReferenceIdeal.sig) → Buf (Elt Ideal) ℓ) (g : Dev Cert.ScHistReferenceIdeal.nD → PrngReg), Pre_ScHistReferenceIdeal_ids_in_pool m →
    θ_run (Cert.ScHistReferenceIdeal.defs (F := Ideal)) (onTc (τ := Cert.ScHistReferenceIdeal.τ) (Cert.ScHistReferenceIdeal.main (F := Ideal))) ⟨m, fun _ => 0, g⟩ (fun r => (∀ c : Dev Cert.ScHistReferenceIdeal.nD,
      r.2.mem ((c.tc : Thread Cert.ScHistReferenceIdeal.nD Cert.ScHistReferenceIdeal.τ).loc Cert.ScHistReferenceIdeal.main_arg0) = m ((c.tc : Thread Cert.ScHistReferenceIdeal.nD Cert.ScHistReferenceIdeal.τ).loc Cert.ScHistReferenceIdeal.main_arg0))
      ∧ r.2.sem = fun _ => 0)

def quiescent_ScHistReference [hScHistReference : Cert.ScHistReference.Facts] [hPre_ids_in_pool : Cert.Pre_ids_in_pool.Facts] : Prop :=
  ∀ (m : (ℓ : Loc Cert.ScHistReference.nD Cert.ScHistReference.τ Cert.ScHistReference.sig) → Buf (Elt Bits) ℓ) (g : Dev Cert.ScHistReference.nD → PrngReg), Pre_ScHistReference m →
    θ_run (Cert.ScHistReference.defs (F := Bits)) (onTc (τ := Cert.ScHistReference.τ) (Cert.ScHistReference.main (F := Bits))) ⟨m, fun _ => 0, g⟩ (fun r => (∀ c : Dev Cert.ScHistReference.nD,
      r.2.mem ((c.tc : Thread Cert.ScHistReference.nD Cert.ScHistReference.τ).loc Cert.ScHistReference.main_arg0) = m ((c.tc : Thread Cert.ScHistReference.nD Cert.ScHistReference.τ).loc Cert.ScHistReference.main_arg0))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_ScHist_ScHistIdeal : Prop :=
  True

def algebraic_ScHistIdeal_ScHistReferenceIdeal [hScHistIdeal : Cert.ScHistIdeal.Facts] [hScHistReferenceIdeal : Cert.ScHistReferenceIdeal.Facts] [hPre_ids_in_pool : Cert.Pre_ids_in_pool.Facts] : Prop :=
  ∀ (m : (ℓ : Loc Cert.ScHistIdeal.nD Cert.ScHistIdeal.τ Cert.ScHistIdeal.sig) → Buf (Elt Ideal) ℓ) (g : Dev Cert.ScHistIdeal.nD → PrngReg)
    (m' : (ℓ : Loc Cert.ScHistReferenceIdeal.nD Cert.ScHistReferenceIdeal.τ Cert.ScHistReferenceIdeal.sig) → Buf (Elt Ideal) ℓ) (g' : Dev Cert.ScHistReferenceIdeal.nD → PrngReg), Pre_ScHistIdeal m →
    (∀ c : Dev Cert.ScHistIdeal.nD,
      m' ((c.tc : Thread Cert.ScHistReferenceIdeal.nD Cert.ScHistReferenceIdeal.τ).loc Cert.ScHistReferenceIdeal.main_arg0) = m ((c.tc : Thread Cert.ScHistIdeal.nD Cert.ScHistIdeal.τ).loc Cert.ScHistIdeal.main_arg0)) →
    ∃ (v0 : (c : Dev Cert.ScHistIdeal.nD) → Buf (Elt Ideal) ((c.tc : Thread Cert.ScHistIdeal.nD Cert.ScHistIdeal.τ).loc Cert.ScHistIdeal.main_v0)),
      θ_run (Cert.ScHistIdeal.defs (F := Ideal)) (Cert.ScHistIdeal.threads (F := Ideal)) ⟨m, fun _ => 0, g⟩ (fun r => ∀ c : Dev Cert.ScHistIdeal.nD,
          r.2.mem ((c.tc : Thread Cert.ScHistIdeal.nD Cert.ScHistIdeal.τ).loc Cert.ScHistIdeal.main_v0) = v0 c
          ∧ r.2.mem ((c.tc : Thread Cert.ScHistIdeal.nD Cert.ScHistIdeal.τ).loc Cert.ScHistIdeal.main_arg0) = m ((c.tc : Thread Cert.ScHistIdeal.nD Cert.ScHistIdeal.τ).loc Cert.ScHistIdeal.main_arg0))
      ∧ θ_run (Cert.ScHistReferenceIdeal.defs (F := Ideal)) (onTc (τ := Cert.ScHistReferenceIdeal.τ) (Cert.ScHistReferenceIdeal.main (F := Ideal))) ⟨m', fun _ => 0, g'⟩ (fun r => ∀ c : Dev Cert.ScHistReferenceIdeal.nD,
          r.2.mem ((c.tc : Thread Cert.ScHistReferenceIdeal.nD Cert.ScHistReferenceIdeal.τ).loc Cert.ScHistReferenceIdeal.main_v8) = v0 c
          ∧ r.2.mem ((c.tc : Thread Cert.ScHistReferenceIdeal.nD Cert.ScHistReferenceIdeal.τ).loc Cert.ScHistReferenceIdeal.main_arg0) = m' ((c.tc : Thread Cert.ScHistReferenceIdeal.nD Cert.ScHistReferenceIdeal.τ).loc Cert.ScHistReferenceIdeal.main_arg0))

def bitexact_ScHist_ScHistReference [hScHist : Cert.ScHist.Facts] [hScHistReference : Cert.ScHistReference.Facts] [hPre_ids_in_pool : Cert.Pre_ids_in_pool.Facts] : Prop :=
  ∀ (m : (ℓ : Loc Cert.ScHist.nD Cert.ScHist.τ Cert.ScHist.sig) → Buf (Elt Bits) ℓ) (g : Dev Cert.ScHist.nD → PrngReg)
    (m' : (ℓ : Loc Cert.ScHistReference.nD Cert.ScHistReference.τ Cert.ScHistReference.sig) → Buf (Elt Bits) ℓ) (g' : Dev Cert.ScHistReference.nD → PrngReg), Pre_ScHist m →
    (∀ c : Dev Cert.ScHist.nD,
      m' ((c.tc : Thread Cert.ScHistReference.nD Cert.ScHistReference.τ).loc Cert.ScHistReference.main_arg0) = m ((c.tc : Thread Cert.ScHist.nD Cert.ScHist.τ).loc Cert.ScHist.main_arg0)) →
    ∃ (v0 : (c : Dev Cert.ScHist.nD) → Buf (Elt Bits) ((c.tc : Thread Cert.ScHist.nD Cert.ScHist.τ).loc Cert.ScHist.main_v0)),
      θ_run (Cert.ScHist.defs (F := Bits)) (Cert.ScHist.threads (F := Bits)) ⟨m, fun _ => 0, g⟩ (fun r => ∀ c : Dev Cert.ScHist.nD,
          r.2.mem ((c.tc : Thread Cert.ScHist.nD Cert.ScHist.τ).loc Cert.ScHist.main_v0) = v0 c
          ∧ r.2.mem ((c.tc : Thread Cert.ScHist.nD Cert.ScHist.τ).loc Cert.ScHist.main_arg0) = m ((c.tc : Thread Cert.ScHist.nD Cert.ScHist.τ).loc Cert.ScHist.main_arg0))
      ∧ θ_run (Cert.ScHistReference.defs (F := Bits)) (onTc (τ := Cert.ScHistReference.τ) (Cert.ScHistReference.main (F := Bits))) ⟨m', fun _ => 0, g'⟩ (fun r => ∀ c : Dev Cert.ScHistReference.nD,
          r.2.mem ((c.tc : Thread Cert.ScHistReference.nD Cert.ScHistReference.τ).loc Cert.ScHistReference.main_v8) = v0 c
          ∧ r.2.mem ((c.tc : Thread Cert.ScHistReference.nD Cert.ScHistReference.τ).loc Cert.ScHistReference.main_arg0) = m' ((c.tc : Thread Cert.ScHistReference.nD Cert.ScHistReference.τ).loc Cert.ScHistReference.main_arg0))

def Claim : Prop :=
  ∃ (hKernelIdeal : Cert.KernelIdeal.Facts) (hReferenceIdeal : Cert.ReferenceIdeal.Facts) (hScHist : Cert.ScHist.Facts) (hScHistIdeal : Cert.ScHistIdeal.Facts) (hScHistReferenceIdeal : Cert.ScHistReferenceIdeal.Facts) (hScHistReference : Cert.ScHistReference.Facts) (hPre_ids_in_pool : Cert.Pre_ids_in_pool.Facts),
    quiescent_KernelIdeal (hKernelIdeal := hKernelIdeal)
    ∧ quiescent_ReferenceIdeal (hReferenceIdeal := hReferenceIdeal)
    ∧ quiescent_ScHist (hScHist := hScHist) (hPre_ids_in_pool := hPre_ids_in_pool)
    ∧ quiescent_ScHistIdeal (hScHistIdeal := hScHistIdeal) (hPre_ids_in_pool := hPre_ids_in_pool)
    ∧ quiescent_ScHistReferenceIdeal (hScHistReferenceIdeal := hScHistReferenceIdeal)
    ∧ quiescent_ScHistReferenceIdeal_pre_ids_in_pool (hScHistReferenceIdeal := hScHistReferenceIdeal) (hPre_ids_in_pool := hPre_ids_in_pool)
    ∧ quiescent_ScHistReference (hScHistReference := hScHistReference) (hPre_ids_in_pool := hPre_ids_in_pool)
    ∧ algebraic_KernelIdeal_ReferenceIdeal (hKernelIdeal := hKernelIdeal) (hReferenceIdeal := hReferenceIdeal)
    ∧ preserves_ScHist_ScHistIdeal
    ∧ algebraic_ScHistIdeal_ScHistReferenceIdeal (hScHistIdeal := hScHistIdeal) (hScHistReferenceIdeal := hScHistReferenceIdeal) (hPre_ids_in_pool := hPre_ids_in_pool)
    ∧ bitexact_ScHist_ScHistReference (hScHist := hScHist) (hScHistReference := hScHistReference) (hPre_ids_in_pool := hPre_ids_in_pool)
-- ==== Pre_ids_in_pool.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : IVec S8192 32) : IVec S_ 1 :=
  let main_c : IVec S_ 32 := constantI S_ 32 0#32
  let main_v0 : IVec S8192 32 := broadcastInDim S8192 ![] bcast_S_S8192 main_c
  let main_v1 : IVec S8192 1 := cmpi .sge main_arg0 main_v0
  let main_c_0 : IVec S_ 32 := constantI S_ 32 8192#32
  let main_v2 : IVec S8192 32 := broadcastInDim S8192 ![] bcast_S_S8192 main_c_0
  let main_v3 : IVec S8192 1 := cmpi .slt main_arg0 main_v2
  let main_v4 : IVec S8192 1 := andi main_v1 main_v3
  let main_c_1 : IVec S_ 1 := constantI S_ 1 1#1
  let main_v5 : IVec S_ 1 := (fun x v => Host.reduce IntOp.andi x v reducesTo_S8192_S_d0 h_S_) main_v4 main_c_1
  main_v5
-- ==== KernelIdeal.lean ====
abbrev S1024x128 : Shape := ⟨2, ![1024, 128]⟩
abbrev S8192x128 : Shape := ⟨2, ![8192, 128]⟩
abbrev S8192x4x768 : Shape := ⟨3, ![8192, 4, 768]⟩
abbrev S1024x8 : Shape := ⟨2, ![1024, 8]⟩
abbrev S1x128 : Shape := ⟨2, ![1, 128]⟩
abbrev S256x128 : Shape := ⟨2, ![256, 128]⟩
abbrev S256x8 : Shape := ⟨2, ![256, 8]⟩
abbrev S8192 : Shape := ⟨1, ![8192]⟩
abbrev S8192x1 : Shape := ⟨2, ![8192, 1]⟩
abbrev S256 : Shape := ⟨1, ![256]⟩
abbrev S256x1 : Shape := ⟨2, ![256, 1]⟩
abbrev S256x8192 : Shape := ⟨2, ![256, 8192]⟩
abbrev S128 : Shape := ⟨1, ![128]⟩
abbrev S32x8192 : Shape := ⟨2, ![32, 8192]⟩
abbrev S_ : Shape := ⟨0, ![]⟩
abbrev S16 : Shape := ⟨1, ![16]⟩
abbrev S1x8192 : Shape := ⟨2, ![1, 8192]⟩
abbrev S1x1 : Shape := ⟨2, ![1, 1]⟩
abbrev S1024x32x768 : Shape := ⟨3, ![1024, 32, 768]⟩
abbrev S1x32x768 : Shape := ⟨3, ![1, 32, 768]⟩
abbrev S128x32x768 : Shape := ⟨3, ![128, 32, 768]⟩
abbrev S64x128 : Shape := ⟨2, ![64, 128]⟩
abbrev S1x64x128 : Shape := ⟨3, ![1, 64, 128]⟩
abbrev S1 : Shape := ⟨1, ![1]⟩
abbrev S1x1x1 : Shape := ⟨3, ![1, 1, 1]⟩
abbrev S1x4x768 : Shape := ⟨3, ![1, 4, 768]⟩
abbrev S1x1x128 : Shape := ⟨3, ![1, 1, 128]⟩

abbrev nBuf : Table → Nat
  | .hbm => 10
  | .local .tc .vmem => 13
  | .local .scVector .vmem => 2
  | _ => 0

abbrev bufTy : (tb : Table) → Fin (nBuf tb) → BufTy
  | .hbm, ⟨0, _⟩ => ⟨S1024x128, .f32⟩
  | .hbm, ⟨1, _⟩ => ⟨S8192x128, .f32⟩
  | .hbm, ⟨2, _⟩ => ⟨S8192x4x768, .f32⟩
  | .hbm, ⟨3, _⟩ => ⟨S1024x8, .i32⟩
  | .hbm, ⟨4, _⟩ => ⟨S1x128, .f32⟩
  | .hbm, ⟨5, _⟩ => ⟨S8192, .i32⟩
  | .hbm, ⟨6, _⟩ => ⟨S32x8192, .i32⟩
  | .hbm, ⟨7, _⟩ => ⟨S1x1, .f32⟩
  | .hbm, ⟨8, _⟩ => ⟨S1024x32x768, .f32⟩
  | .hbm, ⟨9, _⟩ => ⟨S_, .f32⟩
  | .local .tc .vmem, ⟨0, _⟩ => ⟨S256x128, .f32⟩
  | .local .tc .vmem, ⟨1, _⟩ => ⟨S256x128, .f32⟩
  | .local .tc .vmem, ⟨2, _⟩ => ⟨S8192x128, .f32⟩
  | .local .tc .vmem, ⟨3, _⟩ => ⟨S256x8, .i32⟩
  | .local .tc .vmem, ⟨4, _⟩ => ⟨S256x8, .i32⟩
  | .local .tc .vmem, ⟨5, _⟩ => ⟨S1x128, .f32⟩
  | .local .tc .vmem, ⟨6, _⟩ => ⟨S8192x128, .f32⟩
  | .local .tc .vmem, ⟨7, _⟩ => ⟨S32x8192, .i32⟩
  | .local .tc .vmem, ⟨8, _⟩ => ⟨S8192x128, .f32⟩
  | .local .tc .vmem, ⟨9, _⟩ => ⟨S1x128, .f32⟩
  | .local .tc .vmem, ⟨10, _⟩ => ⟨S1x1, .f32⟩
  | .local .tc .vmem, ⟨11, _⟩ => ⟨S1x32x768, .f32⟩
  | .local .tc .vmem, ⟨12, _⟩ => ⟨S128x32x768, .f32⟩
  | .local .scVector .vmem, ⟨0, _⟩ => ⟨S256, .i32⟩
  | .local .scVector .vmem, ⟨1, _⟩ => ⟨S8192, .i32⟩
  | _, _ => ⟨S1024x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v1_scv : Ref sig .scVector := ⟨.hbm, 5, rfl⟩
abbrev main_v2_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_scratch0 : Ref sig .tc := ⟨.vmem, 11, rfl⟩
abbrev cc2_scratch1 : Ref sig .tc := ⟨.vmem, 12, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc2_sem0_0 : DmaSem sig := 8
abbrev cc2_sem1_0 : DmaSem sig := 9
abbrev cc2_sem2_0 : DmaSem sig := 10
abbrev cc2_sem3_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
@[reducible] def k1_t1_loop : Scf.Loop 32 :=
  let c0_i32_1 : BitVec 32 := 0#32
  let c512_i32 : BitVec 32 := 512#32
  let v4 : BitVec 32 := Scalar.addi c0_i32_1 c512_i32
  let c1_i32 : BitVec 32 := 1#32
  ⟨c0_i32_1, v4, c1_i32⟩
def k1_off2 (k1_t1 : Fin k1_t1_loop.trips) : Fin 1 → Nat :=
  let c0_i32_1 : BitVec 32 := 0#32
  let c1_i32 : BitVec 32 := 1#32
  let arg6 : BitVec 32 := Scf.iv c0_i32_1 c1_i32 k1_t1
  let c16_i32_9 : BitVec 32 := 16#32
  let v12 : BitVec 32 := Scalar.muli arg6 c16_i32_9
  let v13 : Index := Scalar.indexCast v12
  ![v13.toNat]
@[reducible] def k1_t2_loop : Scf.Loop 32 :=
  let c0_i32_6 : BitVec 32 := 0#32
  let c16_i32 : BitVec 32 := 16#32
  let v11 : BitVec 32 := Scalar.addi c0_i32_6 c16_i32
  let c1_i32_7 : BitVec 32 := 1#32
  ⟨c0_i32_6, v11, c1_i32_7⟩
def k1_off3 (k1_t2 : Fin k1_t2_loop.trips) : Fin 1 → Nat :=
  let c0_i32_6 : BitVec 32 := 0#32
  let c1_i32_7 : BitVec 32 := 1#32
  let arg6 : BitVec 32 := Scf.iv c0_i32_6 c1_i32_7 k1_t2
  let c16_i32_9 : BitVec 32 := 16#32
  let v12 : BitVec 32 := Scalar.muli arg6 c16_i32_9
  let v13 : Index := Scalar.indexCast v12
  ![v13.toNat]

def k1_chk1 (v14 : IVec S16 32) : Prop :=
  (∀ a x, ((![v14] : Fin 1 → IVec S16 32) a x).toNat < S8192.size a) ∧
  (∀ a x, ((![v14] : Fin 1 → IVec S16 32) a x).toNat < S8192.size a)
theorem k1_idx1_inb : ∀ (v14 : IVec S16 32) (k1_hw1 : k1_chk1 v14), ∀ a x, ((![v14] : Fin 1 → IVec S16 32) a x).toNat < S8192.size a := fun v14 k1_hw1 => k1_hw1.1
theorem k1_idx2_inb : ∀ (v14 : IVec S16 32) (k1_hw1 : k1_chk1 v14), ∀ a x, ((![v14] : Fin 1 → IVec S16 32) a x).toNat < S8192.size a := fun v14 k1_hw1 => k1_hw1.2
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9_r1 : BitVec 32 := 0#32
  ![v1.toNat, 0]
abbrev grid2 : Pipeline.Grid := .none

def k2_off1 (v18 : BitVec 32) : Fin 3 → Nat :=
  let c16383_i32_4 : BitVec 32 := 16383#32
  let c16384_i32_3 : BitVec 32 := 16384#32
  let v19 : BitVec 32 := Scalar.remsi v18 c16384_i32_3
  let v20 : BitVec 32 := Scalar.subi c16383_i32_4 v19
  let c0_i32_7 : BitVec 32 := 0#32
  let c0_i32_8 : BitVec 32 := 0#32
  ![v20.toNat, 0, 0]

def k2_off2 (v18 : BitVec 32) : Fin 2 → Nat :=
  let c16383_i32_4 : BitVec 32 := 16383#32
  let c16384_i32_3 : BitVec 32 := 16384#32
  let v19 : BitVec 32 := Scalar.remsi v18 c16384_i32_3
  let v20 : BitVec 32 := Scalar.subi c16383_i32_4 v19
  let v27 : Index := Scalar.indexCast v20
  let c0_9 : Index := 0#32
  ![v27.toNat, 0]
def k2_off3 (v42 : BitVec 32) : Fin 3 → Nat :=
  let c16383_i32_14 : BitVec 32 := 16383#32
  let c16384_i32_13 : BitVec 32 := 16384#32
  let v43 : BitVec 32 := Scalar.remsi v42 c16384_i32_13
  let v44 : BitVec 32 := Scalar.subi c16383_i32_14 v43
  let c0_i32_18 : BitVec 32 := 0#32
  let c0_i32_19 : BitVec 32 := 0#32
  ![v44.toNat, 0, 0]

def k2_off4 (v42 : BitVec 32) : Fin 2 → Nat :=
  let c16383_i32_14 : BitVec 32 := 16383#32
  let c16384_i32_13 : BitVec 32 := 16384#32
  let v43 : BitVec 32 := Scalar.remsi v42 c16384_i32_13
  let v44 : BitVec 32 := Scalar.subi c16383_i32_14 v43
  let v51 : Index := Scalar.indexCast v44
  let c0_20 : Index := 0#32
  ![v51.toNat, 0]
def k2_off5 (v66 : BitVec 32) : Fin 3 → Nat :=
  let c16383_i32_25 : BitVec 32 := 16383#32
  let c16384_i32_24 : BitVec 32 := 16384#32
  let v67 : BitVec 32 := Scalar.remsi v66 c16384_i32_24
  let v68 : BitVec 32 := Scalar.subi c16383_i32_25 v67
  let c0_i32_29 : BitVec 32 := 0#32
  let c0_i32_30 : BitVec 32 := 0#32
  ![v68.toNat, 0, 0]

def k2_off6 (v66 : BitVec 32) : Fin 2 → Nat :=
  let c16383_i32_25 : BitVec 32 := 16383#32
  let c16384_i32_24 : BitVec 32 := 16384#32
  let v67 : BitVec 32 := Scalar.remsi v66 c16384_i32_24
  let v68 : BitVec 32 := Scalar.subi c16383_i32_25 v67
  let v75 : Index := Scalar.indexCast v68
  let c0_31 : Index := 0#32
  ![v75.toNat, 0]
def k2_off7 (v90 : BitVec 32) : Fin 3 → Nat :=
  let c16383_i32_36 : BitVec 32 := 16383#32
  let c16384_i32_35 : BitVec 32 := 16384#32
  let v91 : BitVec 32 := Scalar.remsi v90 c16384_i32_35
  let v92 : BitVec 32 := Scalar.subi c16383_i32_36 v91
  let c0_i32_40 : BitVec 32 := 0#32
  let c0_i32_41 : BitVec 32 := 0#32
  ![v92.toNat, 0, 0]

def k2_off8 (v90 : BitVec 32) : Fin 2 → Nat :=
  let c16383_i32_36 : BitVec 32 := 16383#32
  let c16384_i32_35 : BitVec 32 := 16384#32
  let v91 : BitVec 32 := Scalar.remsi v90 c16384_i32_35
  let v92 : BitVec 32 := Scalar.subi c16383_i32_36 v91
  let v99 : Index := Scalar.indexCast v92
  let c0_42 : Index := 0#32
  ![v99.toNat, 0]
def k2_off9 (v114 : BitVec 32) : Fin 3 → Nat :=
  let c16383_i32_47 : BitVec 32 := 16383#32
  let c16384_i32_46 : BitVec 32 := 16384#32
  let v115 : BitVec 32 := Scalar.remsi v114 c16384_i32_46
  let v116 : BitVec 32 := Scalar.subi c16383_i32_47 v115
  let c0_i32_51 : BitVec 32 := 0#32
  let c0_i32_52 : BitVec 32 := 0#32
  ![v116.toNat, 0, 0]

def k2_off10 (v114 : BitVec 32) : Fin 2 → Nat :=
  let c16383_i32_47 : BitVec 32 := 16383#32
  let c16384_i32_46 : BitVec 32 := 16384#32
  let v115 : BitVec 32 := Scalar.remsi v114 c16384_i32_46
  let v116 : BitVec 32 := Scalar.subi c16383_i32_47 v115
  let v123 : Index := Scalar.indexCast v116
  let c0_53 : Index := 0#32
  ![v123.toNat, 0]
def k2_off11 (v138 : BitVec 32) : Fin 3 → Nat :=
  let c16383_i32_58 : BitVec 32 := 16383#32
  let c16384_i32_57 : BitVec 32 := 16384#32
  let v139 : BitVec 32 := Scalar.remsi v138 c16384_i32_57
  let v140 : BitVec 32 := Scalar.subi c16383_i32_58 v139
  let c0_i32_62 : BitVec 32 := 0#32
  let c0_i32_63 : BitVec 32 := 0#32
  ![v140.toNat, 0, 0]

def k2_off12 (v138 : BitVec 32) : Fin 2 → Nat :=
  let c16383_i32_58 : BitVec 32 := 16383#32
  let c16384_i32_57 : BitVec 32 := 16384#32
  let v139 : BitVec 32 := Scalar.remsi v138 c16384_i32_57
  let v140 : BitVec 32 := Scalar.subi c16383_i32_58 v139
  let v147 : Index := Scalar.indexCast v140
  let c0_64 : Index := 0#32
  ![v147.toNat, 0]
def k2_off13 (v162 : BitVec 32) : Fin 3 → Nat :=
  let c16383_i32_69 : BitVec 32 := 16383#32
  let c16384_i32_68 : BitVec 32 := 16384#32
  let v163 : BitVec 32 := Scalar.remsi v162 c16384_i32_68
  let v164 : BitVec 32 := Scalar.subi c16383_i32_69 v163
  let c0_i32_73 : BitVec 32 := 0#32
  let c0_i32_74 : BitVec 32 := 0#32
  ![v164.toNat, 0, 0]

def k2_off14 (v162 : BitVec 32) : Fin 2 → Nat :=
  let c16383_i32_69 : BitVec 32 := 16383#32
  let c16384_i32_68 : BitVec 32 := 16384#32
  let v163 : BitVec 32 := Scalar.remsi v162 c16384_i32_68
  let v164 : BitVec 32 := Scalar.subi c16383_i32_69 v163
  let v171 : Index := Scalar.indexCast v164
  let c0_75 : Index := 0#32
  ![v171.toNat, 0]
def k2_off15 (v186 : BitVec 32) : Fin 3 → Nat :=
  let c16383_i32_80 : BitVec 32 := 16383#32
  let c16384_i32_79 : BitVec 32 := 16384#32
  let v187 : BitVec 32 := Scalar.remsi v186 c16384_i32_79
  let v188 : BitVec 32 := Scalar.subi c16383_i32_80 v187
  let c0_i32_83 : BitVec 32 := 0#32
  let c0_i32_84 : BitVec 32 := 0#32
  ![v188.toNat, 0, 0]

def k2_off16 (v186 : BitVec 32) : Fin 2 → Nat :=
  let c16383_i32_80 : BitVec 32 := 16383#32
  let c16384_i32_79 : BitVec 32 := 16384#32
  let v187 : BitVec 32 := Scalar.remsi v186 c16384_i32_79
  let v188 : BitVec 32 := Scalar.subi c16383_i32_80 v187
  let v191 : Index := Scalar.indexCast v188
  let c0_85 : Index := 0#32
  ![v191.toNat, 0]

def k2_chk8 (v186 : BitVec 32) : Prop :=
  (∀ a, (k2_off15 v186) a + S1x4x768.size a ≤ S8192x4x768.size a) ∧
  (∀ a, (k2_off16 v186) a + S1x128.size a ≤ S8192x128.size a)
theorem k2_off15_inb : ∀ (v186 : BitVec 32) (k2_hw8 : k2_chk8 v186), ∀ a, (k2_off15 v186) a + S1x4x768.size a ≤ S8192x4x768.size a := fun v186 k2_hw8 => k2_hw8.1
theorem k2_off16_inb : ∀ (v186 : BitVec 32) (k2_hw8 : k2_chk8 v186), ∀ a, (k2_off16 v186) a + S1x128.size a ≤ S8192x128.size a := fun v186 k2_hw8 => k2_hw8.2

def k2_off17 (v18 : BitVec 32) : Fin 3 → Nat :=
  let c16383_i32_4 : BitVec 32 := 16383#32
  let c16384_i32_3 : BitVec 32 := 16384#32
  let v19 : BitVec 32 := Scalar.remsi v18 c16384_i32_3
  let v20 : BitVec 32 := Scalar.subi c16383_i32_4 v19
  let c0_i32_97 : BitVec 32 := 0#32
  let c0_i32_98 : BitVec 32 := 0#32
  ![v20.toNat, 0, 0]

def k2_chk1 (v18 : BitVec 32) : Prop :=
  (∀ a, (k2_off1 v18) a + S1x4x768.size a ≤ S8192x4x768.size a) ∧
  (∀ a, (k2_off2 v18) a + S1x128.size a ≤ S8192x128.size a) ∧
  (∀ a, (k2_off17 v18) a + S1x4x768.size a ≤ S8192x4x768.size a)
theorem k2_off1_inb : ∀ (v18 : BitVec 32) (k2_hw1 : k2_chk1 v18), ∀ a, (k2_off1 v18) a + S1x4x768.size a ≤ S8192x4x768.size a := fun v18 k2_hw1 => k2_hw1.1
theorem k2_off2_inb : ∀ (v18 : BitVec 32) (k2_hw1 : k2_chk1 v18), ∀ a, (k2_off2 v18) a + S1x128.size a ≤ S8192x128.size a := fun v18 k2_hw1 => k2_hw1.2.1
theorem k2_off17_inb : ∀ (v18 : BitVec 32) (k2_hw1 : k2_chk1 v18), ∀ a, (k2_off17 v18) a + S1x4x768.size a ≤ S8192x4x768.size a := fun v18 k2_hw1 => k2_hw1.2.2

def k2_off18 (v42 : BitVec 32) : Fin 3 → Nat :=
  let c16383_i32_14 : BitVec 32 := 16383#32
  let c16384_i32_13 : BitVec 32 := 16384#32
  let v43 : BitVec 32 := Scalar.remsi v42 c16384_i32_13
  let v44 : BitVec 32 := Scalar.subi c16383_i32_14 v43
  let c0_i32_102 : BitVec 32 := 0#32
  let c0_i32_103 : BitVec 32 := 0#32
  ![v44.toNat, 0, 0]

def k2_chk2 (v42 : BitVec 32) : Prop :=
  (∀ a, (k2_off3 v42) a + S1x4x768.size a ≤ S8192x4x768.size a) ∧
  (∀ a, (k2_off4 v42) a + S1x128.size a ≤ S8192x128.size a) ∧
  (∀ a, (k2_off18 v42) a + S1x4x768.size a ≤ S8192x4x768.size a)
theorem k2_off3_inb : ∀ (v42 : BitVec 32) (k2_hw2 : k2_chk2 v42), ∀ a, (k2_off3 v42) a + S1x4x768.size a ≤ S8192x4x768.size a := fun v42 k2_hw2 => k2_hw2.1
theorem k2_off4_inb : ∀ (v42 : BitVec 32) (k2_hw2 : k2_chk2 v42), ∀ a, (k2_off4 v42) a + S1x128.size a ≤ S8192x128.size a := fun v42 k2_hw2 => k2_hw2.2.1
theorem k2_off18_inb : ∀ (v42 : BitVec 32) (k2_hw2 : k2_chk2 v42), ∀ a, (k2_off18 v42) a + S1x4x768.size a ≤ S8192x4x768.size a := fun v42 k2_hw2 => k2_hw2.2.2

def k2_off19 (v66 : BitVec 32) : Fin 3 → Nat :=
  let c16383_i32_25 : BitVec 32 := 16383#32
  let c16384_i32_24 : BitVec 32 := 16384#32
  let v67 : BitVec 32 := Scalar.remsi v66 c16384_i32_24
  let v68 : BitVec 32 := Scalar.subi c16383_i32_25 v67
  let c0_i32_107 : BitVec 32 := 0#32
  let c0_i32_108 : BitVec 32 := 0#32
  ![v68.toNat, 0, 0]

def k2_chk3 (v66 : BitVec 32) : Prop :=
  (∀ a, (k2_off5 v66) a + S1x4x768.size a ≤ S8192x4x768.size a) ∧
  (∀ a, (k2_off6 v66) a + S1x128.size a ≤ S8192x128.size a) ∧
  (∀ a, (k2_off19 v66) a + S1x4x768.size a ≤ S8192x4x768.size a)
theorem k2_off5_inb : ∀ (v66 : BitVec 32) (k2_hw3 : k2_chk3 v66), ∀ a, (k2_off5 v66) a + S1x4x768.size a ≤ S8192x4x768.size a := fun v66 k2_hw3 => k2_hw3.1
theorem k2_off6_inb : ∀ (v66 : BitVec 32) (k2_hw3 : k2_chk3 v66), ∀ a, (k2_off6 v66) a + S1x128.size a ≤ S8192x128.size a := fun v66 k2_hw3 => k2_hw3.2.1
theorem k2_off19_inb : ∀ (v66 : BitVec 32) (k2_hw3 : k2_chk3 v66), ∀ a, (k2_off19 v66) a + S1x4x768.size a ≤ S8192x4x768.size a := fun v66 k2_hw3 => k2_hw3.2.2

def k2_off20 (v90 : BitVec 32) : Fin 3 → Nat :=
  let c16383_i32_36 : BitVec 32 := 16383#32
  let c16384_i32_35 : BitVec 32 := 16384#32
  let v91 : BitVec 32 := Scalar.remsi v90 c16384_i32_35
  let v92 : BitVec 32 := Scalar.subi c16383_i32_36 v91
  let c0_i32_112 : BitVec 32 := 0#32
  let c0_i32_113 : BitVec 32 := 0#32
  ![v92.toNat, 0, 0]

def k2_chk4 (v90 : BitVec 32) : Prop :=
  (∀ a, (k2_off7 v90) a + S1x4x768.size a ≤ S8192x4x768.size a) ∧
  (∀ a, (k2_off8 v90) a + S1x128.size a ≤ S8192x128.size a) ∧
  (∀ a, (k2_off20 v90) a + S1x4x768.size a ≤ S8192x4x768.size a)
theorem k2_off7_inb : ∀ (v90 : BitVec 32) (k2_hw4 : k2_chk4 v90), ∀ a, (k2_off7 v90) a + S1x4x768.size a ≤ S8192x4x768.size a := fun v90 k2_hw4 => k2_hw4.1
theorem k2_off8_inb : ∀ (v90 : BitVec 32) (k2_hw4 : k2_chk4 v90), ∀ a, (k2_off8 v90) a + S1x128.size a ≤ S8192x128.size a := fun v90 k2_hw4 => k2_hw4.2.1
theorem k2_off20_inb : ∀ (v90 : BitVec 32) (k2_hw4 : k2_chk4 v90), ∀ a, (k2_off20 v90) a + S1x4x768.size a ≤ S8192x4x768.size a := fun v90 k2_hw4 => k2_hw4.2.2

def k2_off21 (v114 : BitVec 32) : Fin 3 → Nat :=
  let c16383_i32_47 : BitVec 32 := 16383#32
  let c16384_i32_46 : BitVec 32 := 16384#32
  let v115 : BitVec 32 := Scalar.remsi v114 c16384_i32_46
  let v116 : BitVec 32 := Scalar.subi c16383_i32_47 v115
  let c0_i32_117 : BitVec 32 := 0#32
  let c0_i32_118 : BitVec 32 := 0#32
  ![v116.toNat, 0, 0]

def k2_chk5 (v114 : BitVec 32) : Prop :=
  (∀ a, (k2_off9 v114) a + S1x4x768.size a ≤ S8192x4x768.size a) ∧
  (∀ a, (k2_off10 v114) a + S1x128.size a ≤ S8192x128.size a) ∧
  (∀ a, (k2_off21 v114) a + S1x4x768.size a ≤ S8192x4x768.size a)
theorem k2_off9_inb : ∀ (v114 : BitVec 32) (k2_hw5 : k2_chk5 v114), ∀ a, (k2_off9 v114) a + S1x4x768.size a ≤ S8192x4x768.size a := fun v114 k2_hw5 => k2_hw5.1
theorem k2_off10_inb : ∀ (v114 : BitVec 32) (k2_hw5 : k2_chk5 v114), ∀ a, (k2_off10 v114) a + S1x128.size a ≤ S8192x128.size a := fun v114 k2_hw5 => k2_hw5.2.1
theorem k2_off21_inb : ∀ (v114 : BitVec 32) (k2_hw5 : k2_chk5 v114), ∀ a, (k2_off21 v114) a + S1x4x768.size a ≤ S8192x4x768.size a := fun v114 k2_hw5 => k2_hw5.2.2

def k2_off22 (v138 : BitVec 32) : Fin 3 → Nat :=
  let c16383_i32_58 : BitVec 32 := 16383#32
  let c16384_i32_57 : BitVec 32 := 16384#32
  let v139 : BitVec 32 := Scalar.remsi v138 c16384_i32_57
  let v140 : BitVec 32 := Scalar.subi c16383_i32_58 v139
  let c0_i32_122 : BitVec 32 := 0#32
  let c0_i32_123 : BitVec 32 := 0#32
  ![v140.toNat, 0, 0]

def k2_chk6 (v138 : BitVec 32) : Prop :=
  (∀ a, (k2_off11 v138) a + S1x4x768.size a ≤ S8192x4x768.size a) ∧
  (∀ a, (k2_off12 v138) a + S1x128.size a ≤ S8192x128.size a) ∧
  (∀ a, (k2_off22 v138) a + S1x4x768.size a ≤ S8192x4x768.size a)
theorem k2_off11_inb : ∀ (v138 : BitVec 32) (k2_hw6 : k2_chk6 v138), ∀ a, (k2_off11 v138) a + S1x4x768.size a ≤ S8192x4x768.size a := fun v138 k2_hw6 => k2_hw6.1
theorem k2_off12_inb : ∀ (v138 : BitVec 32) (k2_hw6 : k2_chk6 v138), ∀ a, (k2_off12 v138) a + S1x128.size a ≤ S8192x128.size a := fun v138 k2_hw6 => k2_hw6.2.1
theorem k2_off22_inb : ∀ (v138 : BitVec 32) (k2_hw6 : k2_chk6 v138), ∀ a, (k2_off22 v138) a + S1x4x768.size a ≤ S8192x4x768.size a := fun v138 k2_hw6 => k2_hw6.2.2

def k2_off23 (v162 : BitVec 32) : Fin 3 → Nat :=
  let c16383_i32_69 : BitVec 32 := 16383#32
  let c16384_i32_68 : BitVec 32 := 16384#32
  let v163 : BitVec 32 := Scalar.remsi v162 c16384_i32_68
  let v164 : BitVec 32 := Scalar.subi c16383_i32_69 v163
  let c0_i32_127 : BitVec 32 := 0#32
  let c0_i32_128 : BitVec 32 := 0#32
  ![v164.toNat, 0, 0]

def k2_chk7 (v162 : BitVec 32) : Prop :=
  (∀ a, (k2_off13 v162) a + S1x4x768.size a ≤ S8192x4x768.size a) ∧
  (∀ a, (k2_off14 v162) a + S1x128.size a ≤ S8192x128.size a) ∧
  (∀ a, (k2_off23 v162) a + S1x4x768.size a ≤ S8192x4x768.size a)
theorem k2_off13_inb : ∀ (v162 : BitVec 32) (k2_hw7 : k2_chk7 v162), ∀ a, (k2_off13 v162) a + S1x4x768.size a ≤ S8192x4x768.size a := fun v162 k2_hw7 => k2_hw7.1
theorem k2_off14_inb : ∀ (v162 : BitVec 32) (k2_hw7 : k2_chk7 v162), ∀ a, (k2_off14 v162) a + S1x128.size a ≤ S8192x128.size a := fun v162 k2_hw7 => k2_hw7.2.1
theorem k2_off23_inb : ∀ (v162 : BitVec 32) (k2_hw7 : k2_chk7 v162), ∀ a, (k2_off23 v162) a + S1x4x768.size a ≤ S8192x4x768.size a := fun v162 k2_hw7 => k2_hw7.2.2

abbrev stage2_0 : Fin 1 → Memref sig .tc .vmem S32x8192 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8192x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x128 : Shape := ⟨2, ![1024, 128]⟩
abbrev S8192x128 : Shape := ⟨2, ![8192, 128]⟩
abbrev S8192x4x768 : Shape := ⟨3, ![8192, 4, 768]⟩
abbrev S_ : Shape := ⟨0, ![]⟩
abbrev S1024 : Shape := ⟨1, ![1024]⟩
abbrev S1024x1 : Shape := ⟨2, ![1024, 1]⟩
abbrev S8192 : Shape := ⟨1, ![8192]⟩
abbrev S8192x1 : Shape := ⟨2, ![8192, 1]⟩
abbrev S128x8192 : Shape := ⟨2, ![128, 8192]⟩
abbrev S1024x8192 : Shape := ⟨2, ![1024, 8192]⟩
abbrev S1024x8 : Shape := ⟨2, ![1024, 8]⟩
abbrev S1x8192 : Shape := ⟨2, ![1, 8192]⟩
abbrev S8191 : Shape := ⟨1, ![8191]⟩
abbrev S1 : Shape := ⟨1, ![1]⟩
abbrev S8193 : Shape := ⟨1, ![8193]⟩
abbrev S8 : Shape := ⟨1, ![8]⟩
abbrev S8x1 : Shape := ⟨2, ![8, 1]⟩
abbrev S1x8 : Shape := ⟨2, ![1, 8]⟩
abbrev S1024x8x1 : Shape := ⟨3, ![1024, 8, 1]⟩
abbrev S1x1x1 : Shape := ⟨3, ![1, 1, 1]⟩
abbrev S1024x8x4x768 : Shape := ⟨4, ![1024, 8, 4, 768]⟩
abbrev S1024x32x768 : Shape := ⟨3, ![1024, 32, 768]⟩
abbrev S1024x8x128 : Shape := ⟨3, ![1024, 8, 128]⟩
abbrev S1024x1x128 : Shape := ⟨3, ![1024, 1, 128]⟩

abbrev nBuf : Space → Nat
  | .hbm => 288
  | .vmem => 0
  | .smem => 0
  | _ => 0

abbrev hbmTy0_0 (i : Nat) : BufTy := match i % 128 with
  | 0 => ⟨S1024x128, .f32⟩
  | 1 => ⟨S8192x128, .f32⟩
  | 2 => ⟨S8192x4x768, .f32⟩
  | 3 => ⟨S1024x128, .f32⟩
  | 4 => ⟨S_, .f32⟩
  | 5 => ⟨S1024, .f32⟩
  | 6 => ⟨S1024x1, .f32⟩
  | 7 => ⟨S1024x1, .f32⟩
  | 8 => ⟨S_, .f32⟩
  | 9 => ⟨S1024x1, .f32⟩
  | 10 => ⟨S1024x1, .f32⟩
  | 11 => ⟨S1024x128, .f32⟩
  | 12 => ⟨S1024x128, .f32⟩
  | 13 => ⟨S8192x128, .f32⟩
  | 14 => ⟨S_, .f32⟩
  | 15 => ⟨S8192, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x128, .f32⟩
  | 22 => ⟨S8192x128, .f32⟩
  | 23 => ⟨S128x8192, .f32⟩
  | 24 => ⟨S1024x8192, .f32⟩
  | 25 => ⟨S1024x8, .f32⟩
  | 26 => ⟨S1024x8, .i32⟩
  | 27 => ⟨S8192, .i32⟩
  | 28 => ⟨S8192x1, .i32⟩
  | 29 => ⟨S1x8192, .i32⟩
  | 30 => ⟨S1x8192, .i32⟩
  | 31 => ⟨S1x8192, .i32⟩
  | 32 => ⟨S8192, .i32⟩
  | 33 => ⟨S8192, .i32⟩
  | 34 => ⟨S8192, .i32⟩
  | 35 => ⟨S8192, .i32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S8192x1, .i32⟩
  | 44 => ⟨S8192, .i32⟩
  | 45 => ⟨S_, .i1⟩
  | 46 => ⟨S8192, .i1⟩
  | 47 => ⟨S8191, .i32⟩
  | 48 => ⟨S8191, .i32⟩
  | 49 => ⟨S8191, .i1⟩
  | 50 => ⟨S_, .i1⟩
  | 51 => ⟨S8191, .i1⟩
  | 52 => ⟨S_, .i32⟩
  | 53 => ⟨S1, .i32⟩
  | 54 => ⟨S8192, .i1⟩
  | 55 => ⟨S8192, .i32⟩
  | 56 => ⟨S_, .i32⟩
  | 57 => ⟨S_, .i32⟩
  | 58 => ⟨S8192, .i32⟩
  | 59 => ⟨S_, .i32⟩
  | 60 => ⟨S8192, .i32⟩
  | 61 => ⟨S_, .i32⟩
  | 62 => ⟨S8192, .i32⟩
  | 63 => ⟨S8192, .i1⟩
  | 64 => ⟨S_, .i32⟩
  | 65 => ⟨S8192, .i32⟩
  | 66 => ⟨S8192, .i32⟩
  | 67 => ⟨S8192, .i32⟩
  | 68 => ⟨S8192x1, .i32⟩
  | 69 => ⟨S_, .i32⟩
  | 70 => ⟨S8192, .i32⟩
  | 71 => ⟨S8192, .i32⟩
  | 72 => ⟨S_, .i32⟩
  | 73 => ⟨S_, .i32⟩
  | 74 => ⟨S8192, .i32⟩
  | 75 => ⟨S_, .i32⟩
  | 76 => ⟨S_, .i32⟩
  | 77 => ⟨S8192, .i32⟩
  | 78 => ⟨S8192, .i32⟩
  | 79 => ⟨S8192, .i32⟩
  | 80 => ⟨S_, .i32⟩
  | 81 => ⟨S8192, .i32⟩
  | 82 => ⟨S8192, .i1⟩
  | 83 => ⟨S8192, .i32⟩
  | 84 => ⟨S8192, .i32⟩
  | 85 => ⟨S_, .i32⟩
  | 86 => ⟨S8192, .i32⟩
  | 87 => ⟨S8192, .i1⟩
  | 88 => ⟨S8192, .i1⟩
  | 89 => ⟨S_, .i32⟩
  | 90 => ⟨S8192, .i32⟩
  | 91 => ⟨S8192, .i32⟩
  | 92 => ⟨S8192, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S8192, .i32⟩
  | 100 => ⟨S8192, .i32⟩
  | 101 => ⟨S_, .i32⟩
  | 102 => ⟨S8192, .i32⟩
  | 103 => ⟨S8192, .i1⟩
  | 104 => ⟨S_, .i32⟩
  | 105 => ⟨S8192, .i32⟩
  | 106 => ⟨S8192, .i1⟩
  | 107 => ⟨S_, .i32⟩
  | 108 => ⟨S_, .i1⟩
  | 109 => ⟨S8192, .i1⟩
  | 110 => ⟨S8192, .i1⟩
  | 111 => ⟨S8192, .i1⟩
  | 112 => ⟨S8192, .i32⟩
  | 113 => ⟨S8192, .i32⟩
  | 114 => ⟨S8192, .i32⟩
  | 115 => ⟨S8192, .i32⟩
  | 116 => ⟨S_, .i32⟩
  | 117 => ⟨S_, .i32⟩
  | 118 => ⟨S1, .i32⟩
  | 119 => ⟨S8192, .i32⟩
  | 120 => ⟨S8192, .i32⟩
  | 121 => ⟨S8192, .i1⟩
  | 122 => ⟨S_, .i32⟩
  | 123 => ⟨S_, .i32⟩
  | 124 => ⟨S8192, .i32⟩
  | 125 => ⟨S8192, .i32⟩
  | 126 => ⟨S_, .i32⟩
  | 127 => ⟨S8192, .i32⟩
  | _ => ⟨S1024x128, .f32⟩

abbrev hbmTy0_1 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S8192x1, .i32⟩
  | 6 => ⟨S8192, .i32⟩
  | 7 => ⟨S8192, .i32⟩
  | 8 => ⟨S_, .i32⟩
  | 9 => ⟨S_, .i32⟩
  | 10 => ⟨S8192, .i32⟩
  | 11 => ⟨S_, .i32⟩
  | 12 => ⟨S8193, .i32⟩
  | 13 => ⟨S_, .i32⟩
  | 14 => ⟨S8192, .i32⟩
  | 15 => ⟨S8192, .i1⟩
  | 16 => ⟨S_, .i32⟩
  | 17 => ⟨S8192, .i32⟩
  | 18 => ⟨S8192, .i32⟩
  | 19 => ⟨S8192, .i32⟩
  | 20 => ⟨S8192x1, .i32⟩
  | 21 => ⟨S_, .i32⟩
  | 22 => ⟨S8192, .i32⟩
  | 23 => ⟨S8193, .i32⟩
  | 24 => ⟨S_, .i32⟩
  | 25 => ⟨S_, .i32⟩
  | 26 => ⟨S8193, .i32⟩
  | 27 => ⟨S_, .i32⟩
  | 28 => ⟨S_, .i32⟩
  | 29 => ⟨S8193, .i32⟩
  | 30 => ⟨S8193, .i32⟩
  | 31 => ⟨S8193, .i32⟩
  | 32 => ⟨S_, .i32⟩
  | 33 => ⟨S8193, .i32⟩
  | 34 => ⟨S8193, .i1⟩
  | 35 => ⟨S8193, .i32⟩
  | 36 => ⟨S8193, .i32⟩
  | 37 => ⟨S_, .i32⟩
  | 38 => ⟨S8193, .i32⟩
  | 39 => ⟨S8193, .i1⟩
  | 40 => ⟨S8193, .i1⟩
  | 41 => ⟨S_, .i32⟩
  | 42 => ⟨S8193, .i32⟩
  | 43 => ⟨S8193, .i32⟩
  | 44 => ⟨S8193, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S8193, .i32⟩
  | 52 => ⟨S8193, .i32⟩
  | 53 => ⟨S_, .i32⟩
  | 54 => ⟨S8193, .i32⟩
  | 55 => ⟨S8193, .i1⟩
  | 56 => ⟨S_, .i32⟩
  | 57 => ⟨S8193, .i32⟩
  | 58 => ⟨S8193, .i1⟩
  | 59 => ⟨S_, .i32⟩
  | 60 => ⟨S_, .i1⟩
  | 61 => ⟨S8193, .i1⟩
  | 62 => ⟨S8193, .i1⟩
  | 63 => ⟨S8193, .i1⟩
  | 64 => ⟨S8193, .i32⟩
  | 65 => ⟨S8193, .i32⟩
  | 66 => ⟨S8193, .i32⟩
  | 67 => ⟨S8192, .i32⟩
  | 68 => ⟨S_, .i32⟩
  | 69 => ⟨S_, .i32⟩
  | 70 => ⟨S1, .i32⟩
  | 71 => ⟨S8193, .i32⟩
  | 72 => ⟨S8193, .i32⟩
  | 73 => ⟨S8193, .i1⟩
  | 74 => ⟨S_, .i32⟩
  | 75 => ⟨S_, .i32⟩
  | 76 => ⟨S8193, .i32⟩
  | 77 => ⟨S8193, .i32⟩
  | 78 => ⟨S8192, .i32⟩
  | 79 => ⟨S8192, .i32⟩
  | 80 => ⟨S_, .i32⟩
  | 81 => ⟨S_, .i32⟩
  | 82 => ⟨S8192, .i32⟩
  | 83 => ⟨S8192, .i1⟩
  | 84 => ⟨S_, .i32⟩
  | 85 => ⟨S8192, .i32⟩
  | 86 => ⟨S8192, .i32⟩
  | 87 => ⟨S_, .i32⟩
  | 88 => ⟨S1, .i32⟩
  | 89 => ⟨S8193, .i32⟩
  | 90 => ⟨S8192, .i32⟩
  | 91 => ⟨S8192, .i32⟩
  | 92 => ⟨S8192, .i32⟩
  | 93 => ⟨S8, .i32⟩
  | 94 => ⟨S8, .i32⟩
  | 95 => ⟨S_, .i32⟩
  | 96 => ⟨S8, .i32⟩
  | 97 => ⟨S8, .i1⟩
  | 98 => ⟨S_, .i32⟩
  | 99 => ⟨S8, .i32⟩
  | 100 => ⟨S8, .i32⟩
  | 101 => ⟨S8, .i32⟩
  | 102 => ⟨S8x1, .i32⟩
  | 103 => ⟨S8, .i32⟩
  | 104 => ⟨S1x8, .i32⟩
  | 105 => ⟨S1024x8, .i32⟩
  | 106 => ⟨S_, .i32⟩
  | 107 => ⟨S1024x8, .i32⟩
  | 108 => ⟨S1024x8, .i1⟩
  | 109 => ⟨S_, .i32⟩
  | 110 => ⟨S1024x8, .i32⟩
  | 111 => ⟨S1024x8, .i32⟩
  | 112 => ⟨S1024x8, .i32⟩
  | 113 => ⟨S1024x8x1, .i32⟩
  | 114 => ⟨S1, .i32⟩
  | 115 => ⟨S_, .i32⟩
  | 116 => ⟨S1024x8x1, .i32⟩
  | 117 => ⟨S1024x8x1, .i1⟩
  | 118 => ⟨S1x1x1, .i32⟩
  | 119 => ⟨S1024x8x1, .i32⟩
  | 120 => ⟨S1024x8x1, .i1⟩
  | 121 => ⟨S1024x8x1, .i1⟩
  | 122 => ⟨S_, .i1⟩
  | 123 => ⟨S1024x8, .i1⟩
  | 124 => ⟨S1024x8x4x768, .f32⟩
  | 125 => ⟨S1024x8x4x768, .i1⟩
  | 126 => ⟨S_, .f32⟩
  | 127 => ⟨S1024x8x4x768, .f32⟩
  | _ => ⟨S1024x128, .f32⟩

abbrev hbmTy0_2 (i : Nat) : BufTy := match i % 128 with
  | 0 => ⟨S1024x8x4x768, .f32⟩
  | 1 => ⟨S1024x32x768, .f32⟩
  | 2 => ⟨S_, .i32⟩
  | 3 => ⟨S1024x8, .i32⟩
  | 4 => ⟨S1024x8, .i1⟩
  | 5 => ⟨S_, .i32⟩
  | 6 => ⟨S1024x8, .i32⟩
  | 7 => ⟨S1024x8, .i32⟩
  | 8 => ⟨S1024x8, .i32⟩
  | 9 => ⟨S1024x8x1, .i32⟩
  | 10 => ⟨S1, .i32⟩
  | 11 => ⟨S_, .i32⟩
  | 12 => ⟨S1024x8x1, .i32⟩
  | 13 => ⟨S1024x8x1, .i1⟩
  | 14 => ⟨S1x1x1, .i32⟩
  | 15 => ⟨S1024x8x1, .i32⟩
  | 16 => ⟨S1024x8x1, .i1⟩
  | 17 => ⟨S1024x8x1, .i1⟩
  | 18 => ⟨S_, .i1⟩
  | 19 => ⟨S1024x8, .i1⟩
  | 20 => ⟨S1024x8x128, .f32⟩
  | 21 => ⟨S1024x8x128, .i1⟩
  | 22 => ⟨S_, .f32⟩
  | 23 => ⟨S1024x8x128, .f32⟩
  | 24 => ⟨S1024x8x128, .f32⟩
  | 25 => ⟨S1024x1x128, .f32⟩
  | 26 => ⟨S1024x8x128, .f32⟩
  | 27 => ⟨S1024x8x128, .f32⟩
  | 28 => ⟨S_, .f32⟩
  | 29 => ⟨S_, .f32⟩
  | 30 => ⟨S_, .f32⟩
  | 31 => ⟨S_, .f32⟩
  | _ => ⟨S1024x128, .f32⟩

abbrev hbmTy (i : Nat) : BufTy := match i / 128 with
  | 0 => hbmTy0_0 i
  | 1 => hbmTy0_1 i
  | 2 => hbmTy0_2 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_values : Ref sig .tc := ⟨.hbm, 25, rfl⟩
abbrev main_indices : Ref sig .tc := ⟨.hbm, 26, rfl⟩
abbrev main_v12 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_call0_v0 : Ref sig .tc := ⟨.hbm, 31, rfl⟩
abbrev main_call2_call0_v1 : Ref sig .tc := ⟨.hbm, 32, rfl⟩
abbrev main_call2_call0_v2 : Ref sig .tc := ⟨.hbm, 33, rfl⟩
abbrev main_call2_call0_v3_0 : Ref sig .tc := ⟨.hbm, 34, rfl⟩
abbrev main_v13_2 : Ref sig .tc := ⟨.hbm, 35, rfl⟩
abbrev main_call2_c : Ref sig .tc := ⟨.hbm, 36, rfl⟩
abbrev main_call2_v4 : Ref sig .tc := ⟨.hbm, 37, rfl⟩
abbrev main_call2_v5 : Ref sig .tc := ⟨.hbm, 38, rfl⟩
abbrev main_call2_c_0 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_v13_0 : Ref sig .tc := ⟨.hbm, 44, rfl⟩
abbrev main_call2_c_1 : Ref sig .tc := ⟨.hbm, 45, rfl⟩
abbrev main_call2_v11 : Ref sig .tc := ⟨.hbm, 46, rfl⟩
abbrev main_call2_v12 : Ref sig .tc := ⟨.hbm, 47, rfl⟩
abbrev main_call2_v13 : Ref sig .tc := ⟨.hbm, 48, rfl⟩
abbrev main_call2_v14 : Ref sig .tc := ⟨.hbm, 49, rfl⟩
abbrev main_call2_c_2 : Ref sig .tc := ⟨.hbm, 50, rfl⟩
abbrev main_call2_v15 : Ref sig .tc := ⟨.hbm, 51, rfl⟩
abbrev main_call2_c_3 : Ref sig .tc := ⟨.hbm, 52, rfl⟩
abbrev main_call2_v16 : Ref sig .tc := ⟨.hbm, 53, rfl⟩
abbrev main_v13_1 : Ref sig .tc := ⟨.hbm, 54, rfl⟩
abbrev main_call3_v0 : Ref sig .tc := ⟨.hbm, 55, rfl⟩
abbrev main_call3_call0_c : Ref sig .tc := ⟨.hbm, 56, rfl⟩
abbrev main_call3_call0_v0 : Ref sig .tc := ⟨.hbm, 57, rfl⟩
abbrev main_v14 : Ref sig .tc := ⟨.hbm, 58, rfl⟩
abbrev main_c : Ref sig .tc := ⟨.hbm, 59, rfl⟩
abbrev main_v15 : Ref sig .tc := ⟨.hbm, 60, rfl⟩
abbrev main_c_1 : Ref sig .tc := ⟨.hbm, 61, rfl⟩
abbrev main_v16 : Ref sig .tc := ⟨.hbm, 62, rfl⟩
abbrev main_v17 : Ref sig .tc := ⟨.hbm, 63, rfl⟩
abbrev main_c_2 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_c_3 : Ref sig .tc := ⟨.hbm, 69, rfl⟩
abbrev main_v22 : Ref sig .tc := ⟨.hbm, 70, rfl⟩
abbrev main_v23 : Ref sig .tc := ⟨.hbm, 71, rfl⟩
abbrev main_call4_call0_c : Ref sig .tc := ⟨.hbm, 72, rfl⟩
abbrev main_call4_call0_v0 : Ref sig .tc := ⟨.hbm, 73, rfl⟩
abbrev main_v24 : Ref sig .tc := ⟨.hbm, 74, rfl⟩
abbrev main_c_4 : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_call5_v3 : Ref sig .tc := ⟨.hbm, 79, rfl⟩
abbrev main_call5_v4 : Ref sig .tc := ⟨.hbm, 80, rfl⟩
abbrev main_call5_v5 : Ref sig .tc := ⟨.hbm, 81, rfl⟩
abbrev main_call5_v6 : Ref sig .tc := ⟨.hbm, 82, rfl⟩
abbrev main_call5_v7 : Ref sig .tc := ⟨.hbm, 83, rfl⟩
abbrev main_call5_v8 : Ref sig .tc := ⟨.hbm, 84, rfl⟩
abbrev main_call5_c : Ref sig .tc := ⟨.hbm, 85, rfl⟩
abbrev main_call5_v9 : Ref sig .tc := ⟨.hbm, 86, rfl⟩
abbrev main_call5_v10 : Ref sig .tc := ⟨.hbm, 87, rfl⟩
abbrev main_call5_v11 : Ref sig .tc := ⟨.hbm, 88, rfl⟩
abbrev main_call5_c_0 : Ref sig .tc := ⟨.hbm, 89, rfl⟩
abbrev main_call5_v12 : Ref sig .tc := ⟨.hbm, 90, rfl⟩
abbrev main_call5_v13 : Ref sig .tc := ⟨.hbm, 91, rfl⟩
abbrev main_v25 : Ref sig .tc := ⟨.hbm, 92, rfl⟩
abbrev main_c_5 : Ref sig .tc := ⟨.hbm, 93, rfl⟩
abbrev main_call6_v0 : Ref sig .tc := ⟨.hbm, 94, rfl⟩
abbrev main_call6_c : Ref sig .tc := ⟨.hbm, 95, rfl⟩
abbrev main_call6_v1 : Ref sig .tc := ⟨.hbm, 96, rfl⟩
abbrev main_call6_c_0 : Ref sig .tc := ⟨.hbm, 97, rfl⟩
abbrev main_call6_v2 : Ref sig .tc := ⟨.hbm, 98, rfl⟩
abbrev main_call6_v3 : Ref sig .tc := ⟨.hbm, 99, rfl⟩
abbrev main_call6_v4 : Ref sig .tc := ⟨.hbm, 100, rfl⟩
abbrev main_call6_c_1 : Ref sig .tc := ⟨.hbm, 101, rfl⟩
abbrev main_call6_v5 : Ref sig .tc := ⟨.hbm, 102, rfl⟩
abbrev main_call6_v6 : Ref sig .tc := ⟨.hbm, 103, rfl⟩
abbrev main_call6_c_2 : Ref sig .tc := ⟨.hbm, 104, rfl⟩
abbrev main_call6_v7 : Ref sig .tc := ⟨.hbm, 105, rfl⟩
abbrev main_call6_v8 : Ref sig .tc := ⟨.hbm, 106, rfl⟩
abbrev main_call6_c_3 : Ref sig .tc := ⟨.hbm, 107, rfl⟩
abbrev main_call6_v9 : Ref sig .tc := ⟨.hbm, 108, rfl⟩
abbrev main_call6_v10 : Ref sig .tc := ⟨.hbm, 109, rfl⟩
abbrev main_call6_v11 : Ref sig .tc := ⟨.hbm, 110, rfl⟩
abbrev main_call6_v12 : Ref sig .tc := ⟨.hbm, 111, rfl⟩
abbrev main_call6_v13 : Ref sig .tc := ⟨.hbm, 112, rfl⟩
abbrev main_call6_v14 : Ref sig .tc := ⟨.hbm, 113, rfl⟩
abbrev main_v26 : Ref sig .tc := ⟨.hbm, 114, rfl⟩
abbrev main_v27 : Ref sig .tc := ⟨.hbm, 115, rfl⟩
abbrev main_c_6 : Ref sig .tc := ⟨.hbm, 116, rfl⟩
abbrev main_v28 : Ref sig .tc := ⟨.hbm, 117, rfl⟩
abbrev main_v29 : Ref sig .tc := ⟨.hbm, 118, rfl⟩
abbrev main_v30 : Ref sig .tc := ⟨.hbm, 119, rfl⟩
abbrev main_v31 : Ref sig .tc := ⟨.hbm, 120, rfl⟩
abbrev main_v32 : Ref sig .tc := ⟨.hbm, 121, rfl⟩
abbrev main_c_7 : Ref sig .tc := ⟨.hbm, 122, rfl⟩
abbrev main_call7_v0 : Ref sig .tc := ⟨.hbm, 123, rfl⟩
abbrev main_call7_v1 : Ref sig .tc := ⟨.hbm, 124, rfl⟩
abbrev main_v33 : Ref sig .tc := ⟨.hbm, 125, rfl⟩
abbrev main_c_8 : Ref sig .tc := ⟨.hbm, 126, rfl⟩
abbrev main_v34 : Ref sig .tc := ⟨.hbm, 127, rfl⟩
abbrev main_v35 : Ref sig .tc := ⟨.hbm, 128, rfl⟩
abbrev main_c_9 : Ref sig .tc := ⟨.hbm, 129, rfl⟩
abbrev main_v36 : Ref sig .tc := ⟨.hbm, 130, rfl⟩
abbrev main_v37 : Ref sig .tc := ⟨.hbm, 131, rfl⟩
abbrev main_v38 : Ref sig .tc := ⟨.hbm, 132, rfl⟩
abbrev main_v39 : Ref sig .tc := ⟨.hbm, 133, rfl⟩
abbrev main_v40 : Ref sig .tc := ⟨.hbm, 134, rfl⟩
abbrev main_call8_v0 : Ref sig .tc := ⟨.hbm, 135, rfl⟩
abbrev main_call8_call0_c : Ref sig .tc := ⟨.hbm, 136, rfl⟩
abbrev main_call8_call0_v0 : Ref sig .tc := ⟨.hbm, 137, rfl⟩
abbrev main_v41 : Ref sig .tc := ⟨.hbm, 138, rfl⟩
abbrev main_c_10 : Ref sig .tc := ⟨.hbm, 139, rfl⟩
abbrev main_v42 : Ref sig .tc := ⟨.hbm, 140, rfl⟩
abbrev main_c_11 : Ref sig .tc := ⟨.hbm, 141, rfl⟩
abbrev main_v43 : Ref sig .tc := ⟨.hbm, 142, rfl⟩
abbrev main_v44 : Ref sig .tc := ⟨.hbm, 143, rfl⟩
abbrev main_c_12 : Ref sig .tc := ⟨.hbm, 144, rfl⟩
abbrev main_v45 : Ref sig .tc := ⟨.hbm, 145, rfl⟩
abbrev main_v46 : Ref sig .tc := ⟨.hbm, 146, rfl⟩
abbrev main_v47 : Ref sig .tc := ⟨.hbm, 147, rfl⟩
abbrev main_v48 : Ref sig .tc := ⟨.hbm, 148, rfl⟩
abbrev main_c_13 : Ref sig .tc := ⟨.hbm, 149, rfl⟩
abbrev main_v49 : Ref sig .tc := ⟨.hbm, 150, rfl⟩
abbrev main_v50 : Ref sig .tc := ⟨.hbm, 151, rfl⟩
abbrev main_call9_call0_c : Ref sig .tc := ⟨.hbm, 152, rfl⟩
abbrev main_call9_call0_v0 : Ref sig .tc := ⟨.hbm, 153, rfl⟩
abbrev main_v51 : Ref sig .tc := ⟨.hbm, 154, rfl⟩
abbrev main_c_14 : Ref sig .tc := ⟨.hbm, 155, rfl⟩
abbrev main_call10_v0 : Ref sig .tc := ⟨.hbm, 156, rfl⟩
abbrev main_call10_v1 : Ref sig .tc := ⟨.hbm, 157, rfl⟩
abbrev main_call10_v2 : Ref sig .tc := ⟨.hbm, 158, rfl⟩
abbrev main_call10_v3 : Ref sig .tc := ⟨.hbm, 159, rfl⟩
abbrev main_call10_v4 : Ref sig .tc := ⟨.hbm, 160, rfl⟩
abbrev main_call10_v5 : Ref sig .tc := ⟨.hbm, 161, rfl⟩
abbrev main_call10_v6 : Ref sig .tc := ⟨.hbm, 162, rfl⟩
abbrev main_call10_v7 : Ref sig .tc := ⟨.hbm, 163, rfl⟩
abbrev main_call10_v8 : Ref sig .tc := ⟨.hbm, 164, rfl⟩
abbrev main_call10_c : Ref sig .tc := ⟨.hbm, 165, rfl⟩
abbrev main_call10_v9 : Ref sig .tc := ⟨.hbm, 166, rfl⟩
abbrev main_call10_v10 : Ref sig .tc := ⟨.hbm, 167, rfl⟩
abbrev main_call10_v11 : Ref sig .tc := ⟨.hbm, 168, rfl⟩
abbrev main_call10_c_0 : Ref sig .tc := ⟨.hbm, 169, rfl⟩
abbrev main_call10_v12 : Ref sig .tc := ⟨.hbm, 170, rfl⟩
abbrev main_call10_v13 : Ref sig .tc := ⟨.hbm, 171, rfl⟩
abbrev main_v52 : Ref sig .tc := ⟨.hbm, 172, rfl⟩
abbrev main_c_15 : Ref sig .tc := ⟨.hbm, 173, rfl⟩
abbrev main_call11_v0 : Ref sig .tc := ⟨.hbm, 174, rfl⟩
abbrev main_call11_c : Ref sig .tc := ⟨.hbm, 175, rfl⟩
abbrev main_call11_v1 : Ref sig .tc := ⟨.hbm, 176, rfl⟩
abbrev main_call11_c_0 : Ref sig .tc := ⟨.hbm, 177, rfl⟩
abbrev main_call11_v2 : Ref sig .tc := ⟨.hbm, 178, rfl⟩
abbrev main_call11_v3 : Ref sig .tc := ⟨.hbm, 179, rfl⟩
abbrev main_call11_v4 : Ref sig .tc := ⟨.hbm, 180, rfl⟩
abbrev main_call11_c_1 : Ref sig .tc := ⟨.hbm, 181, rfl⟩
abbrev main_call11_v5 : Ref sig .tc := ⟨.hbm, 182, rfl⟩
abbrev main_call11_v6 : Ref sig .tc := ⟨.hbm, 183, rfl⟩
abbrev main_call11_c_2 : Ref sig .tc := ⟨.hbm, 184, rfl⟩
abbrev main_call11_v7 : Ref sig .tc := ⟨.hbm, 185, rfl⟩
abbrev main_call11_v8 : Ref sig .tc := ⟨.hbm, 186, rfl⟩
abbrev main_call11_c_3 : Ref sig .tc := ⟨.hbm, 187, rfl⟩
abbrev main_call11_v9 : Ref sig .tc := ⟨.hbm, 188, rfl⟩
abbrev main_call11_v10 : Ref sig .tc := ⟨.hbm, 189, rfl⟩
abbrev main_call11_v11 : Ref sig .tc := ⟨.hbm, 190, rfl⟩
abbrev main_call11_v12 : Ref sig .tc := ⟨.hbm, 191, rfl⟩
abbrev main_call11_v13 : Ref sig .tc := ⟨.hbm, 192, rfl⟩
abbrev main_call11_v14 : Ref sig .tc := ⟨.hbm, 193, rfl⟩
abbrev main_v53 : Ref sig .tc := ⟨.hbm, 194, rfl⟩
abbrev main_v54 : Ref sig .tc := ⟨.hbm, 195, rfl⟩
abbrev main_c_16 : Ref sig .tc := ⟨.hbm, 196, rfl⟩
abbrev main_v55 : Ref sig .tc := ⟨.hbm, 197, rfl⟩
abbrev main_v56 : Ref sig .tc := ⟨.hbm, 198, rfl⟩
abbrev main_v57 : Ref sig .tc := ⟨.hbm, 199, rfl⟩
abbrev main_v58 : Ref sig .tc := ⟨.hbm, 200, rfl⟩
abbrev main_v59 : Ref sig .tc := ⟨.hbm, 201, rfl⟩
abbrev main_c_17 : Ref sig .tc := ⟨.hbm, 202, rfl⟩
abbrev main_call12_v0 : Ref sig .tc := ⟨.hbm, 203, rfl⟩
abbrev main_call12_v1 : Ref sig .tc := ⟨.hbm, 204, rfl⟩
abbrev main_v60 : Ref sig .tc := ⟨.hbm, 205, rfl⟩
abbrev main_v61 : Ref sig .tc := ⟨.hbm, 206, rfl⟩
abbrev main_v62 : Ref sig .tc := ⟨.hbm, 207, rfl⟩
abbrev main_c_18 : Ref sig .tc := ⟨.hbm, 208, rfl⟩
abbrev main_call13_c : Ref sig .tc := ⟨.hbm, 209, rfl⟩
abbrev main_call13_v0 : Ref sig .tc := ⟨.hbm, 210, rfl⟩
abbrev main_call13_v1 : Ref sig .tc := ⟨.hbm, 211, rfl⟩
abbrev main_call13_v2 : Ref sig .tc := ⟨.hbm, 212, rfl⟩
abbrev main_call13_v3 : Ref sig .tc := ⟨.hbm, 213, rfl⟩
abbrev main_v63 : Ref sig .tc := ⟨.hbm, 214, rfl⟩
abbrev main_c_19 : Ref sig .tc := ⟨.hbm, 215, rfl⟩
abbrev main_v64 : Ref sig .tc := ⟨.hbm, 216, rfl⟩
abbrev main_v65 : Ref sig .tc := ⟨.hbm, 217, rfl⟩
abbrev main_call14_v0 : Ref sig .tc := ⟨.hbm, 218, rfl⟩
abbrev main_call14_v1 : Ref sig .tc := ⟨.hbm, 219, rfl⟩
abbrev main_v66 : Ref sig .tc := ⟨.hbm, 220, rfl⟩
abbrev main_values_20 : Ref sig .tc := ⟨.hbm, 221, rfl⟩
abbrev main_indices_21 : Ref sig .tc := ⟨.hbm, 222, rfl⟩
abbrev main_c_22 : Ref sig .tc := ⟨.hbm, 223, rfl⟩
abbrev main_v67 : Ref sig .tc := ⟨.hbm, 224, rfl⟩
abbrev main_v68 : Ref sig .tc := ⟨.hbm, 225, rfl⟩
abbrev main_c_23 : Ref sig .tc := ⟨.hbm, 226, rfl⟩
abbrev main_v69 : Ref sig .tc := ⟨.hbm, 227, rfl⟩
abbrev main_v70 : Ref sig .tc := ⟨.hbm, 228, rfl⟩
abbrev main_v71 : Ref sig .tc := ⟨.hbm, 229, rfl⟩
abbrev main_v72 : Ref sig .tc := ⟨.hbm, 230, rfl⟩
abbrev main_v73 : Ref sig .tc := ⟨.hbm, 231, rfl⟩
abbrev main_v74 : Ref sig .tc := ⟨.hbm, 232, rfl⟩
abbrev main_v75 : Ref sig .tc := ⟨.hbm, 233, rfl⟩
abbrev main_call15_c : Ref sig .tc := ⟨.hbm, 234, rfl⟩
abbrev main_call15_v0 : Ref sig .tc := ⟨.hbm, 235, rfl⟩
abbrev main_call15_v1 : Ref sig .tc := ⟨.hbm, 236, rfl⟩
abbrev main_call15_c_0 : Ref sig .tc := ⟨.hbm, 237, rfl⟩
abbrev main_call15_v2 : Ref sig .tc := ⟨.hbm, 238, rfl⟩
abbrev main_call15_v3 : Ref sig .tc := ⟨.hbm, 239, rfl⟩
abbrev main_call15_v4 : Ref sig .tc := ⟨.hbm, 240, rfl⟩
abbrev main_call15_v5 : Ref sig .tc := ⟨.hbm, 241, rfl⟩
abbrev main_call15_c_1 : Ref sig .tc := ⟨.hbm, 242, rfl⟩
abbrev main_call15_c_2 : Ref sig .tc := ⟨.hbm, 243, rfl⟩
abbrev main_call15_v6 : Ref sig .tc := ⟨.hbm, 244, rfl⟩
abbrev main_call15_v7 : Ref sig .tc := ⟨.hbm, 245, rfl⟩
abbrev main_call15_v8 : Ref sig .tc := ⟨.hbm, 246, rfl⟩
abbrev main_call15_v9 : Ref sig .tc := ⟨.hbm, 247, rfl⟩
abbrev main_call15_v10 : Ref sig .tc := ⟨.hbm, 248, rfl⟩
abbrev main_call15_v11 : Ref sig .tc := ⟨.hbm, 249, rfl⟩
abbrev main_call15_c_3 : Ref sig .tc := ⟨.hbm, 250, rfl⟩
abbrev main_call15_v12 : Ref sig .tc := ⟨.hbm, 251, rfl⟩
abbrev main_call15_v13 : Ref sig .tc := ⟨.hbm, 252, rfl⟩
abbrev main_call15_v14 : Ref sig .tc := ⟨.hbm, 253, rfl⟩
abbrev main_call15_cst : Ref sig .tc := ⟨.hbm, 254, rfl⟩
abbrev main_call15_v15 : Ref sig .tc := ⟨.hbm, 255, rfl⟩
abbrev main_v76 : Ref sig .tc := ⟨.hbm, 256, rfl⟩
abbrev main_v77 : Ref sig .tc := ⟨.hbm, 257, rfl⟩
abbrev main_call16_c : Ref sig .tc := ⟨.hbm, 258, rfl⟩
abbrev main_call16_v0 : Ref sig .tc := ⟨.hbm, 259, rfl⟩
abbrev main_call16_v1 : Ref sig .tc := ⟨.hbm, 260, rfl⟩
abbrev main_call16_c_0 : Ref sig .tc := ⟨.hbm, 261, rfl⟩
abbrev main_call16_v2 : Ref sig .tc := ⟨.hbm, 262, rfl⟩
abbrev main_call16_v3 : Ref sig .tc := ⟨.hbm, 263, rfl⟩
abbrev main_call16_v4 : Ref sig .tc := ⟨.hbm, 264, rfl⟩
abbrev main_call16_v5 : Ref sig .tc := ⟨.hbm, 265, rfl⟩
abbrev main_call16_c_1 : Ref sig .tc := ⟨.hbm, 266, rfl⟩
abbrev main_call16_c_2 : Ref sig .tc := ⟨.hbm, 267, rfl⟩
abbrev main_call16_v6 : Ref sig .tc := ⟨.hbm, 268, rfl⟩
abbrev main_call16_v7 : Ref sig .tc := ⟨.hbm, 269, rfl⟩
abbrev main_call16_v8 : Ref sig .tc := ⟨.hbm, 270, rfl⟩
abbrev main_call16_v9 : Ref sig .tc := ⟨.hbm, 271, rfl⟩
abbrev main_call16_v10 : Ref sig .tc := ⟨.hbm, 272, rfl⟩
abbrev main_call16_v11 : Ref sig .tc := ⟨.hbm, 273, rfl⟩
abbrev main_call16_c_3 : Ref sig .tc := ⟨.hbm, 274, rfl⟩
abbrev main_call16_v12 : Ref sig .tc := ⟨.hbm, 275, rfl⟩
abbrev main_call16_v13 : Ref sig .tc := ⟨.hbm, 276, rfl⟩
abbrev main_call16_v14 : Ref sig .tc := ⟨.hbm, 277, rfl⟩
abbrev main_call16_cst : Ref sig .tc := ⟨.hbm, 278, rfl⟩
abbrev main_call16_v15 : Ref sig .tc := ⟨.hbm, 279, rfl⟩
abbrev main_v78 : Ref sig .tc := ⟨.hbm, 280, rfl⟩
abbrev main_v79 : Ref sig .tc := ⟨.hbm, 281, rfl⟩
abbrev main_v80 : Ref sig .tc := ⟨.hbm, 282, rfl⟩
abbrev main_v81 : Ref sig .tc := ⟨.hbm, 283, rfl⟩
abbrev main_cst_24 : Ref sig .tc := ⟨.hbm, 284, rfl⟩
abbrev main_v82 : Ref sig .tc := ⟨.hbm, 285, rfl⟩
abbrev main_cst_25 : Ref sig .tc := ⟨.hbm, 286, rfl⟩
abbrev main_v83 : Ref sig .tc := ⟨.hbm, 287, rfl⟩

abbrev nD : Nat := 1
abbrev τ : Topo := Topo.v7x

variable {F : FTy → Type} [FloatOps F]
-- ==== ScHist.lean ====
abbrev S8192 : Shape := ⟨1, ![8192]⟩
abbrev S32x8192 : Shape := ⟨2, ![32, 8192]⟩
abbrev S256 : Shape := ⟨1, ![256]⟩
abbrev S_ : Shape := ⟨0, ![]⟩
abbrev S16 : Shape := ⟨1, ![16]⟩
abbrev S1x8192 : Shape := ⟨2, ![1, 8192]⟩

abbrev nBuf : Table → Nat
  | .hbm => 2
  | .local .scVector .vmem => 2
  | _ => 0

abbrev bufTy : (tb : Table) → Fin (nBuf tb) → BufTy
  | .hbm, ⟨0, _⟩ => ⟨S8192, .i32⟩
  | .hbm, ⟨1, _⟩ => ⟨S32x8192, .i32⟩
  | .local .scVector .vmem, ⟨0, _⟩ => ⟨S256, .i32⟩
  | .local .scVector .vmem, ⟨1, _⟩ => ⟨S8192, .i32⟩
  | _, _ => ⟨S8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
@[reducible] def k0_t1_loop : Scf.Loop 32 :=
  let c0_i32_1 : BitVec 32 := 0#32
  let c512_i32 : BitVec 32 := 512#32
  let v4 : BitVec 32 := Scalar.addi c0_i32_1 c512_i32
  let c1_i32 : BitVec 32 := 1#32
  ⟨c0_i32_1, v4, c1_i32⟩
def k0_off2 (k0_t1 : Fin k0_t1_loop.trips) : Fin 1 → Nat :=
  let c0_i32_1 : BitVec 32 := 0#32
  let c1_i32 : BitVec 32 := 1#32
  let arg6 : BitVec 32 := Scf.iv c0_i32_1 c1_i32 k0_t1
  let c16_i32_9 : BitVec 32 := 16#32
  let v12 : BitVec 32 := Scalar.muli arg6 c16_i32_9
  let v13 : Index := Scalar.indexCast v12
  ![v13.toNat]
@[reducible] def k0_t2_loop : Scf.Loop 32 :=
  let c0_i32_6 : BitVec 32 := 0#32
  let c16_i32 : BitVec 32 := 16#32
  let v11 : BitVec 32 := Scalar.addi c0_i32_6 c16_i32
  let c1_i32_7 : BitVec 32 := 1#32
  ⟨c0_i32_6, v11, c1_i32_7⟩
def k0_off3 (k0_t2 : Fin k0_t2_loop.trips) : Fin 1 → Nat :=
  let c0_i32_6 : BitVec 32 := 0#32
  let c1_i32_7 : BitVec 32 := 1#32
  let arg6 : BitVec 32 := Scf.iv c0_i32_6 c1_i32_7 k0_t2
  let c16_i32_9 : BitVec 32 := 16#32
  let v12 : BitVec 32 := Scalar.muli arg6 c16_i32_9
  let v13 : Index := Scalar.indexCast v12
  ![v13.toNat]

def k0_chk1 (v14 : IVec S16 32) : Prop :=
  (∀ a x, ((![v14] : Fin 1 → IVec S16 32) a x).toNat < S8192.size a) ∧
  (∀ a x, ((![v14] : Fin 1 → IVec S16 32) a x).toNat < S8192.size a)
theorem k0_idx1_inb : ∀ (v14 : IVec S16 32) (k0_hw1 : k0_chk1 v14), ∀ a x, ((![v14] : Fin 1 → IVec S16 32) a x).toNat < S8192.size a := fun v14 k0_hw1 => k0_hw1.1
theorem k0_idx2_inb : ∀ (v14 : IVec S16 32) (k0_hw1 : k0_chk1 v14), ∀ a x, ((![v14] : Fin 1 → IVec S16 32) a x).toNat < S8192.size a := fun v14 k0_hw1 => k0_hw1.2
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ScHistReference.lean ====
abbrev S8192 : Shape := ⟨1, ![8192]⟩
abbrev S32x256 : Shape := ⟨2, ![32, 256]⟩
abbrev S32x256x1 : Shape := ⟨3, ![32, 256, 1]⟩
abbrev S1x1x8192 : Shape := ⟨3, ![1, 1, 8192]⟩
abbrev S32x256x8192 : Shape := ⟨3, ![32, 256, 8192]⟩
abbrev S_ : Shape := ⟨0, ![]⟩
abbrev S32x8192 : Shape := ⟨2, ![32, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192, .i32⟩
  | .hbm, ⟨1, _⟩ => ⟨S32x256, .i32⟩
  | .hbm, ⟨2, _⟩ => ⟨S32x256x1, .i32⟩
  | .hbm, ⟨3, _⟩ => ⟨S8192, .i32⟩
  | .hbm, ⟨4, _⟩ => ⟨S1x1x8192, .i32⟩
  | .hbm, ⟨5, _⟩ => ⟨S32x256x8192, .i32⟩
  | .hbm, ⟨6, _⟩ => ⟨S32x256x8192, .i32⟩
  | .hbm, ⟨7, _⟩ => ⟨S32x256x8192, .i1⟩
  | .hbm, ⟨8, _⟩ => ⟨S32x256x8192, .i32⟩
  | .hbm, ⟨9, _⟩ => ⟨S_, .i32⟩
  | .hbm, ⟨10, _⟩ => ⟨S32x8192, .i32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Proof.Hist.lean ====
/-
  The counting arithmetic of the histogram task: what a masked scatter-add of sixteen ones adds to one bin, the two
  half-masked scatters together, and a worker's row of counts.
-/
module

public import proofs.«01_k».proof.Defs
public import proofs.«01_k».proof.Proof.Gen.KernelIdeal
public import proofs.«01_k».proof.Proof.Gen.KernelIdeal.Skeleton
public import Idealize.ShloMosaic.Lib.ValueIdxCore
public import Idealize.ShloMosaic.Lib.Tactic

@[expose] public section

noncomputable section

namespace Cert.Proof.Hist

open Cert.KernelIdeal Cert.KernelIdeal.Gen
open Idealize.ShloMosaic Idealize.ShloMosaic.ValueIdx

variable {F : FTy → Type} [FloatOps F]

/-- Counting along `finRange` is counting below `n`. -/
theorem countP_finRange (p : ℕ → Prop) [DecidablePred p] (n : ℕ) :
    (List.finRange n).countP (fun k => decide (p k.val)) = Nat.count p n := by
  have h : (List.finRange n).countP (fun k => decide (p k.val)) = (List.range n).countP (fun k => decide (p k)) := by
    rw [← List.map_coe_finRange_eq_range, List.countP_map]; rfl
  rw [h]
  induction n with
  | zero => rfl
  | succ n ih =>
    have h' := ih (by rw [← List.map_coe_finRange_eq_range, List.countP_map]; rfl)
    rw [List.range_succ, List.countP_append, h', Nat.count_succ]
    simp

/-- One lane's part of a masked scatter-add of ones. -/
def lane (v : IVec S16 32) (mask : IVec S16 1) (h : ∀ a x, ((![v] : Fin 1 → IVec S16 32) a x).toNat < S8192.size a)
    (g : S8192.Idx → BitVec 32) (k : Fin 16) : S8192.Idx → BitVec 32 :=
  if mask (ix1 k) = 1 then
    fun j => if (∀ a, (j a).val = (idxAt (s := S8192) (t := S16) ![v] h (ix1 k) a).val) then g (idxAt (s := S8192) (t := S16) ![v] h (ix1 k)) + 1#32 else g j
  else g

theorem ofLane_eq (k : Fin 16) : (Shape.ofLane (d := ![16]) k : S16.Idx) = ix1 k := by
  funext a; obtain rfl : a = 0 := Subsingleton.elim _ _; rfl

theorem storeIdx_lane (f : Vec F S8192 .i32) (v : IVec S16 32) (mask : IVec S16 1)
    (h : ∀ a x, ((![v] : Fin 1 → IVec S16 32) a x).toNat < S8192.size a) :
    storeIdx (F := F) (s := S8192) (e := .i32) f ![v] k1_pay2 mask true h = (List.finRange 16).foldl (lane v mask h) f := by
  unfold storeIdx
  show List.foldl _ f (List.finRange 16) = _
  congr 1
  funext g k
  unfold lane
  rw [← ofLane_eq k]
  by_cases hm : mask (Shape.ofLane (d := ![16]) k : S16.Idx) = 1
  · refine (if_pos hm).trans (Eq.trans ?_ (if_pos hm).symm)
    funext j
    by_cases hc : ∀ a, (j a).val = (idxAt (s := S8192) (t := S16) ![v] h (Shape.ofLane (d := ![16]) k) a).val
    · exact (if_pos hc).trans (Eq.trans rfl (if_pos hc).symm)
    · exact (if_neg hc).trans (if_neg hc).symm
  · exact (if_neg hm).trans (if_neg hm).symm

theorem lane_apply (v : IVec S16 32) (mask : IVec S16 1) (h : ∀ a x, ((![v] : Fin 1 → IVec S16 32) a x).toNat < S8192.size a)
    (g : S8192.Idx → BitVec 32) (k : Fin 16) (j : S8192.Idx) :
    lane v mask h g k j = g j + BitVec.ofNat 32 (if mask (ix1 k) = 1 ∧ (v (ix1 k)).toNat = (j 0).val then 1 else 0) := by
  unfold lane
  by_cases hm : mask (ix1 k) = 1
  · rw [if_pos hm]
    by_cases hj : (v (ix1 k)).toNat = (j 0).val
    · have hc : ∀ a, (j a).val = (idxAt (s := S8192) (t := S16) ![v] h (ix1 k) a).val := by
        intro a; obtain rfl : a = 0 := Subsingleton.elim _ _; exact hj.symm
      have hij : idxAt (s := S8192) (t := S16) ![v] h (ix1 k) = j := funext fun a => Fin.ext (hc a).symm
      rw [if_pos hc, hij, if_pos ⟨hm, hj⟩]
    · have hc : ¬ ∀ a, (j a).val = (idxAt (s := S8192) (t := S16) ![v] h (ix1 k) a).val := fun hc => hj (hc 0).symm
      rw [if_neg hc, if_neg (fun e => hj e.2)]; simp
  · rw [if_neg hm, if_neg (fun e => hm e.1)]; simp

/-- One masked scatter-add of ones adds to bin `j` the number of set lanes that name it. -/
theorem storeIdx_count (f : Vec F S8192 .i32) (v : IVec S16 32) (mask : IVec S16 1)
    (h : ∀ a x, ((![v] : Fin 1 → IVec S16 32) a x).toNat < S8192.size a) (j : S8192.Idx) :
    storeIdx (F := F) (s := S8192) (e := .i32) f ![v] k1_pay2 mask true h j
      = (f j : BitVec 32) + BitVec.ofNat 32 ((List.finRange 16).countP fun k => decide (mask (ix1 k) = 1 ∧ (v (ix1 k)).toNat = (j 0).val)) := by
  rw [storeIdx_lane]
  generalize List.finRange 16 = l
  show l.foldl (lane v mask h) (show S8192.Idx → BitVec 32 from f) j = (show S8192.Idx → BitVec 32 from f) j + _
  generalize (show S8192.Idx → BitVec 32 from f) = g
  induction l generalizing g with
  | nil => simp
  | cons k l ih =>
    rw [List.foldl_cons, ih, List.countP_cons, lane_apply, BitVec.add_assoc, ← BitVec.ofNat_add]
    congr 2
    simp only [decide_eq_true_eq]; omega

theorem pay3_iff (k : Fin 16) : k1_pay3 (ix1 k : S16.Idx) = 1 ↔ k.val < 8 := by
  revert k; unfold k1_pay3; decide
theorem pay4_iff (k : Fin 16) : k1_pay4 (ix1 k : S16.Idx) = 1 ↔ ¬ k.val < 8 := by
  revert k; unfold k1_pay4; decide

/-- The low and the high half's scatters one after the other count all sixteen lanes. -/
theorem storeIdx_both (f : Vec F S8192 .i32) (v : IVec S16 32)
    (h h' : ∀ a x, ((![v] : Fin 1 → IVec S16 32) a x).toNat < S8192.size a) (j : S8192.Idx) :
    storeIdx (F := F) (s := S8192) (e := .i32) (storeIdx (F := F) (s := S8192) (e := .i32) f ![v] k1_pay2 k1_pay3 true h) ![v] k1_pay2 k1_pay4 true h' j
      = (f j : BitVec 32) + BitVec.ofNat 32 ((List.finRange 16).countP fun k => decide ((v (ix1 k)).toNat = (j 0).val)) := by
  rw [storeIdx_count, storeIdx_count, BitVec.add_assoc, ← BitVec.ofNat_add]
  congr 2
  generalize List.finRange 16 = l
  induction l with
  | nil => rfl
  | cons k l ih =>
    rw [List.countP_cons, List.countP_cons, List.countP_cons, ← ih]
    simp only [decide_eq_true_eq]
    generalize List.countP _ l = A
    generalize List.countP _ l = B
    by_cases hk : k.val < 8
    · have h3 := (pay3_iff k).mpr hk
      have h4 : ¬ k1_pay4 (ix1 k : S16.Idx) = 1 := fun e => (pay4_iff k).mp e hk
      simp only [h3, h4, true_and, false_and, if_false]; omega
    · have h4 := (pay4_iff k).mpr hk
      have h3 : ¬ k1_pay3 (ix1 k : S16.Idx) = 1 := fun e => hk ((pay3_iff k).mp e)
      simp only [h3, h4, true_and, false_and, if_false]; omega

/-- The picked index number `n` of the flat list of 8192. -/
def word (iv : S8192.Idx → BitVec 32) (n : ℕ) : BitVec 32 := if h : n < 8192 then iv (ix1 ⟨n, h⟩) else 0

/-- How often bin `b` occurs among the first `n` indices of worker `w`. -/
def part (iv : S8192.Idx → BitVec 32) (w n b : ℕ) : BitVec 32 :=
  BitVec.ofNat 32 (Nat.count (fun k => (word iv (256 * w + k)).toNat = b) n)

/-- The histogram: row `w` counts the 256 indices of worker `w`. -/
def histV (iv : S8192.Idx → BitVec 32) : S32x8192.Idx → BitVec 32 := fun j => part iv (j 0).val 256 (j 1).val

/-- Sixteen more indices counted: one trip of the counting loop. -/
theorem part_step (iv : S8192.Idx → BitVec 32) (w t b : ℕ) (v : IVec S16 32)
    (hv : ∀ k : Fin 16, v (ix1 k) = word iv (256 * w + (16 * t + k.val))) :
    part iv w (16 * t) b + BitVec.ofNat 32 ((List.finRange 16).countP fun k => decide ((v (ix1 k)).toNat = b))
      = part iv w (16 * (t + 1)) b := by
  unfold part
  rw [← BitVec.ofNat_add]
  congr 1
  rw [show 16 * (t + 1) = 16 * t + 16 by ring, Nat.count_add]
  congr 1
  rw [← countP_finRange]
  congr 1; funext k; rw [hv]

end Cert.Proof.Hist

end
-- ==== Proof.Setup.lean ====
/-
  The program as the SparseCore launch theorem sees it, the resource algebra (the handshakes' rounds, the two
  pipelines' rounds, the transfers' counters) and the arrays' locations.
-/
module

public import proofs.«01_k».proof.Defs
public import proofs.«01_k».proof.Proof.Hist
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipelines' rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays' locations -/

abbrev qLoc (d : Dev nD) : Loc nD τ sig := (SparseCore.T d).loc main_arg0
abbrev kLoc (d : Dev nD) : Loc nD τ sig := (SparseCore.T d).loc main_arg1
abbrev pLoc (d : Dev nD) : Loc nD τ sig := (SparseCore.T d).loc main_arg2
abbrev xLoc (d : Dev nD) : Loc nD τ sig := (SparseCore.T d).loc main_v0_0
abbrev sLoc (d : Dev nD) : Loc nD τ sig := (SparseCore.T d).loc main_v0_1
abbrev iLoc (d : Dev nD) : Loc nD τ sig := (SparseCore.T d).loc main_v1
abbrev hLoc (d : Dev nD) : Loc nD τ sig := (SparseCore.T d).loc main_v2
abbrev lLoc (d : Dev nD) : Loc nD τ sig := (SparseCore.T d).loc main_v3_0
abbrev oLoc (d : Dev nD) : Loc nD τ sig := (SparseCore.T d).loc main_v3_1
abbrev rLoc (d : Dev nD) : Loc nD τ sig := (SparseCore.T d).loc main_v4

end Cert.Proof.Sc

end
-- ==== Proof.Topk.lean ====
/-
  The first TensorCore call: four blocks of 256 queries, each normalized and multiplied against the normalized keys, the
  eight largest entries of every row picked by eight rounds of a maximum; the normalized keys kept in a scratch from the
  first block on, the normalized queries summed into one row.
-/
module

public import proofs.«01_k».proof.Proof.Setup
public import proofs.«01_k».proof.Proof.Gen.KernelIdeal.Points
public import Idealize.ShloMosaic.Lib.Pipeline.Frame
public import Idealize.ShloMosaic.Lib.Pipeline.FrameBody

@[expose] public section

noncomputable section

namespace Cert.Proof.Sc

open Cert.KernelIdeal Cert.KernelIdeal.Gen
open Idealize.ShloMosaic Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The values -/

/-- The normalized keys. -/
def knOf (k : Vec F S8192x128 .f32) : FVec F S8192x128 .f32 := k0_pay3 k

/-- The column numbers. -/
def colV : IVec S256x8192 32 := iota .tc S256x8192 32 [1] iota_S256x8192_d1_w32

/-- The eight picks of every query of a block. -/
def picks (q : Vec F S256x128 .f32) (kn : Vec F S8192x128 .f32) : IVec S256x8 32 :=
  k0_pay1 colV (k0_pay7 q kn) (k0_pay9 q kn)
    (k0_pay12 colV (k0_pay10 q kn) (k0_pay11 q kn)) (k0_pay14 colV (k0_pay10 q kn) (k0_pay11 q kn))
    (k0_pay16 colV (k0_pay10 q kn) (k0_pay11 q kn)) (k0_pay17 colV (k0_pay10 q kn) (k0_pay11 q kn))
    (k0_pay18 colV (k0_pay10 q kn) (k0_pay11 q kn)) (k0_pay19 colV (k0_pay10 q kn) (k0_pay11 q kn))
    (Scalar.ofBits .f32 0xFF800000#32)

/-- The running sum of the normalized queries after one more block. -/
def qsNext (q : Vec F S256x128 .f32) (s : Vec F S1x128 .f32) : FVec F S1x128 .f32 := k0_pay2 (k0_pay5 q) s

/-! ## Reads and writes of a whole memref -/

omit [FloatOps F] in
theorem emb_full {S : Shape} (off : Fin S.rank → ℕ) (h0 : ∀ a, off a = 0) (hin : ∀ a, off a + S.size a ≤ S.size a) (x : S.Idx) :
    (Rect.unit (s := S) off S.size hin).emb x = x := by
  refine Rect.emb_eq_of_coords _ _ _ fun a => ?_
  show (x a).val = off a + 1 * (x a).val
  rw [h0 a]; omega

omit [FloatOps F] in
theorem readAt_full {κ : Kind} {sp : Space} {S : Shape} {e : EltTy} (v : View sig κ sp S e) (f : v.ref.ty.Contents (Elt F))
    (off : Fin S.rank → ℕ) (h0 : ∀ a, off a = 0) (hin : ∀ a, off a + S.size a ≤ S.size a) :
    v.readAt (Elt F) (Rect.unit (s := S) off S.size hin).toLoadRect f = v.read (Elt F) f := by
  funext x
  exact congrArg (v.read (Elt F) f) (emb_full off h0 hin x)

omit [FloatOps F] in
theorem read_writes_full {κ : Kind} {sp : Space} {S : Shape} {e : EltTy} (v : View sig κ sp S e) (f : v.ref.ty.Contents (Elt F))
    (off : Fin S.rank → ℕ) (h0 : ∀ a, off a = 0) (hin : ∀ a, off a + S.size a ≤ S.size a) (x : S.Idx → Elt F e) (L : List (View.Piece (Elt F) S e)) :
    v.read (Elt F) (v.writes (Elt F) f (⟨Rect.unit (s := S) off S.size hin, x⟩ :: L)) = x := by
  funext j
  refine View.read_writes_cons_hit_of_coords v f (Rect.unit (s := S) off S.size hin) x L j j fun a => ?_
  show (j a).val = off a + 1 * (j a).val
  rw [h0 a]; omega

omit [FloatOps F] in
theorem readCov_whole [∀ e, Nonempty (Elt F e)] {κ : Kind} {sp : Space} {S : Shape} {e : EltTy} (v : View sig κ sp S e)
    (off : Fin S.rank → ℕ) (hin : ∀ a, off a + S.size a ≤ S.size a) (x : S.Idx → Elt F e) :
    v.readCov [⟨Rect.unit (s := S) off S.size hin, x⟩] (Rect.unit (s := S) off S.size hin).toLoadRect = x :=
  View.readCov_cons_toLoadRect v (Rect.unit (s := S) off S.size hin) x []

theorem zero2 : ∀ a : Fin 2, (![0, 0] : Fin 2 → ℕ) a = 0 := by decide

/-! ## The body -/

section Body
variable (c : Dev nD) (i : grid0.Coords)
  (M1 : Memref sig .tc .vmem S256x128 .f32) (h1 : M1.IsWhole) (M2 : Memref sig .tc .vmem S8192x128 .f32) (h2 : M2.IsWhole)
  (M3 : Memref sig .tc .vmem S256x8 .i32) (h3 : M3.IsWhole) (M4 : Memref sig .tc .vmem S1x128 .f32) (h4 : M4.IsWhole)
  (M5 : Memref sig .tc .vmem S8192x128 .f32) (h5 : M5.IsWhole)
  (X1 : S256x128.Idx → Elt F .f32) (X2 : S8192x128.Idx → Elt F .f32)

theorem body_first (hi : (i 0).val = 0) (Q : PUnit → sProp 𝕄) :
    iprop(owns (c : Thread nD τ) M1 fullShare X1 ∗ owns (c : Thread nD τ) M2 fullShare X2
        ∗ (∃ X, owns (c : Thread nD τ) M3 fullShare X) ∗ (∃ X, owns (c : Thread nD τ) M4 fullShare X) ∗ (∃ X, owns (c : Thread nD τ) M5 fullShare X)
        ∗ (iprop(owns (c : Thread nD τ) M1 fullShare X1 ∗ owns (c : Thread nD τ) M2 fullShare X2
            ∗ owns (c : Thread nD τ) M3 fullShare (picks X1 (knOf X2)) ∗ owns (c : Thread nD τ) M4 fullShare (qsNext X1 k0_pay4)
            ∗ owns (c : Thread nD τ) M5 fullShare (knOf X2)) -∗ Q ⟨⟩))
      ⊢ wp frame (wpE (defs₀ (F := F)) 𝒱₀ (c : Thread nD τ) none) Set.univ (cc0__topk_body i M1 h1 M2 h2 M3 h3 M4 h4 M5 h5) Q := by
  unfold owns
  iintro ⟨⟨%f1, %e1, H1⟩, ⟨%f2, %e2, H2⟩, ⟨%X3, %f3, %e3, H3⟩, ⟨%X4, %f4, %e4, H4⟩, ⟨%X5, %f5, %e5, H5⟩, Hk⟩
  simp only [cc0__topk_body_eq_skeleton]; unfold cc0__topk_body_skel
  simp only [k0_part1_eq_skeleton, k0_part2_eq_skeleton]; unfold k0_part1_skel k0_part2_skel
  have hc : Scalar.cmpi .ne ((Scalar.extui (Scalar.cmpi .eq (BitVec.ofNat 32 (i 0).val) 0#32) : BitVec 32)) 0#32 = 1#1 := by rw [hi]; decide
  sl_exec
  sl_step
  subst e1
  subst e2
  iapply Hk
  isplitl [H1]
  · iexists f1; isplitr [H1]
    · ipureintro; rfl
    · iexact H1
  isplitl [H2]
  · iexists f2; isplitr [H2]
    · ipureintro; rfl
    · iexact H2
  isplitl [H3]
  · iexists _; isplitr [H3]; rotate_left
    · iexact H3
    · ipureintro
      refine (read_writes_full _ _ _ zero2 _ _ _).trans ?_
      dsimp only
      unfold body_first.sl.v12 body_first.sl.v14 body_first.sl.cst_28 body_first.sl.H5_1 picks colV knOf
      rw [readAt_full M1.view f1 ![0, 0] zero2 _, readAt_full M2.view f2 ![0, 0] zero2 _,
        readCov_whole M5.view ![0, 0] inb_S8192x128_S8192x128_0_0 (k0_pay3 (View.read (Elt F) M2.view f2))]
  isplitl [H4]
  · iexists _; isplitr [H4]; rotate_left
    · iexact H4
    · ipureintro
      refine (read_writes_full _ _ _ zero2 _ _ _).trans ?_
      dsimp only
      unfold body_first.sl.v109 body_first.sl.H4_1
      rw [readAt_full M1.view f1 ![0, 0] zero2 _]
      unfold qsNext
      exact congrArg (k0_pay2 (k0_pay5 (View.read (Elt F) M1.view f1))) (readCov_whole M4.view ![0, 0] inb_S1x128_S1x128_0_0 k0_pay4)
  · iexists _; isplitr [H5]; rotate_left
    · iexact H5
    · ipureintro
      unfold body_first.sl.H5_1
      rw [read_writes_full M5.view _ ![0, 0] zero2 _ _ _, readAt_full M2.view f2 ![0, 0] zero2 _]
      rfl

theorem body_next (X4 : S1x128.Idx → Elt F .f32) (X5 : S8192x128.Idx → Elt F .f32) (hi : (i 0).val ≠ 0) (Q : PUnit → sProp 𝕄) :
    iprop(owns (c : Thread nD τ) M1 fullShare X1 ∗ owns (c : Thread nD τ) M2 fullShare X2
        ∗ (∃ X, owns (c : Thread nD τ) M3 fullShare X) ∗ owns (c : Thread nD τ) M4 fullShare X4 ∗ owns (c : Thread nD τ) M5 fullShare X5
        ∗ (iprop(owns (c : Thread nD τ) M1 fullShare X1 ∗ owns (c : Thread nD τ) M2 fullShare X2
            ∗ owns (c : Thread nD τ) M3 fullShare (picks X1 X5) ∗ owns (c : Thread nD τ) M4 fullShare (qsNext X1 X4)
            ∗ owns (c : Thread nD τ) M5 fullShare X5) -∗ Q ⟨⟩))
      ⊢ wp frame (wpE (defs₀ (F := F)) 𝒱₀ (c : Thread nD τ) none) Set.univ (cc0__topk_body i M1 h1 M2 h2 M3 h3 M4 h4 M5 h5) Q := by
  unfold owns
  iintro ⟨⟨%f1, %e1, H1⟩, ⟨%f2, %e2, H2⟩, ⟨%X3, %f3, %e3, H3⟩, ⟨%f4, %e4, H4⟩, ⟨%f5, %e5, H5⟩, Hk⟩
  simp only [cc0__topk_body_eq_skeleton]; unfold cc0__topk_body_skel
  simp only [k0_part1_eq_skeleton, k0_part2_eq_skeleton]; unfold k0_part1_skel k0_part2_skel
  have hc : Scalar.cmpi .ne ((Scalar.extui (Scalar.cmpi .eq (BitVec.ofNat 32 (i 0).val) 0#32) : BitVec 32)) 0#32 ≠ 1#1 := by
    have h4 : (i 0).val < 4 := (i 0).isLt
    generalize (i 0).val = n at hi h4
    interval_cases n <;> revert hi <;> decide
  sl_exec
  sl_step
  subst e1
  subst e2
  subst e4
  subst e5
  iapply Hk
  isplitl [H1]
  · iexists f1; isplitr [H1]
    · ipureintro; rfl
    · iexact H1
  isplitl [H2]
  · iexists f2; isplitr [H2]
    · ipureintro; rfl
    · iexact H2
  isplitl [H3]
  · iexists _; isplitr [H3]; rotate_left
    · iexact H3
    · ipureintro
      refine (read_writes_full _ _ _ zero2 _ _ _).trans ?_
      dsimp only
      unfold body_next.sl.v14 body_next.sl.cst_28 picks colV
      rw [readAt_full M1.view f1 ![0, 0] zero2 _, readAt_full M5.view f5 ![0, 0] zero2 _]
  isplitl [H4]
  · iexists _; isplitr [H4]; rotate_left
    · iexact H4
    · ipureintro
      refine (read_writes_full _ _ _ zero2 _ _ _).trans ?_
      dsimp only
      rw [readAt_full M1.view f1 ![0, 0] zero2 _, readAt_full M4.view f4 ![0, 0] zero2 _]
      rfl
  · iexists f5; isplitr [H5]
    · ipureintro; rfl
    · iexact H5

end Body

/-! ## The region's proof data -/

section Dat0
variable (V : (c : Dev nD) → (b : Ref sig .tc) → Buf (Elt F) ((c : Thread nD τ).loc b)) (c : Dev nD)

/-- The queries of block `t`. -/
def qBlk (t : Fin cfg0.N) : Vec F S256x128 .f32 := ((cfg0.win 0).blk t).view.read (Elt F) (V c main_arg0)
/-- The keys. -/
def kBlk (t : Fin cfg0.N) : Vec F S8192x128 .f32 := ((cfg0.win 1).blk t).view.read (Elt F) (V c main_arg1)
/-- The normalized keys the scratch holds. -/
def knV : FVec F S8192x128 .f32 := knOf (kBlk V c t0_0)
/-- The sum of the normalized queries of the blocks up to `n`. -/
def qsAt : (n : ℕ) → n < cfg0.N → FVec F S1x128 .f32
  | 0, h => qsNext (qBlk V c ⟨0, h⟩) k0_pay4
  | n + 1, h => qsNext (qBlk V c ⟨n + 1, h⟩) (qsAt n (Nat.lt_of_succ_lt h))

/-- The scoped buffers the first call leaves alone. -/
def rest0 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f)
    ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))

/-- The scratch: at something before the first block, at the normalized keys after it. -/
def Φ0 (n : ℕ) : sProp 𝕄 :=
  iprop((∃ X, ⌜n ≠ 0 → X = knV V c⌝ ∗ owns (c : Thread nD τ) (Memref.whole cc0_scratch0) fullShare X) ∗ rest0 c)

def dat0 : Dat τ (Elt F) (HIx 1) ℕ UU ℕ cfg0 c where
  A w := V c (Pipeline.arrRef spec0 w)
  after w t := match w with
    | ⟨0, _⟩ => qBlk V c t
    | ⟨1, _⟩ => kBlk V c t
    | ⟨2, _⟩ => picks (qBlk V c t) (knV V c)
    | ⟨3, _⟩ => qsAt V c t.val t.isLt
  Φ t := Φ0 V c t.val
  q _ := fullShare
  owed _ := (K (F := F)).Otc c 0
  recorded _ := {p | (K (F := F)).lev ((c : Thread nD τ), p.1) p.2 ≤ 8 * SparseCore.Cfg.Blocks.fst 1 1 0}

theorem coords0 : ∀ t : Fin grid0.N, (grid0.coords t 0).val = t.val := by decide

theorem before0_0 (t : Fin cfg0.N) (d) : (dat0 V c).before 0 t d = qBlk V c t :=
  ((dat0 V c).before_fetched 0 t (fetch0_0 t) d).trans rfl

theorem before0_1 (t : Fin cfg0.N) (d) : (dat0 V c).before 1 t d = kBlk V c t :=
  ((dat0 V c).before_in_eq_fetched 1 rfl (fun _ => rfl) (fun _ _ _ => rfl) (fun _ => rfl) t d).trans rfl

theorem before0_3 (t : Fin cfg0.N) (ht : t.val ≠ 0) (d) :
    (dat0 V c).before 3 t d = qsAt V c (t.val - 1) (Nat.lt_of_le_of_lt (Nat.sub_le _ _) t.isLt) :=
  ((dat0 V c).before_out_kept 3 rfl t ht (by
    have h4 : t.val < 4 := N_0 ▸ t.isLt
    rw [Bool.eq_false_iff]
    intro h
    have := (flush0_3 ⟨t.val - 1, Nat.lt_of_le_of_lt (Nat.sub_le _ _) t.isLt⟩).mp h
    have h' : (t.val - 1) % 4 = 3 := this
    omega) (fun _ => rfl) (fun _ _ => rfl) d).trans rfl

theorem qsAt_step (t : Fin cfg0.N) (ht : t.val ≠ 0) :
    qsAt V c t.val t.isLt = qsNext (qBlk V c t) (qsAt V c (t.val - 1) (Nat.lt_of_le_of_lt (Nat.sub_le _ _) t.isLt)) := by
  obtain ⟨n, hn⟩ := t
  cases n with
  | zero => exact absurd rfl ht
  | succ n => rfl

theorem body_point (t : Fin cfg0.N) :
    iprop(Φ0 V c t.val ∗ (dat0 V c).owesAt none t.castSucc
        ∗ (∃ d, owns (c : Thread nD τ) (st0_0 t) fullShare ((dat0 V c).before 0 t d)) ∗ (∃ d, owns (c : Thread nD τ) (st0_1 t) fullShare ((dat0 V c).before 1 t d))
        ∗ (∃ d, owns (c : Thread nD τ) (st0_2 t) fullShare ((dat0 V c).before 2 t d)) ∗ (∃ d, owns (c : Thread nD τ) (st0_3 t) fullShare ((dat0 V c).before 3 t d)))
      ⊢ wp frame (wpE (defs₀ (F := F)) 𝒱₀ (c : Thread nD τ) none) Set.univ (bodyAt0 t) fun _ =>
        iprop(Φ0 V c (t.val + 1) ∗ (dat0 V c).owesAt none t.castSucc
          ∗ owns (c : Thread nD τ) (st0_0 t) fullShare (qBlk V c t) ∗ owns (c : Thread nD τ) (st0_1 t) fullShare (kBlk V c t)
          ∗ owns (c : Thread nD τ) (st0_2 t) fullShare (picks (qBlk V c t) (knV V c)) ∗ owns (c : Thread nD τ) (st0_3 t) fullShare (qsAt V c t.val t.isLt)) := by
  unfold Φ0
  by_cases ht : t.val = 0
  · have e : t = t0_0 := Fin.ext ht
    refine BIBase.Entails.trans ?_ (body_first c (grid0.coords t) _ _ _ _ _ _ _ _ _ _ (qBlk V c t) (kBlk V c t) ((coords0 t).trans ht) _)
    iintro ⟨⟨⟨%X5, %hX5, H5⟩, HR⟩, HO, ⟨%d0, H1⟩, ⟨%d1, H2⟩, ⟨%d2, H3⟩, ⟨%d3, H4⟩⟩
    rw [before0_0, before0_1]
    isplitl [H1]; · iexact H1
    isplitl [H2]; · iexact H2
    isplitl [H3]; · iexists _; iexact H3
    isplitl [H4]; · iexists _; iexact H4
    isplitl [H5]; · iexists _; iexact H5
    iintro ⟨H1, H2, H3, H4, H5⟩
    isplitl [H5 HR]
    · isplitl [H5]
      · iexists _; isplitr [H5]; rotate_left
        · iexact H5
        · ipureintro; intro _; rw [e]; rfl
      · iexact HR
    isplitl [HO]; · iexact HO
    isplitl [H1]; · iexact H1
    isplitl [H2]; · iexact H2
    isplitl [H3]
    · subst e; iexact H3
    · subst e; iexact H4
  · refine BIBase.Entails.trans ?_ (body_next c (grid0.coords t) _ _ _ _ _ _ _ _ _ _ (qBlk V c t) (kBlk V c t)
      (qsAt V c (t.val - 1) (Nat.lt_of_le_of_lt (Nat.sub_le _ _) t.isLt)) (knV V c) (by rw [coords0 t]; exact ht) _)
    iintro ⟨⟨⟨%X5, %hX5, H5⟩, HR⟩, HO, ⟨%d0, H1⟩, ⟨%d1, H2⟩, ⟨%d2, H3⟩, ⟨%d3, H4⟩⟩
    rw [before0_0, before0_1, before0_3 V c t ht]
    obtain rfl := hX5 ht
    isplitl [H1]; · iexact H1
    isplitl [H2]; · iexact H2
    isplitl [H3]; · iexists _; iexact H3
    isplitl [H4]; · iexact H4
    isplitl [H5]; · iexact H5
    iintro ⟨H1, H2, H3, H4, H5⟩
    isplitl [H5 HR]
    · isplitl [H5]
      · iexists _; isplitr [H5]; rotate_left
        · iexact H5
        · ipureintro; intro _; rfl
      · iexact HR
    isplitl [HO]; · iexact HO
    isplitl [H1]; · iexact H1
    isplitl [H2]; · iexact H2
    isplitl [H3]
    · iexact H3
    · rw [qsAt_step V c t ht]; iexact H4

theorem body_obligation0 : BodyObligation (dat0 V c) (defs₀ (F := F)) 𝒱₀ none Set.univ := fun t => by
  rw [bigSep_W0, bigSep_W0]
  exact body_point V c t

end Dat0

end Cert.Proof.Sc

end
-- ==== Proof.Finish.lean ====
/-
  The last TensorCore call: the histogram's rows added, the eight largest (count, lowest id) keys picked, the eight
  prompts gathered into a tile by eight copies, the loss summed, the tile repeated and copied out eight times.
-/
module

public import proofs.«01_k».proof.Proof.Topk
public import Idealize.ShloMosaic.Lib.Batch
public import Idealize.ShloMosaic.Lib.ShareLeaves

@[expose] public section

noncomputable section

namespace Cert.Proof.Sc

open Cert.KernelIdeal Cert.KernelIdeal.Gen
open Idealize.ShloMosaic Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The counters' place in the resource algebra. -/
abbrev EC : UEmb Counters (MT nD τ sig (HIx 1) (Elt F) ℕ UU ℕ) := countersEmb (U := UU)

/-! ## The eight keys picked -/

section Keys
variable (h : Vec F S32x8192 .i32)

/-- The one entry of a 1×1×1 block. -/
def ex (v : IVec S1x1x1 32) : BitVec 32 := extractAt ![0, 0, 0] v inpos_S1x1x1_p0_0_0

def w72 : IVec S64x128 32 := k2_pay9 (k2_pay3 h)
def w96 : IVec S64x128 32 := k2_pay11 (w72 h)
def m1 : BitVec 32 := ex (k2_pay2 h)
def m2 : BitVec 32 := ex (k2_pay5 (k2_pay3 h))
def m3 : BitVec 32 := ex (k2_pay8 (k2_pay3 h))
def m4 : BitVec 32 := ex (k2_pay10 (w72 h))
def m5 : BitVec 32 := ex (k2_pay13 (w72 h))
def m6 : BitVec 32 := ex (k2_pay16 (w96 h) (m5 h))
def w144 : IVec S64x128 32 := k2_pay17 (w96 h) (m5 h)
def m7 : BitVec 32 := ex (k2_pay19 (w144 h))
def m8 : BitVec 32 := ex (k2_pay21 (w144 h))

/-- Every id the picks name is one of the 8192. -/
def Chk : Prop :=
  k2_chk1 (m1 h) ∧ k2_chk2 (m2 h) ∧ k2_chk3 (m3 h) ∧ k2_chk4 (m4 h) ∧ k2_chk5 (m5 h) ∧ k2_chk6 (m6 h) ∧ k2_chk7 (m7 h) ∧ k2_chk8 (m8 h)

end Keys

theorem chk_of (P : BitVec 32 → Prop) {m m' : BitVec 32} (h : P m) (e : m' = m) : P m' := e ▸ h

theorem rowIn (i : Fin 8) : ∀ a, (![0, 4 * i.val, 0] : Fin 3 → ℕ) a + S1x4x768.size a ≤ S1x32x768.size a := by
  have := i.isLt; intro a; fin_cases a
  · show 0 + 1 ≤ 1; omega
  · show 4 * i.val + 4 ≤ 32; omega
  · show 0 + 768 ≤ 768; omega

/-- Rows `4i … 4i+3` of the tile. -/
def tSl (i : Fin 8) : Memref sig .tc .vmem S1x4x768 .f32 :=
  (Memref.whole cc2_scratch0).slice (Rect.unit (s := S1x32x768) ![0, 4 * i.val, 0] S1x4x768.size (rowIn i)) (fun _ => rfl)

/-- The prompt an offset names. -/
def pSl (off : Fin 3 → ℕ) (hin : ∀ a, off a + S1x4x768.size a ≤ S8192x4x768.size a) : Memref sig .tc .hbm S1x4x768 .f32 :=
  (Memref.whole main_arg2).slice (Rect.unit (s := S8192x4x768) off S1x4x768.size hin) (fun _ => rfl)

theorem blkIn (i : Fin 8) : ∀ a, (![128 * i.val, 0, 0] : Fin 3 → ℕ) a + S128x32x768.size a ≤ S1024x32x768.size a := by
  have := i.isLt; intro a; fin_cases a
  · show 128 * i.val + 128 ≤ 1024; omega
  · show 0 + 32 ≤ 32; omega
  · show 0 + 768 ≤ 768; omega

/-- Rows `128i … 128i+127` of the result. -/
def oSl (i : Fin 8) : Memref sig .tc .hbm S128x32x768 .f32 :=
  (Memref.whole main_v3_1).slice (Rect.unit (s := S1024x32x768) ![128 * i.val, 0, 0] S128x32x768.size (blkIn i)) (fun _ => rfl)

/-! ## Eight pieces and the whole -/

/-- The tile put together from its eight pieces. -/
def tileOf (v : Fin 8 → S1x4x768.Idx → Elt F .f32) : S1x32x768.Idx → Elt F .f32 := fun j =>
  v ⟨(j 1).val / 4, by have : (j 1).val < 32 := (j 1).isLt; omega⟩ (ix3 (n0 := 1) (n1 := 4) (n2 := 768) 0 ⟨(j 1).val % 4, Nat.mod_lt _ (by decide)⟩ (j 2))

/-- The result put together from eight copies of one block. -/
def outOf (w : S128x32x768.Idx → Elt F .f32) : S1024x32x768.Idx → Elt F .f32 := fun j =>
  w (ix3 (n0 := 128) (n1 := 32) (n2 := 768) ⟨(j 0).val % 128, Nat.mod_lt _ (by decide)⟩ (j 1) (j 2))

abbrev tSet (i : Fin 8) : Finset S1x32x768.Idx := (tSl i).view.set
abbrev oSet (i : Fin 8) : Finset S1024x32x768.Idx := (oSl i).view.set

theorem tSl_set (i : Fin 8) : tSet i = (Rect.unit (s := S1x32x768) ![0, 4 * i.val, 0] S1x4x768.size (rowIn i)).set :=
  View.set_slice_whole (cc2_scratch0 : Ref sig .tc) _
theorem oSl_set (i : Fin 8) : oSet i = (Rect.unit (s := S1024x32x768) ![128 * i.val, 0, 0] S128x32x768.size (blkIn i)).set :=
  View.set_slice_whole (main_v3_1 : Ref sig .tc) _

theorem tSl_mem (i : Fin 8) (j : S1x32x768.Idx) :
    j ∈ (Rect.unit (s := S1x32x768) ![0, 4 * i.val, 0] S1x4x768.size (rowIn i)).set ↔ (j 1).val / 4 = i.val := by
  rw [Rect.mem_set_unit]
  constructor
  · intro h
    have : 4 * i.val ≤ (j 1).val ∧ (j 1).val < 4 * i.val + 4 := h 1
    omega
  · intro h a
    match a with
    | ⟨0, _⟩ => show 0 ≤ (j 0).val ∧ (j 0).val < 0 + 1; have : (j 0).val < 1 := (j 0).isLt; omega
    | ⟨1, _⟩ => show 4 * i.val ≤ (j 1).val ∧ (j 1).val < 4 * i.val + 4; omega
    | ⟨2, _⟩ => show 0 ≤ (j 2).val ∧ (j 2).val < 0 + 768; have : (j 2).val < 768 := (j 2).isLt; omega

theorem oSl_mem (i : Fin 8) (j : S1024x32x768.Idx) :
    j ∈ (Rect.unit (s := S1024x32x768) ![128 * i.val, 0, 0] S128x32x768.size (blkIn i)).set ↔ (j 0).val / 128 = i.val := by
  rw [Rect.mem_set_unit]
  constructor
  · intro h
    have : 128 * i.val ≤ (j 0).val ∧ (j 0).val < 128 * i.val + 128 := h 0
    omega
  · intro h a
    match a with
    | ⟨0, _⟩ => show 128 * i.val ≤ (j 0).val ∧ (j 0).val < 128 * i.val + 128; omega
    | ⟨1, _⟩ => show 0 ≤ (j 1).val ∧ (j 1).val < 0 + 32; have : (j 1).val < 32 := (j 1).isLt; omega
    | ⟨2, _⟩ => show 0 ≤ (j 2).val ∧ (j 2).val < 0 + 768; have : (j 2).val < 768 := (j 2).isLt; omega

theorem tile_pieces (c : Dev nD) (f : Buf (Elt F) ((c : Thread nD τ).loc cc2_scratch0)) :
    ((c : Thread nD τ).loc cc2_scratch0 ↦{fullShare} f : sProp 𝕄)
      = bigSep Finset.univ fun i : Fin 8 => (c : Thread nD τ).loc cc2_scratch0 ↦[tSet i]{fullShare} f := by
  rw [← pointsTo_biUnion Finset.univ (ℓ := (c : Thread nD τ).loc cc2_scratch0) tSet (fun t _ t' _ h => by
      rw [tSl_set, tSl_set, Finset.disjoint_left]
      intro j h1 h2
      rw [tSl_mem] at h1 h2
      exact h (Fin.ext (h1.symm.trans h2))),
    show Finset.univ.biUnion tSet = Finset.univ from by
      refine Finset.eq_univ_iff_forall.mpr fun j => Finset.mem_biUnion.mpr ?_
      have hj : ((j : S1x32x768.Idx) 1).val < 32 := ((j : S1x32x768.Idx) 1).isLt
      refine ⟨⟨((j : S1x32x768.Idx) 1).val / 4, by omega⟩, Finset.mem_univ _, ?_⟩
      rw [tSl_set]; exact (tSl_mem _ j).mpr rfl]

theorem out_pieces (c : Dev nD) (f : Buf (Elt F) ((c : Thread nD τ).loc main_v3_1)) :
    ((c : Thread nD τ).loc main_v3_1 ↦{fullShare} f : sProp 𝕄)
      = bigSep Finset.univ fun i : Fin 8 => (c : Thread nD τ).loc main_v3_1 ↦[oSet i]{fullShare} f := by
  rw [← pointsTo_biUnion Finset.univ (ℓ := (c : Thread nD τ).loc main_v3_1) oSet (fun t _ t' _ h => by
      rw [oSl_set, oSl_set, Finset.disjoint_left]
      intro j h1 h2
      rw [oSl_mem] at h1 h2
      exact h (Fin.ext (h1.symm.trans h2))),
    show Finset.univ.biUnion oSet = Finset.univ from by
      refine Finset.eq_univ_iff_forall.mpr fun j => Finset.mem_biUnion.mpr ?_
      have hj : ((j : S1024x32x768.Idx) 0).val < 1024 := ((j : S1024x32x768.Idx) 0).isLt
      refine ⟨⟨((j : S1024x32x768.Idx) 0).val / 128, by omega⟩, Finset.mem_univ _, ?_⟩
      rw [oSl_set]; exact (oSl_mem _ j).mpr rfl]

theorem tileOf_at (v : Fin 8 → S1x4x768.Idx → Elt F .f32) (i : Fin 8) (y : S1x32x768.Idx) (x : S1x4x768.Idx)
    (e1 : (y 1).val = 4 * i.val + 1 * (x 1).val) (e2 : (y 2).val = 0 + 1 * (x 2).val) : tileOf v y = v i x := by
  have hx0 : (x 0).val < 1 := (x 0).isLt
  have hx1 : (x 1).val < 4 := (x 1).isLt
  have hy1 : (y 1).val < 32 := (y 1).isLt
  have ei : (⟨(y 1).val / 4, by omega⟩ : Fin 8) = i := Fin.ext (show (y 1).val / 4 = i.val by omega)
  have ex : (ix3 (n0 := 1) (n1 := 4) (n2 := 768) 0 ⟨(y 1).val % 4, Nat.mod_lt _ (by decide)⟩ (y 2) : S1x4x768.Idx) = x := by
    funext a
    match a with
    | ⟨0, _⟩ => exact Fin.ext (show 0 = (x 0).val by omega)
    | ⟨1, _⟩ => exact Fin.ext (show (y 1).val % 4 = (x 1).val by omega)
    | ⟨2, _⟩ => exact Fin.ext (show (y 2).val = (x 2).val by omega)
  exact (congrArg (fun k : Fin 8 => v k _) ei).trans (congrArg (v i) ex)

theorem outOf_at (w : S128x32x768.Idx → Elt F .f32) (i : Fin 8) (y : S1024x32x768.Idx) (x : S128x32x768.Idx)
    (e0 : (y 0).val = 128 * i.val + 1 * (x 0).val) (e1 : (y 1).val = 0 + 1 * (x 1).val) (e2 : (y 2).val = 0 + 1 * (x 2).val) : outOf w y = w x := by
  have hx0 : (x 0).val < 128 := (x 0).isLt
  refine congrArg w (funext fun a => ?_)
  match a with
  | ⟨0, _⟩ => exact Fin.ext (show (y 0).val % 128 = (x 0).val by omega)
  | ⟨1, _⟩ => exact Fin.ext (show (y 1).val = (x 1).val by omega)
  | ⟨2, _⟩ => exact Fin.ext (show (y 2).val = (x 2).val by omega)

/-- A tile's piece at what was copied into it. -/
theorem tile_piece (c : Dev nD) (v : Fin 8 → S1x4x768.Idx → Elt F .f32) (i : Fin 8) (f : Buf (Elt F) ((tSl i).view.loc (c : Thread nD τ))) :
    ((tSl i).view.loc (c : Thread nD τ) ↦[(tSl i).view.set]{fullShare} (tSl i).view.writes (Elt F) f [⟨Rect.whole S1x4x768, v i⟩] : sProp 𝕄)
      = ((c : Thread nD τ).loc cc2_scratch0 ↦[tSet i]{fullShare} (tileOf v : S1x32x768.Idx → Elt F .f32)) := by
  refine pointsTo_congr fun j hj => ?_
  obtain ⟨x, -, rfl⟩ := Finset.mem_map.mp hj
  have h1 : (tSl i).view.read (Elt F) ((tSl i).view.writes (Elt F) f [⟨Rect.whole S1x4x768, v i⟩]) x = v i x :=
    View.read_writes_cons_hit_of_coords (tSl i).view f (Rect.whole S1x4x768) (v i) [] x x
      fun a => show (x a).val = 0 + 1 * (x a).val by omega
  have h2 : tileOf v (show S1x32x768.Idx from (tSl i).view.emb x) = v i x :=
    tileOf_at v i _ x (show _ = 4 * i.val + 1 * (x 1).val from rfl) (show _ = 0 + 1 * (x 2).val from rfl)
  generalize (tSl i).view.writes (Elt F) f [⟨Rect.whole S1x4x768, v i⟩] = g at h1 ⊢
  rw [View.read_apply] at h1
  exact ((cast_eq _ _).symm.trans h1).trans h2.symm

/-- A block of the result at what was copied into it. -/
theorem out_piece (c : Dev nD) (w : S128x32x768.Idx → Elt F .f32) (i : Fin 8) (f : Buf (Elt F) ((oSl i).view.loc (c : Thread nD τ))) :
    ((oSl i).view.loc (c : Thread nD τ) ↦[(oSl i).view.set]{fullShare} (oSl i).view.writes (Elt F) f [⟨Rect.whole S128x32x768, w⟩] : sProp 𝕄)
      = ((c : Thread nD τ).loc main_v3_1 ↦[oSet i]{fullShare} (outOf w : S1024x32x768.Idx → Elt F .f32)) := by
  refine pointsTo_congr fun j hj => ?_
  obtain ⟨x, -, rfl⟩ := Finset.mem_map.mp hj
  have h1 : (oSl i).view.read (Elt F) ((oSl i).view.writes (Elt F) f [⟨Rect.whole S128x32x768, w⟩]) x = w x :=
    View.read_writes_cons_hit_of_coords (oSl i).view f (Rect.whole S128x32x768) w [] x x
      fun a => show (x a).val = 0 + 1 * (x a).val by omega
  have h2 : outOf w (show S1024x32x768.Idx from (oSl i).view.emb x) = w x :=
    outOf_at w i _ x (show _ = 128 * i.val + 1 * (x 0).val from rfl) (show _ = 0 + 1 * (x 1).val from rfl) (show _ = 0 + 1 * (x 2).val from rfl)
  generalize (oSl i).view.writes (Elt F) f [⟨Rect.whole S128x32x768, w⟩] = g at h1 ⊢
  rw [View.read_apply] at h1
  exact ((cast_eq _ _).symm.trans h1).trans h2.symm

section Body
variable (c : Dev nD)
  (M0 : Memref sig .tc .vmem S32x8192 .i32) (h0 : M0.IsWhole) (M1 : Memref sig .tc .vmem S8192x128 .f32) (h1 : M1.IsWhole)
  (M2 : Memref sig .tc .vmem S1x128 .f32) (h2 : M2.IsWhole) (M4 : Memref sig .tc .vmem S1x1 .f32) (h4 : M4.IsWhole)
  (X0 : S32x8192.Idx → Elt F .i32) (X1 : S8192x128.Idx → Elt F .f32) (X2 : S1x128.Idx → Elt F .f32)

/-- Eight conjuncts one by one. -/
theorem bigSep_8 {M : Type} [URA M] (Φ : Fin 8 → sProp M) : bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_univ_eq_bigSepL [(0 : Fin 8), 1, 2, 3, 4, 5, 6, 7] (by decide) (by decide) Φ

/-- What a gather copy delivers. -/
def dIn (off : Fin 8 → Fin 3 → ℕ) (hin : ∀ i a, off i a + S1x4x768.size a ≤ S8192x4x768.size a) (q : Fin 8 → PosShare TreeShare)
    (fp : (i : Fin 8) → Buf (Elt F) ((pSl (off i) (hin i)).view.loc (c : Thread nD τ))) (ft : (i : Fin 8) → Buf (Elt F) ((tSl i).view.loc (c : Thread nD τ))) (i : Fin 8) : sProp 𝕄 :=
  iprop(((tSl i).view.loc (c : Thread nD τ) ↦[(tSl i).view.set]{fullShare}
        (tSl i).view.writes (Elt F) (ft i) [⟨Rect.whole S1x4x768, ReadAs.same.apply ((pSl (off i) (hin i)).view.read (Elt F) (fp i))⟩])
    ∗ ((pSl (off i) (hin i)).view.loc (c : Thread nD τ) ↦[(pSl (off i) (hin i)).view.set]{q i} fp i))

instance dIn_storable (off : Fin 8 → Fin 3 → ℕ) (hin : ∀ i a, off i a + S1x4x768.size a ≤ S8192x4x768.size a) (q : Fin 8 → PosShare TreeShare)
    (fp : (i : Fin 8) → Buf (Elt F) ((pSl (off i) (hin i)).view.loc (c : Thread nD τ))) (ft : (i : Fin 8) → Buf (Elt F) ((tSl i).view.loc (c : Thread nD τ))) (i : Fin 8) :
    BI.Storable (upEmb : UEmb _ 𝕄) (dIn c off hin q fp ft i) := by
  unfold dIn; infer_instance

/-- What a copy out delivers. -/
def dOut (q : Fin 8 → PosShare TreeShare) (fb : Buf (Elt F) ((Memref.whole cc2_scratch1).view.loc (c : Thread nD τ)))
    (fo : (i : Fin 8) → Buf (Elt F) ((oSl i).view.loc (c : Thread nD τ))) (i : Fin 8) : sProp 𝕄 :=
  iprop(((oSl i).view.loc (c : Thread nD τ) ↦[(oSl i).view.set]{fullShare}
        (oSl i).view.writes (Elt F) (fo i) [⟨Rect.whole S128x32x768, ReadAs.same.apply ((Memref.whole cc2_scratch1).view.read (Elt F) fb)⟩])
    ∗ ((Memref.whole cc2_scratch1).view.loc (c : Thread nD τ) ↦[(Memref.whole cc2_scratch1).view.set]{q i} fb))

instance dOut_storable (q : Fin 8 → PosShare TreeShare) (fb : Buf (Elt F) ((Memref.whole cc2_scratch1).view.loc (c : Thread nD τ)))
    (fo : (i : Fin 8) → Buf (Elt F) ((oSl i).view.loc (c : Thread nD τ))) (i : Fin 8) :
    BI.Storable (upEmb : UEmb _ 𝕄) (dOut c q fb fo i) := by
  unfold dOut; infer_instance

theorem tile_join (v : Fin 8 → S1x4x768.Idx → Elt F .f32) (ft : (i : Fin 8) → Buf (Elt F) ((tSl i).view.loc (c : Thread nD τ))) :
    (bigSep Finset.univ fun i : Fin 8 => (tSl i).view.loc (c : Thread nD τ) ↦[(tSl i).view.set]{fullShare} (tSl i).view.writes (Elt F) (ft i) [⟨Rect.whole S1x4x768, v i⟩] : sProp 𝕄)
      = ((Memref.whole cc2_scratch0).view.loc (c : Thread nD τ) ↦[(Memref.whole cc2_scratch0).view.set]{fullShare} (tileOf v : S1x32x768.Idx → Elt F .f32)) := by
  rw [show (fun i : Fin 8 => ((tSl i).view.loc (c : Thread nD τ) ↦[(tSl i).view.set]{fullShare} (tSl i).view.writes (Elt F) (ft i) [⟨Rect.whole S1x4x768, v i⟩] : sProp 𝕄))
      = fun i : Fin 8 => ((c : Thread nD τ).loc cc2_scratch0 ↦[tSet i]{fullShare} (tileOf v : S1x32x768.Idx → Elt F .f32))
    from funext fun i => tile_piece c v i (ft i)]
  refine (tile_pieces c _).symm.trans ?_
  simp only [Memref.view_whole, View.set_whole]

theorem out_join (w : S128x32x768.Idx → Elt F .f32) (fo : (i : Fin 8) → Buf (Elt F) ((oSl i).view.loc (c : Thread nD τ))) :
    (bigSep Finset.univ fun i : Fin 8 => (oSl i).view.loc (c : Thread nD τ) ↦[(oSl i).view.set]{fullShare} (oSl i).view.writes (Elt F) (fo i) [⟨Rect.whole S128x32x768, w⟩] : sProp 𝕄)
      = ((c : Thread nD τ).loc main_v3_1 ↦{fullShare} (outOf w : S1024x32x768.Idx → Elt F .f32)) := by
  rw [show (fun i : Fin 8 => ((oSl i).view.loc (c : Thread nD τ) ↦[(oSl i).view.set]{fullShare} (oSl i).view.writes (Elt F) (fo i) [⟨Rect.whole S128x32x768, w⟩] : sProp 𝕄))
      = fun i : Fin 8 => ((c : Thread nD τ).loc main_v3_1 ↦[oSet i]{fullShare} (outOf w : S1024x32x768.Idx → Elt F .f32))
    from funext fun i => out_piece c w i (fo i)]
  exact (out_pieces c _).symm

/-- One of eight equal shares. -/
def lf (q : PosShare TreeShare) (i : Fin 8) : PosShare TreeShare := ShareLeaves.leaf 3 q i

theorem bcast_leaves (f : Buf (Elt F) ((Memref.whole cc2_scratch1).view.loc (c : Thread nD τ))) :
    ((Memref.whole cc2_scratch1).view.loc (c : Thread nD τ) ↦[(Memref.whole cc2_scratch1).view.set]{fullShare} f : sProp 𝕄)
      = bigSep Finset.univ fun i : Fin 8 => (Memref.whole cc2_scratch1).view.loc (c : Thread nD τ) ↦[(Memref.whole cc2_scratch1).view.set]{lf fullShare i} f :=
  ShareLeaves.pointsTo_leaves _ f 3 fullShare

/-- The eight ids' offsets. -/
def offs (h : Vec F S32x8192 .i32) (i : Fin 8) : Fin 3 → ℕ :=
  match i with
  | 0 => k2_off1 (m1 h) | 1 => k2_off3 (m2 h) | 2 => k2_off5 (m3 h) | 3 => k2_off7 (m4 h)
  | 4 => k2_off9 (m5 h) | 5 => k2_off11 (m6 h) | 6 => k2_off13 (m7 h) | 7 => k2_off15 (m8 h)

theorem offs_in (h : Vec F S32x8192 .i32) (hc : Chk h) (i : Fin 8) : ∀ a, offs h i a + S1x4x768.size a ≤ S8192x4x768.size a := by
  obtain ⟨h1, h2, h3, h4, h5, h6, h7, h8⟩ := hc
  fin_cases i
  · exact k2_off1_inb _ h1
  · exact k2_off3_inb _ h2
  · exact k2_off5_inb _ h3
  · exact k2_off7_inb _ h4
  · exact k2_off9_inb _ h5
  · exact k2_off11_inb _ h6
  · exact k2_off13_inb _ h7
  · exact k2_off15_inb _ h8

abbrev semIn : SemLoc sig := .dma cc2_scratch2.sem
abbrev semOut : SemLoc sig := .dma cc2_scratch3.sem

/-- One row of the keys. -/
def rAt (X1 : S8192x128.Idx → Elt F .f32) (off : Fin 2 → ℕ) (hin : ∀ a, off a + S1x128.size a ≤ S8192x128.size a) : Vec F S1x128 .f32 :=
  fun x => X1 ((Rect.unit (s := S8192x128) off S1x128.size hin).emb x)

/-- The loss the call writes. -/
def lossV (hc : Chk X0) : Vec F S1x1 .f32 :=
  let r6 := rAt X1 (k2_off12 (m6 X0)) (k2_off12_inb _ hc.2.2.2.2.2.1)
  k2_pay22
    (k2_pay20
      (k2_pay15
        (k2_pay12 (k2_pay7 (k2_pay4 (rAt X1 (k2_off2 (m1 X0)) (k2_off2_inb _ hc.1))) (rAt X1 (k2_off4 (m2 X0)) (k2_off4_inb _ hc.2.1)))
          (rAt X1 (k2_off6 (m3 X0)) (k2_off6_inb _ hc.2.2.1)) (rAt X1 (k2_off8 (m4 X0)) (k2_off8_inb _ hc.2.2.2.1)))
        (rAt X1 (k2_off10 (m5 X0)) (k2_off10_inb _ hc.2.2.2.2.1)))
      r6 (k2_pay18 r6) (rAt X1 (k2_off14 (m7 X0)) (k2_off14_inb _ hc.2.2.2.2.2.2.1)))
    (rAt X1 (k2_off16 (m8 X0)) (k2_off16_inb _ hc.2.2.2.2.2.2.2)) X2

/-- The eight prompts the gather copies read. -/
def rowsV (hc : Chk X0) (P : S8192x4x768.Idx → Elt F .f32) (i : Fin 8) : S1x4x768.Idx → Elt F .f32 :=
  ReadAs.same.apply ((pSl (offs X0 i) (offs_in X0 hc i)).view.read (Elt F) P)

/-- The result the call writes. -/
def outV (hc : Chk X0) (P : S8192x4x768.Idx → Elt F .f32) : S1024x32x768.Idx → Elt F .f32 :=
  outOf (k2_pay23 (tileOf (rowsV X0 hc P)))

def fpOf (hc : Chk X0) (P : S8192x4x768.Idx → Elt F .f32) (i : Fin 8) : Buf (Elt F) ((pSl (offs X0 i) (offs_in X0 hc i)).view.loc (c : Thread nD τ)) := P
def ftOf (f : Buf (Elt F) ((c : Thread nD τ).loc cc2_scratch0)) (i : Fin 8) : Buf (Elt F) ((tSl i).view.loc (c : Thread nD τ)) := f
def foOf (f : Buf (Elt F) ((c : Thread nD τ).loc main_v3_1)) (i : Fin 8) : Buf (Elt F) ((oSl i).view.loc (c : Thread nD τ)) := f

/-- A tile's piece with its prompt landed. -/
abbrev tilePart (hc : Chk X0) (P : S8192x4x768.Idx → Elt F .f32) (ft : Buf (Elt F) ((c : Thread nD τ).loc cc2_scratch0)) (i : Fin 8) : sProp 𝕄 :=
  iprop((tSl i).view.loc (c : Thread nD τ) ↦[(tSl i).view.set]{fullShare} (tSl i).view.writes (Elt F) (ftOf c ft i) [⟨Rect.whole S1x4x768, rowsV X0 hc P i⟩])

/-- A block of the result with the repeated tile landed, and a copy's share of the repeated tile. -/
abbrev outPart (fo : Buf (Elt F) ((c : Thread nD τ).loc main_v3_1)) (Y : S128x32x768.Idx → Elt F .f32) (i : Fin 8) : sProp 𝕄 :=
  iprop((oSl i).view.loc (c : Thread nD τ) ↦[(oSl i).view.set]{fullShare} (oSl i).view.writes (Elt F) (foOf c fo i) [⟨Rect.whole S128x32x768, Y⟩])
abbrev bcPart (Y : S128x32x768.Idx → Elt F .f32) (i : Fin 8) : sProp 𝕄 :=
  iprop((Memref.whole cc2_scratch1).view.loc (c : Thread nD τ) ↦[(Memref.whole cc2_scratch1).view.set]{lf fullShare i} Y)

theorem prompts_give (hc : Chk X0) (P : S8192x4x768.Idx → Elt F .f32) :
    ((c : Thread nD τ).loc main_arg2 ↦{fullShare} (P) : sProp 𝕄)
      ⊢ iprop(((c : Thread nD τ).loc main_arg2 ↦{fullShare.left} (P))
        ∗ bigSep Finset.univ fun i : Fin 8 => (pSl (offs X0 i) (offs_in X0 hc i)).view.loc (c : Thread nD τ) ↦[(pSl (offs X0 i) (offs_in X0 hc i)).view.set]{lf fullShare.right i} fpOf c X0 hc P i) := by
  refine BIBase.Entails.trans (pointsTo_share (PosShare.mem_left_op_right fullShare)).1 ?_
  refine BI.sep_mono (BI.Entails.refl _) ?_
  rw [ShareLeaves.pointsTo_leaves Finset.univ _ 3 fullShare.right]
  refine bigSep_mono fun i _ => ?_
  refine BIBase.Entails.trans (pointsTo_split_subset (I := (pSl (offs X0 i) (offs_in X0 hc i)).view.set) (Finset.subset_univ _)).1 ?_
  iintro ⟨H, -⟩
  iexact H

theorem tile_give (f : Buf (Elt F) ((c : Thread nD τ).loc cc2_scratch0)) :
    ((c : Thread nD τ).loc cc2_scratch0 ↦{fullShare} f : sProp 𝕄)
      ⊢ bigSep Finset.univ fun i : Fin 8 => (tSl i).view.loc (c : Thread nD τ) ↦[(tSl i).view.set]{fullShare} ftOf c f i :=
  BIBase.Entails.of_eq (tile_pieces c f)

theorem out_give (f : Buf (Elt F) ((c : Thread nD τ).loc main_v3_1)) :
    ((c : Thread nD τ).loc main_v3_1 ↦{fullShare} f : sProp 𝕄)
      ⊢ bigSep Finset.univ fun i : Fin 8 => (oSl i).view.loc (c : Thread nD τ) ↦[(oSl i).view.set]{fullShare} foOf c f i :=
  BIBase.Entails.of_eq (out_pieces c f)

theorem tile_give8 (hc : Chk X0) (P : S8192x4x768.Idx → Elt F .f32) (ft : Buf (Elt F) ((c : Thread nD τ).loc cc2_scratch0)) :
    (iprop(tilePart c X0 hc P ft 0 ∗ tilePart c X0 hc P ft 1 ∗ tilePart c X0 hc P ft 2 ∗ tilePart c X0 hc P ft 3
        ∗ tilePart c X0 hc P ft 4 ∗ tilePart c X0 hc P ft 5 ∗ tilePart c X0 hc P ft 6 ∗ tilePart c X0 hc P ft 7) : sProp 𝕄)
      ⊢ ((Memref.whole cc2_scratch0).view.loc (c : Thread nD τ) ↦[(Memref.whole cc2_scratch0).view.set]{fullShare} (tileOf (rowsV X0 hc P) : S1x32x768.Idx → Elt F .f32)) :=
  BIBase.Entails.of_eq ((bigSep_8 (tilePart c X0 hc P ft)).symm.trans (tile_join c (rowsV X0 hc P) (ftOf c ft)))

theorem zero3 : ∀ a : Fin 3, (![0, 0, 0] : Fin 3 → ℕ) a = 0 := by decide

theorem bcast_writes (fb : Buf (Elt F) ((c : Thread nD τ).loc cc2_scratch1)) (Y : S128x32x768.Idx → Elt F .f32) :
    (Memref.whole cc2_scratch1).view.writes (Elt F) fb [⟨Rect.unit (s := S128x32x768) ![0, 0, 0] S128x32x768.size inb_S128x32x768_S128x32x768_0_0_0, Y⟩] = Y := by
  have h := read_writes_full (F := F) (S := S128x32x768) (e := .f32) (Memref.whole cc2_scratch1).view fb ![0, 0, 0] zero3 inb_S128x32x768_S128x32x768_0_0_0 Y []
  generalize (Memref.whole cc2_scratch1).view.writes (Elt F) fb [⟨Rect.unit (s := S128x32x768) ![0, 0, 0] S128x32x768.size inb_S128x32x768_S128x32x768_0_0_0, Y⟩] = g at h ⊢
  exact h

/-- The repeated tile as stored, one share for each copy out. -/
theorem bcast_val (fb : Buf (Elt F) ((c : Thread nD τ).loc cc2_scratch1)) (T : S1x32x768.Idx → Elt F .f32) :
    ((Memref.whole cc2_scratch1).view.loc (c : Thread nD τ) ↦[(Memref.whole cc2_scratch1).view.set]{fullShare}
        (Memref.whole cc2_scratch1).view.writes (Elt F) fb [⟨Rect.unit (s := S128x32x768) ![0, 0, 0] S128x32x768.size inb_S128x32x768_S128x32x768_0_0_0,
          k2_pay23 ((Memref.whole cc2_scratch0).view.readAt (Elt F) (Rect.unit (s := S1x32x768) ![0, 0, 0] S1x32x768.size inb_S1x32x768_S1x32x768_0_0_0).toLoadRect T)⟩] : sProp 𝕄)
      ⊢ bigSep Finset.univ fun i : Fin 8 => (Memref.whole cc2_scratch1).view.loc (c : Thread nD τ) ↦[(Memref.whole cc2_scratch1).view.set]{lf fullShare i} (k2_pay23 T) := by
  refine BIBase.Entails.of_eq ((congrArg (fun f => ((Memref.whole cc2_scratch1).view.loc (c : Thread nD τ) ↦[(Memref.whole cc2_scratch1).view.set]{fullShare} f : sProp 𝕄)) ?_).trans (bcast_leaves c (k2_pay23 T)))
  have e : (Memref.whole cc2_scratch0).view.readAt (Elt F) (Rect.unit (s := S1x32x768) ![0, 0, 0] S1x32x768.size inb_S1x32x768_S1x32x768_0_0_0).toLoadRect T = T :=
    readAt_full (Memref.whole cc2_scratch0).view T ![0, 0, 0] zero3 inb_S1x32x768_S1x32x768_0_0_0
  rw [e]
  exact bcast_writes c fb (k2_pay23 T)

theorem out_back (fo : Buf (Elt F) ((c : Thread nD τ).loc main_v3_1)) (Y : S128x32x768.Idx → Elt F .f32) :
    (iprop(outPart c fo Y 0 ∗ outPart c fo Y 1 ∗ outPart c fo Y 2 ∗ outPart c fo Y 3 ∗ outPart c fo Y 4 ∗ outPart c fo Y 5 ∗ outPart c fo Y 6 ∗ outPart c fo Y 7) : sProp 𝕄)
      ⊢ ((c : Thread nD τ).loc main_v3_1 ↦{fullShare} (outOf Y : S1024x32x768.Idx → Elt F .f32)) :=
  BIBase.Entails.of_eq ((bigSep_8 (outPart c fo Y)).symm.trans (out_join c Y (foOf c fo)))

theorem bcast_back (Y : S128x32x768.Idx → Elt F .f32) :
    (iprop(bcPart c Y 0 ∗ bcPart c Y 1 ∗ bcPart c Y 2 ∗ bcPart c Y 3 ∗ bcPart c Y 4 ∗ bcPart c Y 5 ∗ bcPart c Y 6 ∗ bcPart c Y 7) : sProp 𝕄)
      ⊢ ((c : Thread nD τ).loc cc2_scratch1 ↦{fullShare} Y) := by
  refine BIBase.Entails.trans (BIBase.Entails.of_eq ((bigSep_8 (bcPart c Y)).symm.trans (bcast_leaves c Y).symm)) ?_
  simp only [Memref.view_whole, View.set_whole]; exact BI.Entails.refl _

theorem tile_back (Y : S1x32x768.Idx → Elt F .f32) :
    ((Memref.whole cc2_scratch0).view.loc (c : Thread nD τ) ↦[(Memref.whole cc2_scratch0).view.set]{fullShare} Y : sProp 𝕄)
      ⊢ ((c : Thread nD τ).loc cc2_scratch0 ↦{fullShare} Y) := by
  simp only [Memref.view_whole, View.set_whole]; exact BI.Entails.refl _

/-- A resource set aside, -/
def kept (R : sProp 𝕄) : sProp 𝕄 := R
theorem kept_intro (R : sProp 𝕄) : R ⊢ kept R := BI.Entails.refl _
theorem kept_elim (R : sProp 𝕄) : kept R ⊢ R := BI.Entails.refl _

theorem bcast_view (f : Buf (Elt F) ((c : Thread nD τ).loc cc2_scratch1)) :
    ((c : Thread nD τ).loc cc2_scratch1 ↦{fullShare} f : sProp 𝕄)
      ⊢ ((Memref.whole cc2_scratch1).view.loc (c : Thread nD τ) ↦[(Memref.whole cc2_scratch1).view.set]{fullShare} f) := by
  simp only [Memref.view_whole, View.set_whole]; exact BI.Entails.refl _

set_option maxHeartbeats 8000000 in
theorem fin_run [∀ e, Nonempty (Elt F e)] (hc : Chk X0) (P : S8192x4x768.Idx → Elt F .f32) (W : Waits sig (HIx 1)) (Q : PUnit → sProp 𝕄) :
    iprop(owns (c : Thread nD τ) M0 fullShare X0 ∗ owns (c : Thread nD τ) M1 fullShare X1 ∗ owns (c : Thread nD τ) M2 fullShare X2
        ∗ (∃ X, owns (c : Thread nD τ) M4 fullShare X)
        ∗ ((c : Thread nD τ).loc main_arg2 ↦{fullShare} (P))
        ∗ (∃ f, (c : Thread nD τ).loc main_v3_1 ↦{fullShare} f)
        ∗ (∃ f, (c : Thread nD τ).loc cc2_scratch0 ↦{fullShare} f) ∗ (∃ f, (c : Thread nD τ).loc cc2_scratch1 ↦{fullShare} f)
        ∗ semVal ((c : Thread nD τ), semIn) 0 ∗ semVal ((c : Thread nD τ), semOut) 0 ∗ owes (c : Thread nD τ) 0 W
        ∗ (iprop(owns (c : Thread nD τ) M0 fullShare X0 ∗ owns (c : Thread nD τ) M1 fullShare X1 ∗ owns (c : Thread nD τ) M2 fullShare X2
            ∗ owns (c : Thread nD τ) M4 fullShare (lossV X0 X1 X2 hc)
            ∗ ((c : Thread nD τ).loc main_arg2 ↦{fullShare.left} (P))
            ∗ ((c : Thread nD τ).loc main_v3_1 ↦{fullShare} (outV X0 hc P))
            ∗ (∃ f, (c : Thread nD τ).loc cc2_scratch0 ↦{fullShare} f) ∗ (∃ f, (c : Thread nD τ).loc cc2_scratch1 ↦{fullShare} f)
            ∗ semVal ((c : Thread nD τ), semIn) 0 ∗ semVal ((c : Thread nD τ), semOut) 0
            ∗ ∃ W', ⌜∀ p ∈ W', p ∈ W ∨ p.2 = none⌝ ∗ owes (c : Thread nD τ) 0 W') -∗ Q ⟨⟩))
      ⊢ wp frame (wpE (defs₀ (F := F)) 𝒱₀ (c : Thread nD τ) none) Set.univ
          (cc2__finish_body M0 h0 M1 h1 M2 h2 (Memref.whole main_arg2) (Memref.isWhole_whole _) M4 h4 (Memref.whole main_v3_1) (Memref.isWhole_whole _)
            (Memref.whole cc2_scratch0) (Memref.isWhole_whole _) (Memref.whole cc2_scratch1) (Memref.isWhole_whole _) cc2_scratch2 cc2_scratch3) Q := by
  unfold owns
  iintro ⟨⟨%f0, %e0, H0⟩, ⟨%f1, %e1, H1⟩, ⟨%f2, %e2, H2⟩, ⟨%X4, %f4, %e4, H4⟩, HP, ⟨%fo, Hout⟩, ⟨%ft, HT⟩, ⟨%fb, HBc⟩, HA, HAo, HO, Hk⟩
  rw [← readAt_full M0.view f0 ![0, 0] zero2 inb_S32x8192_S32x8192_0_0] at e0
  subst e0
  ihave HP := prompts_give c _ hc P $$ HP
  icases HP with ⟨HPk, HP⟩
  ihave HT := tile_give c ft $$ HT
  ihave Hout := out_give c fo $$ Hout
  ihave HP := (BIBase.Entails.of_eq (bigSep_8 _)) $$ HP
  ihave HT := (BIBase.Entails.of_eq (bigSep_8 _)) $$ HT
  imod (Transfers.batch_alloc' (Lvl := ℕ) (EC (F := F)) (c : Thread nD τ) none ((tSl 0).view.amount semIn)
    (dIn c (offs _) (offs_in _ hc) (lf fullShare.right) (fpOf c _ hc P) (ftOf c ft)) (sm := semIn) (E := Set.univ)) $$ HA with HB
  obtain ⟨hc1, hc2, hc3, hc4, hc5, hc6, hc7, hc8⟩ := id hc
  icases HP with ⟨HP0, HP1, HP2, HP3, HP4, HP5, HP6, HP7⟩
  icases HT with ⟨HT0, HT1, HT2, HT3, HT4, HT5, HT6, HT7⟩
  simp only [cc2__finish_body_eq_skeleton]; unfold cc2__finish_body_skel
  simp only [k2_part1_eq_skeleton, k2_part2_eq_skeleton, k2_part3_eq_skeleton, k2_part4_eq_skeleton, k2_part5_eq_skeleton, k2_part6_eq_skeleton,
    k2_part7_eq_skeleton, k2_part8_eq_skeleton]
  unfold k2_part1_skel k2_part2_skel k2_part3_skel k2_part4_skel k2_part5_skel k2_part6_skel k2_part7_skel k2_part8_skel
  simp only [bind_assoc, pure_bind]
  sl_exec (disch := first
    | exact View.amount_pos _ _ (show 0 < S1x4x768.numel by decide)
    | (with_reducible refine chk_of k2_chk1 hc1 ?_; unfold fin_run.sl.v18 m1 ex; first | done | dsimp only [w72, w96, w144, m5, ex])
    | (with_reducible refine chk_of k2_chk2 hc2 ?_; unfold fin_run.sl.v42 m2 ex; first | done | dsimp only [w72, w96, w144, m5, ex])
    | (with_reducible refine chk_of k2_chk3 hc3 ?_; unfold fin_run.sl.v66 m3 ex; first | done | dsimp only [w72, w96, w144, m5, ex])
    | (with_reducible refine chk_of k2_chk4 hc4 ?_; unfold fin_run.sl.v90 m4 ex; first | done | dsimp only [w72, w96, w144, m5, ex])
    | (with_reducible refine chk_of k2_chk5 hc5 ?_; unfold fin_run.sl.v114 m5 ex; first | done | dsimp only [w72, w96, w144, m5, ex])
    | (with_reducible refine chk_of k2_chk6 hc6 ?_; unfold fin_run.sl.v138 m6 ex; first | done | dsimp only [w72, w96, w144, m5, ex, fin_run.sl.v114])
    | (with_reducible refine chk_of k2_chk7 hc7 ?_; unfold fin_run.sl.v162 m7 ex; first | done | dsimp only [w72, w96, w144, m5, ex, fin_run.sl.v114])
    | (with_reducible refine chk_of k2_chk8 hc8 ?_; unfold fin_run.sl.v186 m8 ex; first | done | dsimp only [w72, w96, w144, m5, ex, fin_run.sl.v114]))
  ihave HT := (tile_give8 c _ hc P ft) $$ [HB_dst0 HB_dst1 HB_dst2 HB_dst3 HB_dst4 HB_dst5 HB_dst6 HB_dst7]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    isplitl [HB_dst6]; · iexact HB_dst6
    iexact HB_dst7
  iclear HB_src0 HB_src1 HB_src2 HB_src3 HB_src4 HB_src5 HB_src6 HB_src7
  ihave HBc := (bcast_view c fb) $$ HBc
  ihave HAo := (kept_intro _) $$ HAo
  sl_exec
  unfold fin_run.sl.x_8
  ihave HBc := (bcast_val c fb (tileOf (rowsV _ hc P))) $$ HBc
  ihave HBc := (BIBase.Entails.of_eq (bigSep_8 _)) $$ HBc
  ihave Hout := (BIBase.Entails.of_eq (bigSep_8 _)) $$ Hout
  ihave HAo := (kept_elim _) $$ HAo
  imod (Transfers.batch_alloc' (Lvl := ℕ) (EC (F := F)) (c : Thread nD τ) none ((oSl 0).view.amount semOut)
    (dOut c (lf fullShare) (k2_pay23 (tileOf (rowsV _ hc P))) (foOf c fo)) (sm := semOut) (E := Set.univ)) $$ HAo with HD
  icases HBc with ⟨HC0, HC1, HC2, HC3, HC4, HC5, HC6, HC7⟩
  icases Hout with ⟨HU0, HU1, HU2, HU3, HU4, HU5, HU6, HU7⟩
  sl_exec (disch := exact View.amount_pos _ _ (show 0 < S128x32x768.numel by decide))
  sl_step
  ihave Hout := (out_back c fo (k2_pay23 (tileOf (rowsV _ hc P)))) $$ [HD_dst0 HD_dst1 HD_dst2 HD_dst3 HD_dst4 HD_dst5 HD_dst6 HD_dst7]
  · isplitl [HD_dst0]; · iexact HD_dst0
    isplitl [HD_dst1]; · iexact HD_dst1
    isplitl [HD_dst2]; · iexact HD_dst2
    isplitl [HD_dst3]; · iexact HD_dst3
    isplitl [HD_dst4]; · iexact HD_dst4
    isplitl [HD_dst5]; · iexact HD_dst5
    isplitl [HD_dst6]; · iexact HD_dst6
    iexact HD_dst7
  ihave HBc := (bcast_back c (k2_pay23 (tileOf (rowsV _ hc P)))) $$ [HD_src0 HD_src1 HD_src2 HD_src3 HD_src4 HD_src5 HD_src6 HD_src7]
  · isplitl [HD_src0]; · iexact HD_src0
    isplitl [HD_src1]; · iexact HD_src1
    isplitl [HD_src2]; · iexact HD_src2
    isplitl [HD_src3]; · iexact HD_src3
    isplitl [HD_src4]; · iexact HD_src4
    isplitl [HD_src5]; · iexact HD_src5
    isplitl [HD_src6]; · iexact HD_src6
    iexact HD_src7
  ihave HT := (tile_back c (tileOf (rowsV _ hc P))) $$ HT
  iapply Hk
  isplitl [H0]
  · iexists f0; isplitr [H0]; rotate_left
    · iexact H0
    · ipureintro; exact (readAt_full M0.view f0 ![0, 0] zero2 inb_S32x8192_S32x8192_0_0).symm
  isplitl [H1]
  · iexists f1; isplitr [H1]; rotate_left
    · iexact H1
    · ipureintro; exact e1
  isplitl [H2]
  · iexists f2; isplitr [H2]; rotate_left
    · iexact H2
    · ipureintro; exact e2
  isplitl [H4]
  · iexists _; isplitr [H4]; rotate_left
    · iexact H4
    · ipureintro
      refine (read_writes_full _ _ _ zero2 _ _ _).trans ?_
      subst e1 e2
      unfold lossV
      rw [readAt_full M2.view f2 ![0, 0] zero2 _]
      rfl
  isplitl [HPk]; · iexact HPk
  isplitl [Hout]; · iexact Hout
  isplitl [HT]; · iexists _; iexact HT
  isplitl [HBc]; · iexists _; iexact HBc
  isplitl [HB]; · iexact HB
  isplitl [HD]; · iexact HD
  iexists _; isplitr [HO]; rotate_left
  · iexact HO
  · ipureintro
    intro p hp
    simp only [Finset.mem_insert] at hp
    rcases hp with h | h | h | h | h | h | h | h | h | h | h | h | h | h | h | h | h
    all_goals first | exact .inl h | (right; rw [h])
end Body

section Dat2
variable (V : (c : Dev nD) → (b : Ref sig .tc) → Buf (Elt F) ((c : Thread nD τ).loc b)) (c : Dev nD)

/-- What the call's windows show it: the histogram, the keys, the sum of the queries. -/
def hBlk : Vec F S32x8192 .i32 := ((cfg2.win 0).blk t2_0).view.read (Elt F) (V c main_v2)
def k2Blk : Vec F S8192x128 .f32 := ((cfg2.win 1).blk t2_0).view.read (Elt F) (V c main_arg1)
def qs2Blk : Vec F S1x128 .f32 := ((cfg2.win 2).blk t2_0).view.read (Elt F) (V c main_v0_1)

variable (hc : ∀ c, Chk (hBlk V c))

/-- The scoped buffers the last call leaves alone. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_scratch0), ((c : Thread nD τ).loc cc0_scratch0) ↦{fullShare} f))

/-- What the call works with before it runs and what it has left after. -/
def Φ2 : ℕ → sProp 𝕄
  | 0 => iprop(((c : Thread nD τ).loc main_arg2 ↦{fullShare} (V c main_arg2)) ∗ (∃ f, (c : Thread nD τ).loc main_v3_1 ↦{fullShare} f)
      ∗ (∃ f, (c : Thread nD τ).loc cc2_scratch0 ↦{fullShare} f) ∗ (∃ f, (c : Thread nD τ).loc cc2_scratch1 ↦{fullShare} f)
      ∗ semVal ((c : Thread nD τ), semIn) 0 ∗ semVal ((c : Thread nD τ), semOut) 0 ∗ rest2 c)
  | _ + 1 => iprop(((c : Thread nD τ).loc main_arg2 ↦{fullShare.left} (V c main_arg2))
      ∗ ((c : Thread nD τ).loc main_v3_1 ↦{fullShare} (outV (hBlk V c) (hc c) (V c main_arg2)))
      ∗ (∃ f, (c : Thread nD τ).loc cc2_scratch0 ↦{fullShare} f) ∗ (∃ f, (c : Thread nD τ).loc cc2_scratch1 ↦{fullShare} f)
      ∗ semVal ((c : Thread nD τ), semIn) 0 ∗ semVal ((c : Thread nD τ), semOut) 0 ∗ rest2 c)

def dat2 : Dat τ (Elt F) (HIx 1) ℕ UU ℕ cfg2 c where
  A w := V c (Pipeline.arrRef spec2 w)
  after w _ := match w with
    | ⟨0, _⟩ => hBlk V c
    | ⟨1, _⟩ => k2Blk V c
    | ⟨2, _⟩ => qs2Blk V c
    | ⟨3, _⟩ => lossV (hBlk V c) (k2Blk V c) (qs2Blk V c) (hc c)
  Φ t := Φ2 V c hc t.val
  q _ := fullShare
  owed _ := 0
  recorded _ := {p | (K (F := F)).lev ((c : Thread nD τ), p.1) p.2 ≤ 8 * SparseCore.Cfg.Blocks.fst 1 1 1}

theorem one2 (t : Fin cfg2.N) : t = t2_0 := by
  have : t.val < 1 := N_2 ▸ t.isLt
  exact Fin.ext (show t.val = 0 by omega)

theorem before2_0 (t : Fin cfg2.N) (d) : (dat2 V c hc).before 0 t d = hBlk V c := by
  rw [one2 t]; exact ((dat2 V c hc).before_fetched 0 t2_0 (fetch2_0 t2_0) d).trans rfl
theorem before2_1 (t : Fin cfg2.N) (d) : (dat2 V c hc).before 1 t d = k2Blk V c := by
  rw [one2 t]; exact ((dat2 V c hc).before_fetched 1 t2_0 (fetch2_1 t2_0) d).trans rfl
theorem before2_2 (t : Fin cfg2.N) (d) : (dat2 V c hc).before 2 t d = qs2Blk V c := by
  rw [one2 t]; exact ((dat2 V c hc).before_fetched 2 t2_0 (fetch2_2 t2_0) d).trans rfl

theorem body_point2 [∀ e, Nonempty (Elt F e)] (t : Fin cfg2.N) :
    iprop(Φ2 V c hc t.val ∗ (dat2 V c hc).owesAt none t.castSucc
        ∗ (∃ d, owns (c : Thread nD τ) (st2_0 t) fullShare ((dat2 V c hc).before 0 t d)) ∗ (∃ d, owns (c : Thread nD τ) (st2_1 t) fullShare ((dat2 V c hc).before 1 t d))
        ∗ (∃ d, owns (c : Thread nD τ) (st2_2 t) fullShare ((dat2 V c hc).before 2 t d)) ∗ (∃ d, owns (c : Thread nD τ) (st2_3 t) fullShare ((dat2 V c hc).before 3 t d)))
      ⊢ wp frame (wpE (defs₀ (F := F)) 𝒱₀ (c : Thread nD τ) none) Set.univ (bodyAt2 t) fun _ =>
        iprop(Φ2 V c hc (t.val + 1) ∗ (dat2 V c hc).owesAt none t.castSucc
          ∗ owns (c : Thread nD τ) (st2_0 t) fullShare (hBlk V c) ∗ owns (c : Thread nD τ) (st2_1 t) fullShare (k2Blk V c)
          ∗ owns (c : Thread nD τ) (st2_2 t) fullShare (qs2Blk V c)
          ∗ owns (c : Thread nD τ) (st2_3 t) fullShare (lossV (hBlk V c) (k2Blk V c) (qs2Blk V c) (hc c))) := by
  rw [show t.val = 0 from congrArg Fin.val (one2 t)]
  unfold Φ2 Dat.owesAt
  iintro ⟨⟨HP, HU, HT, HB, HA, HAo, HR⟩, ⟨%W, %hW, HO⟩, ⟨%d0, H0⟩, ⟨%d1, H1⟩, ⟨%d2, H2⟩, ⟨%d3, H3⟩⟩
  rw [before2_0, before2_1, before2_2]
  iapply (fin_run c _ _ _ _ _ _ _ _ (hBlk V c) (k2Blk V c) (qs2Blk V c) (hc c) (V c main_arg2) W _)
  isplitl [H0]; · iexact H0
  isplitl [H1]; · iexact H1
  isplitl [H2]; · iexact H2
  isplitl [H3]; · iexists _; iexact H3
  isplitl [HP]; · iexact HP
  isplitl [HU]; · iexact HU
  isplitl [HT]; · iexact HT
  isplitl [HB]; · iexact HB
  isplitl [HA]; · iexact HA
  isplitl [HAo]; · iexact HAo
  isplitl [HO]; · iexact HO
  iintro ⟨H0, H1, H2, H3, HP, HU, HT, HB, HA, HAo, ⟨%W', %hW', HO⟩⟩
  isplitl [HP HU HT HB HA HAo HR]
  · isplitl [HP]; · iexact HP
    isplitl [HU]; · iexact HU
    isplitl [HT]; · iexact HT
    isplitl [HB]; · iexact HB
    isplitl [HA]; · iexact HA
    isplitl [HAo]; · iexact HAo
    iexact HR
  isplitl [HO]
  · iexists W'; isplitr [HO]; rotate_left
    · iexact HO
    · ipureintro
      intro p hp
      rcases hW' p hp with h | h
      · exact hW h
      · refine Or.inl ?_
        show (K (F := F)).lev ((c : Thread nD τ), p.1) p.2 ≤ _
        rw [h]; exact Nat.zero_le _
  isplitl [H0]; · iexact H0
  isplitl [H1]; · iexact H1
  isplitl [H2]; · iexact H2
  iexact H3

theorem body_obligation2 [∀ e, Nonempty (Elt F e)] : BodyObligation (dat2 V c hc) (defs₀ (F := F)) 𝒱₀ none Set.univ := fun t => by
  rw [bigSep_W2, bigSep_W2]
  exact body_point2 V c hc t

end Dat2

end Cert.Proof.Sc

end
-- ==== Proof.Order.lean ====
/-
  Picking the largest entries of a list, the earlier of two equal entries first: the order, the stable sort that lists the
  entries in it, and the rounds of a maximum that pick them one by one.
-/
module

public import Idealize.ShloMosaic.Lib.SortFacts
public import Mathlib.Order.Fin.Basic
public import Mathlib.Data.Fintype.Card

@[expose] public section

noncomputable section

namespace Cert.Proof.Order

open Idealize.ShloMosaic

variable {n : ℕ} {α : Type} [LinearOrder α]

/-- `a` comes before `b`: its entry is larger, or equal and earlier. -/
def Bef (s : Fin n → α) (a b : Fin n) : Prop := s b < s a ∨ (s a = s b ∧ a < b)

theorem Bef.asymm {s : Fin n → α} {a b : Fin n} (h : Bef s a b) : ¬ Bef s b a := by
  rintro (h' | ⟨h', h''⟩)
  · rcases h with h | ⟨h, -⟩
    · exact lt_asymm h h'
    · exact (ne_of_lt h') h
  · rcases h with h | ⟨-, h⟩
    · exact (ne_of_lt h) h'
    · exact lt_asymm h h''

theorem Bef.trans {s : Fin n → α} {a b c : Fin n} (h : Bef s a b) (h' : Bef s b c) : Bef s a c := by
  rcases h with h | ⟨h, hl⟩ <;> rcases h' with h' | ⟨h', hl'⟩
  · exact .inl (h'.trans h)
  · exact .inl (h' ▸ h)
  · exact .inl (h ▸ h')
  · exact .inr ⟨h.trans h', hl.trans hl'⟩

/-- The entries' places in that order. -/
def sel (s : Fin n → α) : Fin n → Fin n := sortedFrom fun a b => decide (s b < s a)

theorem sel_injective (s : Fin n → α) : Function.Injective (sel s) := sortedFrom_injective _
theorem sel_surjective (s : Fin n → α) : Function.Surjective (sel s) := sortedFrom_surjective _

theorem pairwise_insert (s : Fin n → α) (a : Fin n) (l : List (Fin n)) (hl : l.Pairwise (Bef s)) (ha : ∀ b ∈ l, a < b) :
    (insertBefore (fun a b => decide (s b < s a)) a l).Pairwise (Bef s) := by
  induction l with
  | nil => exact List.pairwise_singleton _ _
  | cons b l ih =>
    unfold insertBefore
    rw [List.pairwise_cons] at hl
    split
    next h =>
      have h := of_decide_eq_true h
      rw [List.pairwise_cons]
      refine ⟨fun c hc => ?_, ih hl.2 fun c hc => ha c (List.mem_cons_of_mem _ hc)⟩
      rcases List.mem_cons.mp ((perm_insertBefore _ a l).mem_iff.mp hc) with rfl | hc
      · exact .inl h
      · exact hl.1 c hc
    next h =>
      have h : ¬ s a < s b := fun hh => h (decide_eq_true hh)
      have hab : Bef s a b := by
        rcases lt_or_eq_of_le (not_lt.mp h) with h | h
        · exact .inl h
        · exact .inr ⟨h.symm, ha b List.mem_cons_self⟩
      rw [List.pairwise_cons, List.pairwise_cons]
      refine ⟨fun c hc => ?_, hl⟩
      rcases List.mem_cons.mp hc with rfl | hc
      · exact hab
      · exact hab.trans (hl.1 c hc)

theorem pairwise_sort (s : Fin n → α) (l : List (Fin n)) (hl : l.Pairwise (· < ·)) :
    (stableSort (fun a b => decide (s b < s a)) l).Pairwise (Bef s) := by
  induction l with
  | nil => exact List.Pairwise.nil
  | cons a l ih =>
    rw [List.pairwise_cons] at hl
    unfold stableSort
    exact pairwise_insert s a _ (ih hl.2) fun b hb => hl.1 b ((perm_stableSort _ l).mem_iff.mp hb)

theorem sel_bef (s : Fin n → α) {i j : Fin n} (h : i < j) : Bef s (sel s i) (sel s j) := by
  have hp : (sortPositions n fun a b => decide (s b < s a)).Pairwise (Bef s) := pairwise_sort s _ (List.pairwise_lt_finRange n)
  have := List.pairwise_iff_get.mp hp (i.cast (length_sortPositions n _).symm) (j.cast (length_sortPositions n _).symm) h
  exact this

/-- Places picked one by one, each before all that are still left, are the order's first places. -/
theorem sel_unique (s : Fin n → α) (m : ℕ) (hm : m ≤ n) (p : ℕ → Fin n) (hne : ∀ k < m, ∀ i < k, p k ≠ p i)
    (hb : ∀ k < m, ∀ x, (∀ i ≤ k, x ≠ p i) → Bef s (p k) x) (k : ℕ) (hk : k < m) : p k = sel s ⟨k, hk.trans_le hm⟩ := by
  induction k using Nat.strong_induction_on with
  | _ k ih =>
    obtain ⟨j, hj⟩ := sel_surjective s (p k)
    rcases lt_trichotomy j.val k with h | h | h
    · exact absurd ((ih j.val h (h.trans hk)).trans hj).symm (hne k hk j.val h)
    · rw [← hj]; exact congrArg (sel s) (Fin.ext h)
    · have hx : ∀ i ≤ k, sel s ⟨k, hk.trans_le hm⟩ ≠ p i := by
        intro i hi e
        rcases Nat.lt_or_eq_of_le hi with hi | rfl
        · rw [ih i hi (hi.trans hk)] at e
          have := congrArg Fin.val (sel_injective s e)
          simp only at this; omega
        · rw [← hj] at e
          have := congrArg Fin.val (sel_injective s e)
          simp only at this; omega
      have h1 := hb k hk _ hx
      have h2 : Bef s (sel s ⟨k, hk.trans_le hm⟩) (p k) := by
        rw [← hj]; exact sel_bef s h
      exact absurd h2 h1.asymm

/-- Rounds of a maximum: round `k` picks the first place of the list with the earlier picks struck out. -/
theorem rounds_eq_sel (s : Fin n → α) (bot : α) (hbot : ∀ c, bot < s c) (m : ℕ) (hm : m < n) (p : ℕ → Fin n)
    (hp : ∀ k < m, ∀ c, c ≠ p k → Bef (fun c => if ∃ i < k, c = p i then bot else s c) (p k) c) (k : ℕ) (hk : k < m) :
    p k = sel s ⟨k, hk.trans hm⟩ := by
  have key : ∀ k < m, ∀ x, (∀ i ≤ k, x ≠ p i) → (¬ ∃ i < k, p k = p i) ∧ Bef s (p k) x := by
    intro k hk x hx
    have h := hp k hk x (hx k (le_refl k))
    have hx' : ¬ ∃ i < k, x = p i := fun ⟨i, hi, e⟩ => hx i hi.le e
    unfold Bef at h
    simp only [if_neg hx'] at h
    by_cases hpk : ∃ i < k, p k = p i
    · rw [if_pos hpk] at h
      rcases h with h | ⟨h, -⟩
      · exact absurd h (lt_asymm (hbot x))
      · exact absurd h (ne_of_lt (hbot x))
    · rw [if_neg hpk] at h
      exact ⟨hpk, h⟩
  refine sel_unique s m hm.le p ?_ (fun k hk x hx => (key k hk x hx).2) k hk
  intro k hk i hi e
  -- some place is not among the first k + 1 picks
  obtain ⟨x, hx⟩ : ∃ x : Fin n, ∀ i ≤ k, x ≠ p i := by
    by_contra hcon
    push Not at hcon
    have hsub : (Finset.univ : Finset (Fin n)) ⊆ (Finset.range (k + 1)).image p := fun x _ => by
      obtain ⟨i, hi, e⟩ := hcon x
      exact Finset.mem_image.mpr ⟨i, Finset.mem_range.mpr (Nat.lt_succ_of_le hi), e.symm⟩
    have := (Finset.card_le_card hsub).trans Finset.card_image_le
    rw [Finset.card_univ, Fintype.card_fin, Finset.card_range] at this
    omega
  exact (key k hk x hx).1 ⟨i, hi, e⟩

/-- Two lists in the same order have the same places. -/
theorem sel_congr {β : Type} [LinearOrder β] (s : Fin n → α) (t : Fin n → β) (h : ∀ a b, Bef s a b → Bef t a b) : sel s = sel t := by
  funext ⟨k, hk⟩
  have := sel_unique t n (le_refl n) (fun k => if hk : k < n then sel s ⟨k, hk⟩ else sel s ⟨0, by omega⟩)
    (fun k hk i hi e => by
      rw [dif_pos hk, dif_pos (hi.trans hk)] at e
      have := congrArg Fin.val (sel_injective s e)
      simp only at this; omega)
    (fun k hk x hx => by
      rw [dif_pos hk]
      obtain ⟨j, rfl⟩ := sel_surjective s x
      refine h _ _ (sel_bef s ?_)
      by_contra hc
      have hj : j.val ≤ k := not_lt.mp hc
      exact hx j.val hj (by rw [dif_pos j.isLt])) k hk
  rw [dif_pos hk] at this
  exact this

/-- A place attaining the maximum, the first one. -/
theorem exists_first (hn : 0 < n) (s : Fin n → α) : ∃ p, ∀ c, c ≠ p → Bef s p c := by
  refine ⟨sel s ⟨0, hn⟩, fun c hc => ?_⟩
  obtain ⟨j, rfl⟩ := sel_surjective s c
  refine sel_bef s (Nat.pos_of_ne_zero fun h => hc (congrArg (sel s) (Fin.ext h)))

end Cert.Proof.Order

end
-- ==== Proof.TopkVal.lean ====
/-
  What the first call picks over the extended reals: in every row the places of the eight largest entries, the earlier of two
  equal entries first.
-/
module

public import proofs.«01_k».proof.Proof.Topk
public import proofs.«01_k».proof.Proof.Order
public import Idealize.ShloMosaic.Lib.Pointwise

@[expose] public section

noncomputable section

namespace Cert.Proof.Sc

open Cert.KernelIdeal Cert.KernelIdeal.Gen
open Idealize.ShloMosaic
open Cert.Proof.Order

/-! ## A round's functions -/

section
variable {F : FTy → Type} [FloatOps F]

/-- The place of every row's maximum, the first one. -/
def roundOf (s : FVec F S256x8192 .f32) : IVec S256x1 32 :=
  shapeCast S256x1 (multiReductionI .minsi [1] S256 (select (cmpf .oeq s (broadcastTo S256x8192 (shapeCast S256x1
    (multiReduction .maximumf [1] S256 s 0xFF800000#32 reduces_S256x8192_S256 (.inl rfl) rfl) shapeCasts_S256_S256x1) broadcasts_S256x1_S256x8192))
    colV (broadcast S256x8192 8192#32)) 2147483647#32 reduces_S256x8192_S256 rfl) shapeCasts_S256_S256x1

/-- The rows with the places in `p` struck out. -/
def maskOf (s : FVec F S256x8192 .f32) (p : IVec S256x1 32) : FVec F S256x8192 .f32 :=
  select (cmpi .eq colV (broadcastTo S256x8192 p broadcasts_S256x1_S256x8192)) (broadcast S256x8192 (Scalar.ofBits .f32 0xFF800000#32)) s

/-- The rows at the start of round `k`. -/
def rowsAt (s : FVec F S256x8192 .f32) : ℕ → FVec F S256x8192 .f32
  | 0 => s
  | k + 1 => maskOf (rowsAt s k) (roundOf (rowsAt s k))

theorem picks_eq (q : Vec F S256x128 .f32) (kn : Vec F S8192x128 .f32) :
    picks q kn = concatenate S256x8 1 [⟨S256x1, roundOf (rowsAt (k0_pay6 q kn) 0)⟩, ⟨S256x1, roundOf (rowsAt (k0_pay6 q kn) 1)⟩,
      ⟨S256x1, roundOf (rowsAt (k0_pay6 q kn) 2)⟩, ⟨S256x1, roundOf (rowsAt (k0_pay6 q kn) 3)⟩, ⟨S256x1, roundOf (rowsAt (k0_pay6 q kn) 4)⟩,
      ⟨S256x1, roundOf (rowsAt (k0_pay6 q kn) 5)⟩, ⟨S256x1, roundOf (rowsAt (k0_pay6 q kn) 6)⟩, ⟨S256x1, roundOf (rowsAt (k0_pay6 q kn) 7)⟩]
      concatenates_S256x1_S256x1_S256x1_S256x1_S256x1_S256x1_S256x1_S256x1_S256x8_d1 := rfl

end

/-! ## Read at a place -/

theorem negInf : Ideal.ofBits FTy.f32 0xFF800000#32 = ⊥ := by simp [Ideal.ofBits, Ideal.ieee]

theorem toInt_minsi (x y : BitVec 32) : (IntOp.minsi x y).toInt = min x.toInt y.toInt := by
  unfold IntOp.minsi
  by_cases h : x.toInt < y.toInt
  · have : x.slt y = true := by simp [BitVec.slt, h]
    simp [this, min_eq_left h.le]
  · have h' : x.slt y = false := by simp [BitVec.slt, h]
    simp [h', min_eq_right (not_lt.mp h)]

theorem toInt_ofNat_small (n : ℕ) (h : n ≤ 8192) : (BitVec.ofNat 32 n).toInt = n := by
  rw [BitVec.toInt_eq_toNat_cond, BitVec.toNat_ofNat, Nat.mod_eq_of_lt (by omega), if_pos (by omega)]

theorem fold_max_first (s : Fin 8192 → EReal) (p : Fin 8192) (hp : ∀ c, c ≠ p → Bef s p c) :
    Finset.univ.fold max (Ideal.ofBits FTy.f32 0xFF800000#32) s = s p := by
  refine le_antisymm ((Finset.fold_max_le _).mpr ⟨?_, fun c _ => ?_⟩) (Finset.le_fold_max _ |>.mpr (.inr ⟨p, Finset.mem_univ p, le_refl _⟩))
  · rw [negInf]; exact bot_le
  · by_cases hc : c = p
    · rw [hc]
    · rcases hp c hc with h | ⟨h, -⟩
      · exact h.le
      · exact h.ge

theorem fold_min_first (s : Fin 8192 → EReal) (p : Fin 8192) (hp : ∀ c, c ≠ p → Bef s p c) :
    Finset.univ.fold IntOp.minsi (2147483647#32) (fun x : Fin 8192 =>
      if s x = Finset.univ.fold max (Ideal.ofBits FTy.f32 0xFF800000#32) s then BitVec.ofNat 32 x.val else 8192#32) = BitVec.ofNat 32 p.val := by
  rw [fold_max_first s p hp]
  refine BitVec.eq_of_toInt_eq ?_
  rw [← Finset.fold_hom (op' := min) (m := BitVec.toInt) toInt_minsi, toInt_ofNat_small p.val (by omega)]
  refine le_antisymm ((Finset.fold_min_le _).mpr (.inr ⟨p, Finset.mem_univ p, ?_⟩)) ((Finset.le_fold_min _).mpr ⟨?_, fun c _ => ?_⟩)
  · rw [if_pos rfl, toInt_ofNat_small p.val (by omega)]
  · have := p.isLt
    rw [show (2147483647#32 : BitVec 32).toInt = 2147483647 from by decide]; omega
  · by_cases hs : s c = s p
    · rw [if_pos hs, toInt_ofNat_small c.val (by omega)]
      by_cases hc : c = p
      · rw [hc]
      · rcases hp c hc with h | ⟨-, h⟩
        · exact absurd hs (ne_of_lt h)
        · exact_mod_cast h.le
    · rw [if_neg hs, show (8192#32 : BitVec 32).toInt = 8192 from by decide]
      have := p.isLt; omega

theorem roundOf_apply (s : FVec Ideal S256x8192 .f32) (r : Fin 256) :
    ∃ p : Fin 8192, roundOf s (ix2 r 0) = BitVec.ofNat 32 p.val ∧ ∀ c, c ≠ p → Bef (fun c => s (ix2 r c)) p c := by
  obtain ⟨p, hp⟩ := exists_first (by omega : 0 < 8192) (fun c : Fin 8192 => s (ix2 r c))
  refine ⟨p, ?_, hp⟩
  have h := fold_min_first _ p hp
  pointwise [roundOf, colV]
  exact h

theorem ofNat_inj_small {a b : ℕ} (ha : a ≤ 8192) (hb : b ≤ 8192) (h : BitVec.ofNat 32 a = BitVec.ofNat 32 b) : a = b := by
  have := congrArg BitVec.toNat h
  rw [BitVec.toNat_ofNat, BitVec.toNat_ofNat] at this
  omega

theorem maskOf_apply (s : FVec Ideal S256x8192 .f32) (p : IVec S256x1 32) (r : Fin 256) (P : Fin 8192) (hP : p (ix2 r 0) = BitVec.ofNat 32 P.val)
    (c : Fin 8192) : maskOf s p (ix2 r c) = if c = P then ⊥ else s (ix2 r c) := by
  pointwise [maskOf, colV]
  rw [hP, negInf]
  unfold Scalar.select IntOp.cmpi
  by_cases h : c = P
  · subst h; simp
  · have : ¬ BitVec.ofNat 32 c.val = BitVec.ofNat 32 P.val := fun e => h (Fin.ext (ofNat_inj_small (by omega) (by omega) e))
    simp [h, beq_false_of_ne this]

/-- The round's pick in row `r`. -/
def pickAt (s : FVec Ideal S256x8192 .f32) (r : Fin 256) (k : ℕ) : Fin 8192 := (roundOf_apply (rowsAt s k) r).choose

theorem rowsAt_apply (s : FVec Ideal S256x8192 .f32) (r : Fin 256) (k : ℕ) (c : Fin 8192) :
    rowsAt s k (ix2 r c) = if ∃ i < k, c = pickAt s r i then ⊥ else s (ix2 r c) := by
  induction k with
  | zero => rw [if_neg (by rintro ⟨i, hi, -⟩; omega)]; rfl
  | succ k ih =>
    refine (maskOf_apply (rowsAt s k) _ r (pickAt s r k) (roundOf_apply (rowsAt s k) r).choose_spec.1 c).trans ?_
    rw [ih]
    by_cases hc : c = pickAt s r k
    · rw [if_pos hc, if_pos ⟨k, by omega, hc⟩]
    · rw [if_neg hc]
      by_cases h : ∃ i < k, c = pickAt s r i
      · obtain ⟨i, hi, e⟩ := h
        rw [if_pos ⟨i, hi, e⟩, if_pos ⟨i, by omega, e⟩]
      · rw [if_neg h, if_neg]
        rintro ⟨i, hi, e⟩
        rcases Nat.lt_or_eq_of_le (Nat.le_of_lt_succ hi) with hi | rfl
        · exact h ⟨i, hi, e⟩
        · exact hc e

/-- The rounds pick the order's first places. -/
theorem round_eq_sel (s : FVec Ideal S256x8192 .f32) (r : Fin 256) (hs : ∀ c, s (ix2 r c) ≠ ⊥) (k : ℕ) (hk : k < 8) :
    roundOf (rowsAt s k) (ix2 r 0) = BitVec.ofNat 32 (sel (fun c : Fin 8192 => s (ix2 r c)) ⟨k, by omega⟩).val := by
  rw [(roundOf_apply (rowsAt s k) r).choose_spec.1]
  have h := rounds_eq_sel (fun c : Fin 8192 => s (ix2 r c)) ⊥ (fun c => bot_lt_iff_ne_bot.mpr (hs c)) 8 (by omega) (pickAt s r)
    (fun k hk c hc => by
      have key : Bef (fun c => rowsAt s k (ix2 r c)) (pickAt s r k) c := (roundOf_apply (rowsAt s k) r).choose_spec.2 c hc
      rw [show (fun c => rowsAt s k (ix2 r c)) = _ from funext (rowsAt_apply s r k)] at key
      exact key) k hk
  rw [← h]
  rfl

theorem picks_apply (q : Vec Ideal S256x128 .f32) (kn : Vec Ideal S8192x128 .f32) (r : Fin 256)
    (hs : ∀ c, k0_pay6 q kn (ix2 r c) ≠ ⊥) (j : Fin 8) :
    picks q kn (ix2 r j) = BitVec.ofNat 32 (sel (fun c : Fin 8192 => k0_pay6 q kn (ix2 r c)) ⟨j.val, by omega⟩).val := by
  have h := round_eq_sel (k0_pay6 q kn) r hs
  rw [picks_eq]
  generalize rowsAt (k0_pay6 q kn) = f at h
  match j with
  | 0 => exact (by pointwise [] : _ = roundOf (f 0) (ix2 r 0)).trans (h 0 (by omega))
  | 1 => exact (by pointwise [] : _ = roundOf (f 1) (ix2 r 0)).trans (h 1 (by omega))
  | 2 => exact (by pointwise [] : _ = roundOf (f 2) (ix2 r 0)).trans (h 2 (by omega))
  | 3 => exact (by pointwise [] : _ = roundOf (f 3) (ix2 r 0)).trans (h 3 (by omega))
  | 4 => exact (by pointwise [] : _ = roundOf (f 4) (ix2 r 0)).trans (h 4 (by omega))
  | 5 => exact (by pointwise [] : _ = roundOf (f 5) (ix2 r 0)).trans (h 5 (by omega))
  | 6 => exact (by pointwise [] : _ = roundOf (f 6) (ix2 r 0)).trans (h 6 (by omega))
  | 7 => exact (by pointwise [] : _ = roundOf (f 7) (ix2 r 0)).trans (h 7 (by omega))

/-! ## The normalized rows are finite -/

/-- A row divided by its length, at place `d`. -/
def nrmd {n : ℕ} (x : Fin n → EReal) (d : Fin n) : EReal :=
  Ideal.div (x d) (max (Ideal.sqrt (∑ k, x k * x k)) (Ideal.ofBits FTy.f32 0x2B8CBCCC#32))

theorem eps_pos : (0 : EReal) < Ideal.ofBits FTy.f32 0x2B8CBCCC#32 := by
  simp only [Ideal.ofBits, Ideal.ieee]
  simp [-EReal.coe_mul]

theorem mul_self_nonneg' (x : EReal) : 0 ≤ x * x := by
  induction x with
  | bot => simp
  | top => simp
  | coe r => exact_mod_cast mul_self_nonneg r

theorem nrmd_real {n : ℕ} (x : Fin n → EReal) (d : Fin n) : ∃ r : ℝ, nrmd x d = r := by
  unfold nrmd
  generalize hy : max (Ideal.sqrt (∑ k, x k * x k)) (Ideal.ofBits FTy.f32 0x2B8CBCCC#32) = y
  have hpos : 0 < y := hy ▸ lt_max_of_lt_right eps_pos
  unfold Ideal.div
  rw [if_neg hpos.ne']
  by_cases hx : x d = ⊤ ∨ x d = ⊥
  · have hs : ∑ k, x k * x k = ⊤ := by
      have h1 : x d * x d ≤ ∑ k, x k * x k := Finset.single_le_sum (f := fun k => x k * x k) (fun k _ => mul_self_nonneg' (x k)) (Finset.mem_univ d)
      have h2 : x d * x d = ⊤ := by rcases hx with h | h <;> rw [h] <;> simp
      rw [h2] at h1
      exact top_le_iff.mp h1
    have : y = ⊤ := by
      rw [← hy, hs]
      show max ⊤ _ = ⊤
      exact max_eq_left le_top
    rw [this, EReal.inv_top, mul_zero]
    exact ⟨0, rfl⟩
  · push Not at hx
    induction hxd : x d with
    | bot => exact absurd hxd hx.2
    | top => exact absurd hxd hx.1
    | coe r =>
      induction y with
      | bot => exact absurd hpos (by simp)
      | top => rw [EReal.inv_top, mul_zero]; exact ⟨0, rfl⟩
      | coe z => exact ⟨r * z⁻¹, by push_cast; rfl⟩

theorem pay6_apply (q : Vec Ideal S256x128 .f32) (kn : Vec Ideal S8192x128 .f32) (r : Fin 256) (c : Fin 8192) :
    k0_pay6 q kn (ix2 r c) = ∑ d : Fin 128, nrmd (fun d => q (ix2 r d)) d * kn (ix2 c d) := by
  pointwise [k0_pay6, k0_pay5]
  rfl

theorem knOf_apply (k : Vec Ideal S8192x128 .f32) (c : Fin 8192) (d : Fin 128) : knOf k (ix2 c d) = nrmd (fun d => k (ix2 c d)) d := by
  pointwise [knOf, k0_pay3]
  rfl

theorem qsNext_apply (q : Vec Ideal S256x128 .f32) (s : Vec Ideal S1x128 .f32) (d : Fin 128) :
    qsNext q s (ix2 0 d) = s (ix2 0 d) + ∑ r : Fin 256, nrmd (fun d => q (ix2 r d)) d := by
  pointwise [qsNext, k0_pay2, k0_pay5]
  rfl

theorem qs0_apply (d : Fin 128) : (k0_pay4 : FVec Ideal S1x128 .f32) (ix2 0 d) = 0 := by
  pointwise [k0_pay4]

end Cert.Proof.Sc

end
-- ==== Proof.FinVal.lean ====
module

public import proofs.«01_k».proof.Proof.Finish
public import proofs.«01_k».proof.Proof.TopkVal

@[expose] public section

noncomputable section

namespace Cert.Proof.Sc

open Cert.KernelIdeal Cert.KernelIdeal.Gen
open Idealize.ShloMosaic
open Cert.Proof.Order

section
variable {F : FTy → Type} [FloatOps F]

/-- The maximum of a block. -/
def maxOf (x : IVec S64x128 32) : BitVec 32 :=
  extractAt ![0, 0, 0] (shapeCast S1x1x1 (multiReductionI .maxsi [1, 2] S1 (shapeCast S1x64x128 x shapeCasts_S64x128_S1x64x128) 2147483648#32 reduces_S1x64x128_S1 rfl) shapeCasts_S1_S1x1x1) inpos_S1x1x1_p0_0_0

/-- The block with the entries equal to `w` struck out. -/
def strike (x : IVec S64x128 32) (w : BitVec 32) : IVec S64x128 32 :=
  select (cmpi .eq x (broadcast S64x128 w)) (broadcast S64x128 4294967295#32) x

def blkAt (x : IVec S64x128 32) : ℕ → IVec S64x128 32
  | 0 => x
  | k + 1 => strike (blkAt x k) (maxOf (blkAt x k))

variable (h : Vec F S32x8192 .i32)
theorem m1_eq : m1 h = maxOf (blkAt (k2_pay1 h) 0) := rfl
theorem m2_eq : m2 h = maxOf (blkAt (k2_pay1 h) 1) := rfl
theorem m3_eq : m3 h = maxOf (blkAt (k2_pay1 h) 2) := rfl
theorem m4_eq : m4 h = maxOf (blkAt (k2_pay1 h) 3) := rfl
theorem m5_eq : m5 h = maxOf (blkAt (k2_pay1 h) 4) := rfl
theorem m6_eq : m6 h = maxOf (blkAt (k2_pay1 h) 5) := rfl
theorem m7_eq : m7 h = maxOf (blkAt (k2_pay1 h) 6) := rfl
theorem m8_eq : m8 h = maxOf (blkAt (k2_pay1 h) 7) := rfl
end

/-- The row and the lane of a flat position. -/
def rw' (p : Fin 8192) : Fin 64 := ⟨p.val / 128, by omega⟩
def ln' (p : Fin 8192) : Fin 128 := ⟨p.val % 128, by omega⟩
def at' (x : IVec S64x128 32) (p : Fin 8192) : BitVec 32 := x (ix2 (rw' p) (ln' p))

theorem maxOf_apply (x : IVec S64x128 32) :
    maxOf x = Finset.fold IntOp.maxsi (2147483648#32) (fun y : Fin 64 × Fin 128 => x (ix2 y.1 y.2)) Finset.univ := by
  pointwise [maxOf]

theorem strike_at (x : IVec S64x128 32) (w : BitVec 32) (p : Fin 8192) : at' (strike x w) p = if at' x p = w then 4294967295#32 else at' x p := by
  have : strike x w (ix2 (rw' p) (ln' p)) = Scalar.select (IntOp.cmpi CmpIPredicate.eq (x (ix2 (rw' p) (ln' p))) w) (4294967295#32) (x (ix2 (rw' p) (ln' p))) := by
    pointwise [strike]
  show strike x w (ix2 (rw' p) (ln' p)) = _
  rw [this]
  by_cases h : x (ix2 (rw' p) (ln' p)) = w
  · rw [show at' x p = w from h, h]
    simp [Scalar.select, IntOp.cmpi]
  · rw [if_neg (show ¬ at' x p = w from h)]
    have hb : (x (ix2 (rw' p) (ln' p)) == w) = false := beq_false_of_ne h
    simp [Scalar.select, IntOp.cmpi, hb, at']

theorem maxsi_toInt (a b : BitVec 32) : (IntOp.maxsi a b).toInt = max a.toInt b.toInt := by
  show (if b.slt a then a else b).toInt = _
  by_cases h : b.toInt < a.toInt
  · rw [show b.slt a = true from decide_eq_true h, if_pos rfl, max_eq_left (le_of_lt h)]
  · rw [show b.slt a = false from decide_eq_false h, if_neg (by decide), max_eq_right (not_lt.mp h)]

theorem fold_maxsi {ι : Type} [DecidableEq ι] (f : ι → BitVec 32) (z : BitVec 32) (S : Finset ι) :
    (∀ c ∈ S, (f c).toInt ≤ (Finset.fold IntOp.maxsi z f S).toInt) ∧ (Finset.fold IntOp.maxsi z f S = z ∨ ∃ c ∈ S, Finset.fold IntOp.maxsi z f S = f c) := by
  induction S using Finset.induction_on with
  | empty => exact ⟨by simp, Or.inl (by simp)⟩
  | insert a S ha ih =>
    rw [Finset.fold_insert ha]
    refine ⟨fun c hc => ?_, ?_⟩
    · rw [maxsi_toInt]
      rcases Finset.mem_insert.mp hc with rfl | hc
      · exact le_max_left _ _
      · exact (ih.1 c hc).trans (le_max_right _ _)
    · have : ∀ x y : BitVec 32, IntOp.maxsi x y = x ∨ IntOp.maxsi x y = y := fun x y => by
        unfold IntOp.maxsi
        split
        · exact Or.inl rfl
        · exact Or.inr rfl
      rcases this (f a) (Finset.fold IntOp.maxsi z f S) with e | e
      · exact Or.inr ⟨a, Finset.mem_insert_self _ _, e⟩
      · rw [e]
        rcases ih.2 with h | ⟨c, hc, h⟩
        · exact Or.inl h
        · exact Or.inr ⟨c, Finset.mem_insert_of_mem hc, h⟩

/-- The maximum of a block is met at some position. -/
theorem maxOf_at (x : IVec S64x128 32) : ∃ p, maxOf x = at' x p ∧ ∀ c, (at' x c).toInt ≤ (at' x p).toInt := by
  have hp : ∀ y : Fin 64 × Fin 128, ∃ p : Fin 8192, rw' p = y.1 ∧ ln' p = y.2 := fun ⟨a, b⟩ =>
    ⟨⟨a.val * 128 + b.val, by omega⟩, Fin.ext (show (a.val * 128 + b.val) / 128 = a.val by omega), Fin.ext (show (a.val * 128 + b.val) % 128 = b.val by omega)⟩
  obtain ⟨h1, h2⟩ := fold_maxsi (fun y : Fin 64 × Fin 128 => x (ix2 y.1 y.2)) (2147483648#32) Finset.univ
  rw [← maxOf_apply] at h1 h2
  have hle : ∀ c, (at' x c).toInt ≤ (maxOf x).toInt := fun c => h1 (rw' c, ln' c) (Finset.mem_univ _)
  have hex : ∃ y : Fin 64 × Fin 128, maxOf x = x (ix2 y.1 y.2) := by
    rcases h2 with h | ⟨c, -, h⟩
    · refine ⟨(rw' 0, ln' 0), BitVec.eq_of_toInt_eq (le_antisymm ?_ (hle 0))⟩
      rw [h]
      have := BitVec.le_toInt (x (ix2 (rw' 0) (ln' 0)))
      simpa using this
    · exact ⟨c, h⟩
  obtain ⟨y, hy⟩ := hex
  obtain ⟨p, e1, e2⟩ := hp y
  have : maxOf x = at' x p := by rw [hy, ← e1, ← e2]; rfl
  exact ⟨p, this, fun c => this ▸ hle c⟩

/-- The eight rounds of maximum and strike pick the positions in order of their keys. -/
theorem rounds (x : IVec S64x128 32) (hx : ∀ p, 0 ≤ (at' x p).toInt) (hi : ∀ p q, (at' x p).toInt = (at' x q).toInt → p = q) (k : ℕ) (hk : k < 8) :
    maxOf (blkAt x k) = at' x (sel (fun p => (at' x p).toInt) ⟨k, by omega⟩) := by
  choose f hf1 hf2 using fun k => maxOf_at (blkAt x k)
  have inv : ∀ k ≤ 8, ∀ p, at' (blkAt x k) p = if ∃ i < k, p = f i then 4294967295#32 else at' x p := by
    intro k
    induction k with
    | zero => intro _ p; simp [blkAt]
    | succ k ih =>
      intro hk p
      have ih := ih (by omega)
      have hfree : ∃ q, ¬ ∃ i < k, q = f i := by
        by_contra hc
        push Not at hc
        have hsub : (Finset.univ : Finset (Fin 8192)) ⊆ (Finset.range k).image f := fun q _ => by
          obtain ⟨i, hi, e⟩ := hc q
          exact Finset.mem_image.mpr ⟨i, Finset.mem_range.mpr hi, e.symm⟩
        have h1 := Finset.card_le_card hsub
        have h2 := Finset.card_image_le (s := Finset.range k) (f := f)
        simp only [Finset.card_univ, Fintype.card_fin, Finset.card_range] at h1 h2
        omega
      obtain ⟨q, hq⟩ := hfree
      have hpos : 0 ≤ (at' (blkAt x k) (f k)).toInt := by
        refine le_trans ?_ (hf2 k q)
        rw [ih, if_neg hq]
        exact hx q
      have hneg : (4294967295#32 : BitVec 32).toInt = -1 := by decide
      have hfk : ¬ ∃ i < k, f k = f i := fun h => by
        rw [ih, if_pos h, hneg] at hpos
        omega
      show at' (strike (blkAt x k) (maxOf (blkAt x k))) p = _
      rw [strike_at, hf1 k]
      by_cases e : p = f k
      · subst e
        rw [if_pos rfl, if_pos ⟨k, by omega, rfl⟩]
      · have hne : ¬ at' (blkAt x k) p = at' (blkAt x k) (f k) := fun h => by
          by_cases hp : ∃ i < k, p = f i
          · rw [ih p, if_pos hp] at h
            rw [← h, hneg] at hpos
            omega
          · rw [ih p, if_neg hp, ih (f k), if_neg hfk] at h
            exact e (hi _ _ (congrArg BitVec.toInt h))
        rw [if_neg hne, ih p]
        have : (∃ i < k + 1, p = f i) ↔ ∃ i < k, p = f i :=
          ⟨fun ⟨i, h1, h2⟩ => ⟨i, by rcases Nat.lt_succ_iff_lt_or_eq.mp h1 with h | h; exact h; exact absurd (h ▸ h2) e, h2⟩, fun ⟨i, h1, h2⟩ => ⟨i, by omega, h2⟩⟩
        simp only [this]
  have hneg : (4294967295#32 : BitVec 32).toInt = -1 := by decide
  have invI : ∀ k ≤ 8, ∀ p, (at' (blkAt x k) p).toInt = if ∃ i < k, p = f i then -1 else (at' x p).toInt := fun k hk p => by
    rw [inv k hk p]
    split
    · exact hneg
    · rfl
  have hfree : ∀ k < 8, ¬ ∃ i < k, f k = f i := by
    intro k hk h
    have hc : ∃ q, ¬ ∃ i < k, q = f i := by
      by_contra hc
      push Not at hc
      have hsub : (Finset.univ : Finset (Fin 8192)) ⊆ (Finset.range k).image f := fun q _ => by
        obtain ⟨i, hi, e⟩ := hc q
        exact Finset.mem_image.mpr ⟨i, Finset.mem_range.mpr hi, e.symm⟩
      have h1 := Finset.card_le_card hsub
      have h2 := Finset.card_image_le (s := Finset.range k) (f := f)
      simp only [Finset.card_univ, Fintype.card_fin, Finset.card_range] at h1 h2
      omega
    obtain ⟨q, hq⟩ := hc
    have h1 := hf2 k q
    rw [invI k hk.le, invI k hk.le, if_neg hq, if_pos h] at h1
    have := hx q
    omega
  have hsel := rounds_eq_sel (fun p => (at' x p).toInt) (-1) (fun c => by have := hx c; show (-1 : ℤ) < (at' x c).toInt; omega) 8 (by omega) f
    (fun k hk c hc => by
      have h := hf2 k c
      rw [invI k hk.le, invI k hk.le, if_neg (hfree k hk)] at h
      show (_ : ℤ) < _ ∨ _
      left
      show (if ∃ i < k, c = f i then (-1 : ℤ) else (at' x c).toInt) < (if ∃ i < k, f k = f i then (-1 : ℤ) else (at' x (f k)).toInt)
      rw [if_neg (hfree k hk)]
      refine lt_of_le_of_ne h fun e => ?_
      by_cases hc' : ∃ i < k, c = f i
      · rw [if_pos hc'] at e
        have := hx (f k)
        omega
      · rw [if_neg hc'] at e
        exact hc (hi _ _ e)) k hk
  rw [← hsel, hf1 k, inv k hk.le, if_neg (hfree k hk)]

theorem pay1_at (h : Vec Ideal S32x8192 .i32) (p : Fin 8192) (n : ℕ) (hn : n ≤ 8192) (hh : Finset.fold IntOp.addi (0#32) (fun w : Fin 32 => h (ix2 w p)) Finset.univ = BitVec.ofNat 32 n) :
    at' (k2_pay1 h) p = BitVec.ofNat 32 (n * 16384 + (16383 - p.val)) := by
  have : k2_pay1 h (ix2 (rw' p) (ln' p)) = IntOp.addi (IntOp.muli (Finset.fold IntOp.addi (0#32) (fun x : Fin 32 => h (ix2 x ⟨(rw' p).val * 128 + (ln' p).val, by have := (rw' p).isLt; have := (ln' p).isLt; omega⟩)) Finset.univ) 16384#32)
      (IntOp.subi (16383#32) (IntOp.addi (IntOp.muli (BitVec.ofNat 32 (rw' p).val) 128#32) (BitVec.ofNat 32 (ln' p).val))) := by
    pointwise [k2_pay1]
  show k2_pay1 h (ix2 (rw' p) (ln' p)) = _
  rw [this]
  have hp : (⟨(rw' p).val * 128 + (ln' p).val, by have := (rw' p).isLt; have := (ln' p).isLt; omega⟩ : Fin 8192) = p := Fin.ext (show p.val / 128 * 128 + p.val % 128 = p.val by omega)
  rw [hp, hh]
  have hr : (rw' p).val = p.val / 128 := rfl
  have hl : (ln' p).val = p.val % 128 := rfl
  have := p.isLt
  apply BitVec.eq_of_toNat_eq
  simp only [IntOp.addi, IntOp.muli, IntOp.subi, BitVec.toNat_add, BitVec.toNat_mul, BitVec.toNat_sub, BitVec.toNat_ofNat, hr, hl]
  omega

theorem ofNat_toInt_small (n : ℕ) (h : n < 2 ^ 31) : (BitVec.ofNat 32 n).toInt = n := by
  rw [BitVec.toInt_eq_toNat_cond, BitVec.toNat_ofNat, Nat.mod_eq_of_lt (by omega), if_pos (by omega)]

/-- The id a picked key carries. -/
theorem id_of_key (n p : ℕ) (hn : n ≤ 8192) (hp : p < 8192) : (16383#32 - Scalar.remsi (BitVec.ofNat 32 (n * 16384 + (16383 - p))) 16384#32).toNat = p := by
  have hx : (BitVec.ofNat 32 (n * 16384 + (16383 - p))).toNat = n * 16384 + (16383 - p) := by rw [BitVec.toNat_ofNat, Nat.mod_eq_of_lt (by omega)]
  have := IntOp.toNat_remsi .scalar (x := BitVec.ofNat 32 (n * 16384 + (16383 - p))) (by rw [hx]; omega) 16384 (by omega) (by omega)
  rw [BitVec.toNat_sub]
  show (2 ^ 32 - (IntOp.remsi .scalar _ _).toNat + 16383) % 2 ^ 32 = p
  rw [this, hx]
  omega

variable (h : Vec Ideal S32x8192 .i32) (n : Fin 8192 → ℕ)

/-- The histogram rows add up to the counts `n`. -/
def Counts : Prop := ∀ p, n p ≤ 8192 ∧ Finset.fold IntOp.addi (0#32) (fun w : Fin 32 => h (ix2 w p)) Finset.univ = BitVec.ofNat 32 (n p)

/-- The `k`-th id in order of count, the lower id first. -/
def idOf (k : ℕ) (hk : k < 8) : Fin 8192 := sel n ⟨k, by omega⟩

variable {h n}

theorem max_eq (hC : Counts h n) (k : ℕ) (hk : k < 8) :
    maxOf (blkAt (k2_pay1 h) k) = BitVec.ofNat 32 (n (idOf n k hk) * 16384 + (16383 - (idOf n k hk).val)) := by
  have hI : ∀ p, (at' (k2_pay1 h) p).toInt = ((n p * 16384 + (16383 - p.val) : ℕ) : ℤ) := fun p => by
    have := (hC p).1
    rw [pay1_at h p (n p) (hC p).1 (hC p).2, ofNat_toInt_small _ (by omega)]
  rw [rounds (k2_pay1 h) (fun p => by rw [hI]; omega) (fun p q e => by rw [hI, hI] at e; exact Fin.ext (by omega)) k hk]
  have : sel (fun p => (at' (k2_pay1 h) p).toInt) = sel n := sel_congr _ _ fun a b hb => by
    unfold Bef at hb ⊢
    beta_reduce at hb
    rw [hI, hI] at hb
    rw [Fin.lt_def] at hb ⊢
    have := a.isLt
    have := b.isLt
    omega
  rw [this]
  exact pay1_at h _ _ (hC _).1 (hC _).2

theorem id_eq (hC : Counts h n) (k : ℕ) (hk : k < 8) : (16383#32 - Scalar.remsi (maxOf (blkAt (k2_pay1 h) k)) 16384#32).toNat = (idOf n k hk).val := by
  rw [max_eq hC k hk]
  exact id_of_key _ _ (hC _).1 (idOf n k hk).isLt

theorem sum_one (f : Fin 1 → EReal) : ∑ x, f x = f 0 := by simp

theorem nrm_row (v : Vec Ideal S1x128 .f32) (d : Fin 128) :
    Ideal.div (v (ix2 0 d)) (max (Scalar.sqrt (F := Ideal) (φ := .f32) (∑ _x : Fin 1, ∑ x : Fin 128, v (ix2 0 x) * v (ix2 0 x))) (Ideal.ofBits FTy.f32 730643660#32)) = nrmd (fun d => v (ix2 0 d)) d := by
  rw [sum_one]
  rfl

theorem pay4_apply (v : Vec Ideal S1x128 .f32) (d : Fin 128) : k2_pay4 v (ix2 0 d) = nrmd (fun d => v (ix2 0 d)) d := by
  have : k2_pay4 v (ix2 0 d) = Ideal.div (v (ix2 0 d)) (max (Scalar.sqrt (F := Ideal) (φ := .f32) (∑ _x : Fin 1, ∑ x : Fin 128, v (ix2 0 x) * v (ix2 0 x))) (Ideal.ofBits FTy.f32 730643660#32)) := by
    pointwise [k2_pay4]
  rw [this]
  simp only [nrm_row]

theorem pay7_apply (a v : Vec Ideal S1x128 .f32) (d : Fin 128) : k2_pay7 a v (ix2 0 d) = a (ix2 0 d) + nrmd (fun d => v (ix2 0 d)) d := by
  have : k2_pay7 a v (ix2 0 d) = a (ix2 0 d) + Ideal.div (v (ix2 0 d)) (max (Scalar.sqrt (F := Ideal) (φ := .f32) (∑ _x : Fin 1, ∑ x : Fin 128, v (ix2 0 x) * v (ix2 0 x))) (Ideal.ofBits FTy.f32 730643660#32)) := by
    pointwise [k2_pay7]
  rw [this]
  simp only [nrm_row]

theorem pay12_apply (a v w : Vec Ideal S1x128 .f32) (d : Fin 128) : k2_pay12 a v w (ix2 0 d) = a (ix2 0 d) + nrmd (fun d => v (ix2 0 d)) d + nrmd (fun d => w (ix2 0 d)) d := by
  have : k2_pay12 a v w (ix2 0 d) = a (ix2 0 d) + Ideal.div (v (ix2 0 d)) (max (Scalar.sqrt (F := Ideal) (φ := .f32) (∑ _x : Fin 1, ∑ x : Fin 128, v (ix2 0 x) * v (ix2 0 x))) (Ideal.ofBits FTy.f32 730643660#32)) + Ideal.div (w (ix2 0 d)) (max (Scalar.sqrt (F := Ideal) (φ := .f32) (∑ _x : Fin 1, ∑ x : Fin 128, w (ix2 0 x) * w (ix2 0 x))) (Ideal.ofBits FTy.f32 730643660#32)) := by
    pointwise [k2_pay12]
  rw [this]
  simp only [nrm_row]

theorem pay15_apply (a v : Vec Ideal S1x128 .f32) (d : Fin 128) : k2_pay15 a v (ix2 0 d) = a (ix2 0 d) + nrmd (fun d => v (ix2 0 d)) d := by
  have : k2_pay15 a v (ix2 0 d) = a (ix2 0 d) + Ideal.div (v (ix2 0 d)) (max (Scalar.sqrt (F := Ideal) (φ := .f32) (∑ _x : Fin 1, ∑ x : Fin 128, v (ix2 0 x) * v (ix2 0 x))) (Ideal.ofBits FTy.f32 730643660#32)) := by
    pointwise [k2_pay15]
  rw [this]
  simp only [nrm_row]

theorem pay20_apply (a v w : Vec Ideal S1x128 .f32) (d : Fin 128) : k2_pay20 a v (k2_pay18 v) w (ix2 0 d) = a (ix2 0 d) + nrmd (fun d => v (ix2 0 d)) d + nrmd (fun d => w (ix2 0 d)) d := by
  have : k2_pay20 a v (k2_pay18 v) w (ix2 0 d) = a (ix2 0 d) + Ideal.div (v (ix2 0 d)) (max (Scalar.sqrt (F := Ideal) (φ := .f32) (∑ _x : Fin 1, ∑ x : Fin 128, v (ix2 0 x) * v (ix2 0 x))) (Ideal.ofBits FTy.f32 730643660#32)) + Ideal.div (w (ix2 0 d)) (max (Scalar.sqrt (F := Ideal) (φ := .f32) (∑ _x : Fin 1, ∑ x : Fin 128, w (ix2 0 x) * w (ix2 0 x))) (Ideal.ofBits FTy.f32 730643660#32)) := by
    pointwise [k2_pay20, k2_pay18]
  rw [this]
  simp only [nrm_row]

theorem pay22_apply (a v q : Vec Ideal S1x128 .f32) :
    k2_pay22 a v q (ix2 0 0) = Ideal.div (∑ d : Fin 128, (a (ix2 0 d) + nrmd (fun d => v (ix2 0 d)) d) * q (ix2 0 d)) (Ideal.ofBits FTy.f32 0x44800000#32) := by
  have : k2_pay22 a v q (ix2 0 0) = Ideal.div (∑ _x : Fin 1, ∑ d : Fin 128, (a (ix2 0 d) + Ideal.div (v (ix2 0 d)) (max (Scalar.sqrt (F := Ideal) (φ := .f32) (∑ _x : Fin 1, ∑ x : Fin 128, v (ix2 0 x) * v (ix2 0 x))) (Ideal.ofBits FTy.f32 730643660#32))) * q (ix2 0 d)) (Ideal.ofBits FTy.f32 0x44800000#32) := by
    pointwise [k2_pay22]
  rw [this, sum_one]
  simp only [nrm_row]

theorem pay23_apply (a : Vec Ideal S1x32x768 .f32) (x : Fin 128) (y : Fin 32) (z : Fin 768) : k2_pay23 a (ix3 x y z) = a (ix3 0 y z) := by
  pointwise [k2_pay23]

theorem rAt_apply (X1 : S8192x128.Idx → Elt Ideal .f32) (off : Fin 2 → ℕ) (hin : ∀ a, off a + S1x128.size a ≤ S8192x128.size a) (b : Fin 8192)
    (h0 : off 0 = b.val) (h1 : off 1 = 0) (d : Fin 128) : rAt X1 off hin (ix2 0 d) = X1 (ix2 b d) := by
  refine congrArg X1 (funext fun a => ?_)
  match a with
  | ⟨0, _⟩ => exact Fin.ext (by show off 0 + 1 * 0 = b.val; omega)
  | ⟨1, _⟩ => exact Fin.ext (by show off 1 + 1 * d.val = d.val; omega)

theorem id_eq' (hC : Counts h n) (k : ℕ) (hk : k < 8) (m : BitVec 32) (hm : m = maxOf (blkAt (k2_pay1 h) k)) :
    (16383#32 - Scalar.remsi m 16384#32).toNat = (idOf n k hk).val := by
  rw [hm]
  exact id_eq hC k hk

theorem off1_0 (m : BitVec 32) : k2_off1 m 0 = (16383#32 - Scalar.remsi m 16384#32).toNat := rfl
theorem off2_0 (m : BitVec 32) : k2_off2 m 0 = (16383#32 - Scalar.remsi m 16384#32).toNat := rfl
theorem off3_0 (m : BitVec 32) : k2_off3 m 0 = (16383#32 - Scalar.remsi m 16384#32).toNat := rfl
theorem off4_0 (m : BitVec 32) : k2_off4 m 0 = (16383#32 - Scalar.remsi m 16384#32).toNat := rfl
theorem off5_0 (m : BitVec 32) : k2_off5 m 0 = (16383#32 - Scalar.remsi m 16384#32).toNat := rfl
theorem off6_0 (m : BitVec 32) : k2_off6 m 0 = (16383#32 - Scalar.remsi m 16384#32).toNat := rfl
theorem off7_0 (m : BitVec 32) : k2_off7 m 0 = (16383#32 - Scalar.remsi m 16384#32).toNat := rfl
theorem off8_0 (m : BitVec 32) : k2_off8 m 0 = (16383#32 - Scalar.remsi m 16384#32).toNat := rfl
theorem off9_0 (m : BitVec 32) : k2_off9 m 0 = (16383#32 - Scalar.remsi m 16384#32).toNat := rfl
theorem off10_0 (m : BitVec 32) : k2_off10 m 0 = (16383#32 - Scalar.remsi m 16384#32).toNat := rfl
theorem off11_0 (m : BitVec 32) : k2_off11 m 0 = (16383#32 - Scalar.remsi m 16384#32).toNat := rfl
theorem off12_0 (m : BitVec 32) : k2_off12 m 0 = (16383#32 - Scalar.remsi m 16384#32).toNat := rfl
theorem off13_0 (m : BitVec 32) : k2_off13 m 0 = (16383#32 - Scalar.remsi m 16384#32).toNat := rfl
theorem off14_0 (m : BitVec 32) : k2_off14 m 0 = (16383#32 - Scalar.remsi m 16384#32).toNat := rfl
theorem off15_0 (m : BitVec 32) : k2_off15 m 0 = (16383#32 - Scalar.remsi m 16384#32).toNat := rfl
theorem off16_0 (m : BitVec 32) : k2_off16 m 0 = (16383#32 - Scalar.remsi m 16384#32).toNat := rfl

theorem at1 (hC : Counts h n) : k2_off1 (m1 h) 0 = (idOf n 0 (by decide)).val := (off1_0 _).trans (id_eq' hC 0 (by decide) _ (m1_eq h))
theorem at2 (hC : Counts h n) : k2_off2 (m1 h) 0 = (idOf n 0 (by decide)).val := (off2_0 _).trans (id_eq' hC 0 (by decide) _ (m1_eq h))
theorem at3 (hC : Counts h n) : k2_off3 (m2 h) 0 = (idOf n 1 (by decide)).val := (off3_0 _).trans (id_eq' hC 1 (by decide) _ (m2_eq h))
theorem at4 (hC : Counts h n) : k2_off4 (m2 h) 0 = (idOf n 1 (by decide)).val := (off4_0 _).trans (id_eq' hC 1 (by decide) _ (m2_eq h))
theorem at5 (hC : Counts h n) : k2_off5 (m3 h) 0 = (idOf n 2 (by decide)).val := (off5_0 _).trans (id_eq' hC 2 (by decide) _ (m3_eq h))
theorem at6 (hC : Counts h n) : k2_off6 (m3 h) 0 = (idOf n 2 (by decide)).val := (off6_0 _).trans (id_eq' hC 2 (by decide) _ (m3_eq h))
theorem at7 (hC : Counts h n) : k2_off7 (m4 h) 0 = (idOf n 3 (by decide)).val := (off7_0 _).trans (id_eq' hC 3 (by decide) _ (m4_eq h))
theorem at8 (hC : Counts h n) : k2_off8 (m4 h) 0 = (idOf n 3 (by decide)).val := (off8_0 _).trans (id_eq' hC 3 (by decide) _ (m4_eq h))
theorem at9 (hC : Counts h n) : k2_off9 (m5 h) 0 = (idOf n 4 (by decide)).val := (off9_0 _).trans (id_eq' hC 4 (by decide) _ (m5_eq h))
theorem at10 (hC : Counts h n) : k2_off10 (m5 h) 0 = (idOf n 4 (by decide)).val := (off10_0 _).trans (id_eq' hC 4 (by decide) _ (m5_eq h))
theorem at11 (hC : Counts h n) : k2_off11 (m6 h) 0 = (idOf n 5 (by decide)).val := (off11_0 _).trans (id_eq' hC 5 (by decide) _ (m6_eq h))
theorem at12 (hC : Counts h n) : k2_off12 (m6 h) 0 = (idOf n 5 (by decide)).val := (off12_0 _).trans (id_eq' hC 5 (by decide) _ (m6_eq h))
theorem at13 (hC : Counts h n) : k2_off13 (m7 h) 0 = (idOf n 6 (by decide)).val := (off13_0 _).trans (id_eq' hC 6 (by decide) _ (m7_eq h))
theorem at14 (hC : Counts h n) : k2_off14 (m7 h) 0 = (idOf n 6 (by decide)).val := (off14_0 _).trans (id_eq' hC 6 (by decide) _ (m7_eq h))
theorem at15 (hC : Counts h n) : k2_off15 (m8 h) 0 = (idOf n 7 (by decide)).val := (off15_0 _).trans (id_eq' hC 7 (by decide) _ (m8_eq h))
theorem at16 (hC : Counts h n) : k2_off16 (m8 h) 0 = (idOf n 7 (by decide)).val := (off16_0 _).trans (id_eq' hC 7 (by decide) _ (m8_eq h))

theorem off17_0 (m : BitVec 32) : k2_off17 m 0 = (16383#32 - Scalar.remsi m 16384#32).toNat := rfl
theorem off18_0 (m : BitVec 32) : k2_off18 m 0 = (16383#32 - Scalar.remsi m 16384#32).toNat := rfl
theorem off19_0 (m : BitVec 32) : k2_off19 m 0 = (16383#32 - Scalar.remsi m 16384#32).toNat := rfl
theorem off20_0 (m : BitVec 32) : k2_off20 m 0 = (16383#32 - Scalar.remsi m 16384#32).toNat := rfl
theorem off21_0 (m : BitVec 32) : k2_off21 m 0 = (16383#32 - Scalar.remsi m 16384#32).toNat := rfl
theorem off22_0 (m : BitVec 32) : k2_off22 m 0 = (16383#32 - Scalar.remsi m 16384#32).toNat := rfl
theorem off23_0 (m : BitVec 32) : k2_off23 m 0 = (16383#32 - Scalar.remsi m 16384#32).toNat := rfl
theorem at17 (hC : Counts h n) : k2_off17 (m1 h) 0 = (idOf n 0 (by decide)).val := (off17_0 _).trans (id_eq' hC 0 (by decide) _ (m1_eq h))
theorem at18 (hC : Counts h n) : k2_off18 (m2 h) 0 = (idOf n 1 (by decide)).val := (off18_0 _).trans (id_eq' hC 1 (by decide) _ (m2_eq h))
theorem at19 (hC : Counts h n) : k2_off19 (m3 h) 0 = (idOf n 2 (by decide)).val := (off19_0 _).trans (id_eq' hC 2 (by decide) _ (m3_eq h))
theorem at20 (hC : Counts h n) : k2_off20 (m4 h) 0 = (idOf n 3 (by decide)).val := (off20_0 _).trans (id_eq' hC 3 (by decide) _ (m4_eq h))
theorem at21 (hC : Counts h n) : k2_off21 (m5 h) 0 = (idOf n 4 (by decide)).val := (off21_0 _).trans (id_eq' hC 4 (by decide) _ (m5_eq h))
theorem at22 (hC : Counts h n) : k2_off22 (m6 h) 0 = (idOf n 5 (by decide)).val := (off22_0 _).trans (id_eq' hC 5 (by decide) _ (m6_eq h))
theorem at23 (hC : Counts h n) : k2_off23 (m7 h) 0 = (idOf n 6 (by decide)).val := (off23_0 _).trans (id_eq' hC 6 (by decide) _ (m7_eq h))

theorem pSl_read (off : Fin 3 → ℕ) (hin : ∀ a, off a + S1x4x768.size a ≤ S8192x4x768.size a) (P : S8192x4x768.Idx → Elt Ideal .f32) (b : Fin 8192)
    (h0 : off 0 = b.val) (h1 : off 1 = 0) (h2 : off 2 = 0) (r : Fin 4) (z : Fin 768) :
    (pSl off hin).view.read (Elt Ideal) P (ix3 0 r z) = P (ix3 b r z) := by
  show P ((Rect.unit (s := S8192x4x768) off S1x4x768.size hin).emb (ix3 0 r z)) = _
  refine congrArg P (funext fun a => ?_)
  match a with
  | ⟨0, _⟩ => exact Fin.ext (by show off 0 + 1 * 0 = _; rw [h0]; rfl)
  | ⟨1, _⟩ => exact Fin.ext (by show off 1 + 1 * r.val = r.val; rw [h1]; omega)
  | ⟨2, _⟩ => exact Fin.ext (by show off 2 + 1 * z.val = z.val; rw [h2]; omega)

theorem offs_0 (hC : Counts h n) (i : Fin 8) : offs h i 0 = (idOf n i.val i.isLt).val := by
  fin_cases i
  · exact at1 hC
  · exact at3 hC
  · exact at5 hC
  · exact at7 hC
  · exact at9 hC
  · exact at11 hC
  · exact at13 hC
  · exact at15 hC

theorem offs_1 (i : Fin 8) : offs h i 1 = 0 := by fin_cases i <;> rfl
theorem offs_2 (i : Fin 8) : offs h i 2 = 0 := by fin_cases i <;> rfl

theorem inb3 (off : Fin 3 → ℕ) (b : Fin 8192) (h0 : off 0 = b.val) (h1 : off 1 = 0) (h2 : off 2 = 0) : ∀ a, off a + S1x4x768.size a ≤ S8192x4x768.size a := by
  intro a
  match a with
  | ⟨0, _⟩ => show off 0 + 1 ≤ 8192; omega
  | ⟨1, _⟩ => show off 1 + 4 ≤ 4; omega
  | ⟨2, _⟩ => show off 2 + 768 ≤ 768; omega

theorem inb2 (off : Fin 2 → ℕ) (b : Fin 8192) (h0 : off 0 = b.val) (h1 : off 1 = 0) : ∀ a, off a + S1x128.size a ≤ S8192x128.size a := by
  intro a
  match a with
  | ⟨0, _⟩ => show off 0 + 1 ≤ 8192; omega
  | ⟨1, _⟩ => show off 1 + 128 ≤ 128; omega

/-- The picked ids are in range. -/
theorem chk (hC : Counts h n) : Chk h :=
  ⟨⟨inb3 _ _ (at1 hC) rfl rfl, inb2 _ _ (at2 hC) rfl, inb3 _ _ (at17 hC) rfl rfl⟩,
    ⟨inb3 _ _ (at3 hC) rfl rfl, inb2 _ _ (at4 hC) rfl, inb3 _ _ (at18 hC) rfl rfl⟩,
    ⟨inb3 _ _ (at5 hC) rfl rfl, inb2 _ _ (at6 hC) rfl, inb3 _ _ (at19 hC) rfl rfl⟩,
    ⟨inb3 _ _ (at7 hC) rfl rfl, inb2 _ _ (at8 hC) rfl, inb3 _ _ (at20 hC) rfl rfl⟩,
    ⟨inb3 _ _ (at9 hC) rfl rfl, inb2 _ _ (at10 hC) rfl, inb3 _ _ (at21 hC) rfl rfl⟩,
    ⟨inb3 _ _ (at11 hC) rfl rfl, inb2 _ _ (at12 hC) rfl, inb3 _ _ (at22 hC) rfl rfl⟩,
    ⟨inb3 _ _ (at13 hC) rfl rfl, inb2 _ _ (at14 hC) rfl, inb3 _ _ (at23 hC) rfl rfl⟩,
    ⟨inb3 _ _ (at15 hC) rfl rfl, inb2 _ _ (at16 hC) rfl⟩⟩

/-- The call's first result: the prompts of the eight picked ids, for every query. -/
theorem outV_apply (hC : Counts h n) (hc : Chk h) (P : S8192x4x768.Idx → Elt Ideal .f32) (x : Fin 1024) (y : Fin 32) (z : Fin 768) :
    outV h hc P (ix3 x y z) = P (ix3 (idOf n (y.val / 4) (by omega)) ⟨y.val % 4, by omega⟩ z) := by
  have h1 : outV h hc P (ix3 x y z) = k2_pay23 (tileOf (rowsV h hc P)) (ix3 ⟨x.val % 128, by omega⟩ y z) := by
    show outOf (k2_pay23 (tileOf (rowsV h hc P))) (ix3 x y z) = _
    refine congrArg (k2_pay23 (tileOf (rowsV h hc P))) (?_ : ix3 (n0 := 128) (n1 := 32) (n2 := 768) _ _ _ = _)
    refine funext fun a => ?_
    match a with
    | ⟨0, _⟩ => rfl
    | ⟨1, _⟩ => rfl
    | ⟨2, _⟩ => rfl
  rw [h1, pay23_apply]
  have h2 : tileOf (rowsV h hc P) (ix3 0 y z) = rowsV h hc P ⟨y.val / 4, by omega⟩ (ix3 0 ⟨y.val % 4, by omega⟩ z) := by
    refine congrArg (rowsV h hc P ⟨y.val / 4, by omega⟩) (funext fun a => ?_)
    match a with
    | ⟨0, _⟩ => rfl
    | ⟨1, _⟩ => rfl
    | ⟨2, _⟩ => rfl
  rw [h2]
  have h0 := offs_0 hC ⟨y.val / 4, by omega⟩
  have h1 := offs_1 (h := h) ⟨y.val / 4, by omega⟩
  have h2 := offs_2 (h := h) ⟨y.val / 4, by omega⟩
  exact pSl_read _ _ P _ h0 h1 h2 _ z

/-- The call's second result: the normalized keys of the eight picked ids against the summed queries, over the number of queries. -/
theorem lossV_apply (hC : Counts h n) (hc : Chk h) (X1 : S8192x128.Idx → Elt Ideal .f32) (X2 : S1x128.Idx → Elt Ideal .f32) :
    lossV h X1 X2 hc (ix2 0 0) = Ideal.div (∑ d : Fin 128, (∑ i : Fin 8, nrmd (fun d => X1 (ix2 (idOf n i.val i.isLt) d)) d) * X2 (ix2 0 d)) (Ideal.ofBits FTy.f32 0x44800000#32) := by
  have hr : ∀ (i : Fin 8) (off : Fin 2 → ℕ) (hin : ∀ a, off a + S1x128.size a ≤ S8192x128.size a), off 0 = (idOf n i.val i.isLt).val → off 1 = 0 →
      (fun d : Fin 128 => rAt X1 off hin (ix2 0 d)) = fun d => X1 (ix2 (idOf n i.val i.isLt) d) := fun i off hin h0 h1 => funext fun d => rAt_apply X1 off hin _ h0 h1 d
  unfold lossV
  simp only [pay22_apply, pay20_apply, pay15_apply, pay12_apply, pay7_apply, pay4_apply]
  rw [hr 0 (k2_off2 (m1 h)) _ (at2 hC) rfl]
  rw [hr 1 (k2_off4 (m2 h)) _ (at4 hC) rfl]
  rw [hr 2 (k2_off6 (m3 h)) _ (at6 hC) rfl]
  rw [hr 3 (k2_off8 (m4 h)) _ (at8 hC) rfl]
  rw [hr 4 (k2_off10 (m5 h)) _ (at10 hC) rfl]
  rw [hr 5 (k2_off12 (m6 h)) _ (at12 hC) rfl]
  rw [hr 6 (k2_off14 (m7 h)) _ (at14 hC) rfl]
  rw [hr 7 (k2_off16 (m8 h)) _ (at16 hC) rfl]
  refine congrArg (fun s : EReal => Ideal.div s (Ideal.ofBits FTy.f32 0x44800000#32)) (Finset.sum_congr rfl fun d _ => congrArg (· * X2 (ix2 0 d)) ?_)
  rw [Fin.sum_univ_eight]

end Cert.Proof.Sc

end
-- ==== Proof.Sc.lean ====
/-
  The SparseCore call: 32 vector subcores, each fetching its 256 picked indices, zeroing its 8192 counters, adding one
  per index by two masked scatter-adds per sixteen, and writing its row of the histogram. What the handshakes carry is
  one chunk of the index list and one row of the histogram per task, the row coming back as the counts of the chunk.
-/
module

public import proofs.«01_k».proof.Proof.Setup

@[expose] public section

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Hist (word part histV)

variable {F : FTy → Type}

local notation "𝕄" => MT nD τ sig (HIx 1) (Elt F) ℕ UU ℕ

local notation "iV" => (Memref.whole Cert.KernelIdeal.main_v1_scv : Memref Cert.KernelIdeal.sig Kind.scVector Space.hbm Cert.KernelIdeal.S8192 EltTy.i32)
local notation "hV" => (Memref.whole Cert.KernelIdeal.main_v2_scv : Memref Cert.KernelIdeal.sig Kind.scVector Space.hbm Cert.KernelIdeal.S32x8192 EltTy.i32)
local notation "sI" => (Memref.whole Cert.KernelIdeal.cc1_scratch0 : Memref Cert.KernelIdeal.sig Kind.scVector Space.vmem Cert.KernelIdeal.S256 EltTy.i32)
local notation "sC" => (Memref.whole Cert.KernelIdeal.cc1_scratch1 : Memref Cert.KernelIdeal.sig Kind.scVector Space.vmem Cert.KernelIdeal.S8192 EltTy.i32)

theorem hdivI : 32 ∣ S8192.size 0 := ⟨256, rfl⟩
theorem hdivH : 32 ∣ S32x8192.size 0 := ⟨1, rfl⟩
/-- Chunk `w` of the index list and row `w` of the histogram: one task's. -/
abbrev chunk (w : Fin 32) : Rect S8192 := Rect.part (s := S8192) (a₀ := 0) hdivI w
abbrev chunkSet (w : Fin 32) : Finset S8192.Idx := ((iV).view.slice (chunk w)).set
abbrev row (w : Fin 32) : Rect S32x8192 := Rect.part (s := S32x8192) (a₀ := 0) hdivH w
abbrev rowSet (w : Fin 32) : Finset S32x8192.Idx := ((hV).view.slice (row w)).set

theorem nCore_zero : (K (F := F)).nCore 0 = 2 := rfl
theorem nSub_zero : (K (F := F)).nSub 0 = 16 := rfl

/-- The worker number of subcore `i` of SparseCore `c`. -/
abbrev wid (c : Fin 2) (i : Fin 16) : Fin 32 := ⟨2 * i.val + c.val, by omega⟩

variable [FloatOps F]

/-! ## What the handshakes carry -/

variable (iv : Dev nD → S8192.Idx → BitVec 32)

abbrev iPts (d : Dev nD) (w : Fin 32) : sProp 𝕄 := iLoc d ↦[chunkSet w]{fullShare} (show Buf (Elt F) (iLoc d) from iv d)
abbrev hPts (d : Dev nD) (w : Fin 32) (f : Buf (Elt F) (hLoc d)) : sProp 𝕄 := hLoc d ↦[rowSet w]{fullShare} f
abbrev hVal (d : Dev nD) : Buf (Elt F) (hLoc d) := show S32x8192.Idx → BitVec 32 from histV (iv d)

abbrev goOf (d : Dev nD) (w : Fin 32) : sProp 𝕄 := iprop(iPts iv d w ∗ ∃ f, hPts d w f)
abbrev tdOf (d : Dev nD) (w : Fin 32) : sProp 𝕄 := iprop(iPts iv d w ∗ hPts d w (hVal iv d))

def P : (K (F := F)).Pay (nD := nD) (Val := Elt F) (Name := ℕ) (U := UU) where
  st := fun q d c => match q with | 0 => bigSep Finset.univ fun i : Fin 16 => goOf iv d (wid (Fin.cast nCore_zero c) i)
  dn := fun q d c => match q with | 0 => bigSep Finset.univ fun i : Fin 16 => tdOf iv d (wid (Fin.cast nCore_zero c) i)
  go := fun q d c i => match q with | 0 => goOf iv d (wid (Fin.cast nCore_zero c) (Fin.cast nSub_zero i))
  td := fun q d c i => match q with | 0 => tdOf iv d (wid (Fin.cast nCore_zero c) (Fin.cast nSub_zero i))
  x := fun _ _ => iprop(emp)

instance P_storable : (P (F := F) iv).IsStorable where
  st q d c := match q with
    | 0 => (inferInstance : BI.Storable (upEmb : UEmb _ 𝕄) (bigSep Finset.univ fun i : Fin 16 => goOf iv d (wid (Fin.cast nCore_zero c) i)))
  dn q d c := match q with
    | 0 => (inferInstance : BI.Storable (upEmb : UEmb _ 𝕄) (bigSep Finset.univ fun i : Fin 16 => tdOf iv d (wid (Fin.cast nCore_zero c) i)))
  go q d c i := match q with
    | 0 => (inferInstance : BI.Storable (upEmb : UEmb _ 𝕄) (goOf iv d (wid (Fin.cast nCore_zero c) (Fin.cast nSub_zero i))))
  td q d c i := match q with
    | 0 => (inferInstance : BI.Storable (upEmb : UEmb _ 𝕄) (tdOf iv d (wid (Fin.cast nCore_zero c) (Fin.cast nSub_zero i))))

/-! ## The task -/

section Tile

variable (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev wL (L : grid1.Coords) : Fin 32 := wid (Fin.cast bound_zero (L 0)) (Fin.cast bound_one (L 1))

abbrev chunkK (L : grid1.Coords) : Rect S8192 := Rect.unit (s := S8192) (k1_off1 L) S256.size (k1_off1_inb L)
abbrev iK (L : grid1.Coords) : Memref sig .scVector .hbm S256 .i32 := (iV).slice (chunkK L) (fun _ => rfl)
abbrev rowK (L : grid1.Coords) : Rect S32x8192 := Rect.unit (s := S32x8192) (k1_off4 L) S1x8192.size (k1_off4_inb L)
abbrev hK (L : grid1.Coords) : Memref sig .scVector .hbm S8192 .i32 := ((hV).slice (rowK L) (fun _ => rfl)).squeeze S8192 squeezes_S1x8192_S8192

omit [FloatOps F] in
theorem chunkK_eq : chunkK L = chunk (wL L) := by
  obtain ⟨w, hw, hv⟩ : ∃ w, wL L = w ∧ w.val = 2 * (L 1).val + (L 0).val := ⟨_, rfl, rfl⟩
  rw [hw]
  unfold chunkK chunk Rect.part Rect.block
  congr 1 <;> funext a
  · rw [k1_off1_eq]
    match a with
    | 0 => simp [Shape.partIx, Shape.partSize, hv]; omega
  · match a with
    | 0 => simp [Shape.partSize]
omit [FloatOps F] in
theorem rowK_eq : rowK L = row (wL L) := by
  obtain ⟨w, hw, hv⟩ : ∃ w, wL L = w ∧ w.val = 2 * (L 1).val + (L 0).val := ⟨_, rfl, rfl⟩
  rw [hw]
  unfold rowK row Rect.part Rect.block
  congr 1 <;> funext a
  · rw [k1_off4_eq]
    match a with
    | 0 => simp [Shape.partIx, Shape.partSize, hv]
    | 1 => simp [Shape.partIx, Shape.partSize]
  · match a with
    | 0 => simp [Shape.partSize]
    | 1 => simp [Shape.partSize]

omit [FloatOps F] in
theorem set_iK : (iK L).view.set = chunkSet (wL L) := by
  show ((iV).view.slice (chunkK L)).set = ((iV).view.slice (chunk (wL L))).set
  exact chunkK_eq L ▸ rfl
omit [FloatOps F] in
theorem set_hK : (hK L).view.set = rowSet (wL L) := by
  show (((hV).view.slice (rowK L)).reshape S8192 squeezes_S1x8192_S8192.numel_eq).set = ((hV).view.slice (row (wL L))).set
  rw [View.set_reshape]
  exact rowK_eq L ▸ rfl

omit [FloatOps F] in
theorem pts_iK (f : Buf (Elt F) (iLoc d)) :
    ((iK L).view.loc (V d (cV L) (jV L)) ↦[(iK L).view.set]{fullShare} f : sProp 𝕄) = iLoc d ↦[chunkSet (wL L)]{fullShare} f := by
  rw [set_iK]
omit [FloatOps F] in
theorem pts_hK (f : Buf (Elt F) (hLoc d)) :
    ((hK L).view.loc (V d (cV L) (jV L)) ↦[(hK L).view.set]{fullShare} f : sProp 𝕄) = hLoc d ↦[rowSet (wL L)]{fullShare} f := by
  rw [set_hK]
omit [FloatOps F] in
theorem pts_sI (f : Buf (Elt F) ((V d (cV L) (jV L)).loc cc1_scratch0)) :
    ((sI).view.loc (V d (cV L) (jV L)) ↦{fullShare} f : sProp 𝕄) = (V d (cV L) (jV L)).loc cc1_scratch0 ↦{fullShare} f := rfl
omit [FloatOps F] in
theorem pts_sC (f : Buf (Elt F) ((V d (cV L) (jV L)).loc cc1_scratch1)) :
    ((sC).view.loc (V d (cV L) (jV L)) ↦{fullShare} f : sProp 𝕄) = (V d (cV L) (jV L)).loc cc1_scratch1 ↦{fullShare} f := rfl
omit [FloatOps F] in
theorem pts_sC_whole (f : Buf (Elt F) ((V d (cV L) (jV L)).loc cc1_scratch1)) :
    (((sC).access (.whole S8192)).loc (V d (cV L) (jV L)) ↦[((sC).access (.whole S8192)).set]{fullShare} f : sProp 𝕄)
      = (sC).view.loc (V d (cV L) (jV L)) ↦{fullShare} f := by
  rw [show ((sC).access (.whole S8192)).set = Finset.univ from Memref.set_access_whole (cc1_scratch1 : Ref sig .scVector)]

/-- The two scoped DMA cells the body names: the fetch's and the write-out's. -/
abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped1.sem : SemLoc sig).isScoped .scVector = true; decide⟩⟩)]

omit [FloatOps F] in
/-- The subcore's own buffers are the two scratches, each at some contents, together with the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- The zeroing loop's invariant: the first `16 t` counters are zero. -/
def inv1 (t : Nat) (_ : PUnit) : sProp 𝕄 :=
  iprop(∃ f : Buf (Elt F) ((V d (cV L) (jV L)).loc cc1_scratch1),
    ⌜∀ j : S8192.Idx, (j 0).val < 16 * t → (f : S8192.Idx → BitVec 32) j = 0#32⌝
    ∗ (sC).view.loc (V d (cV L) (jV L)) ↦{fullShare} f)

/-- The fetched chunk; the counters at the counts of their bins among the first `16 t` of it. -/
def gBuf : Buf (Elt F) ((V d (cV L) (jV L)).loc cc1_scratch0) := fun (j : S256.Idx) => word (iv d) (256 * (wL L).val + (j 0).val)
def cBuf (t : Nat) : Buf (Elt F) ((V d (cV L) (jV L)).loc cc1_scratch1) := fun (j : S8192.Idx) => part (iv d) (wL L).val (16 * t) (j 0).val

/-- The counting loop's invariant. -/
def inv2 (t : Nat) (_ : PUnit) : sProp 𝕄 :=
  iprop(((sI).view.loc (V d (cV L) (jV L)) ↦{fullShare} gBuf iv d L)
    ∗ (sC).view.loc (V d (cV L) (jV L)) ↦{fullShare} cBuf iv d L t)

omit [FloatOps F] in
/-- One zeroing trip. -/
theorem step1 (k : Fin k1_t1_loop.trips) (f : Buf (Elt F) ((V d (cV L) (jV L)).loc cc1_scratch1))
    (hf : ∀ j : S8192.Idx, (j 0).val < 16 * k.val → (f : S8192.Idx → BitVec 32) j = 0#32) (j : S8192.Idx) (hj : (j 0).val < 16 * (k.val + 1)) :
    ((sC).view.writes (Elt F) f [⟨Rect.unit (s := S8192) (k1_off2 k) S16.size (k1_off2_inb k), k1_pay1⟩] : S8192.Idx → BitVec 32) j = 0#32 := by
  show (sC).view.read (Elt F) ((sC).view.writes (Elt F) f [⟨Rect.unit (s := S8192) (k1_off2 k) S16.size (k1_off2_inb k), k1_pay1⟩]) j = 0#32
  have ho : k1_off2 k 0 = 16 * k.val := congrFun (k1_off2_eq k) 0
  by_cases h : (j 0).val < 16 * k.val
  · rw [View.read_writes_cons_miss_of_axis (sC).view f _ [] j 0 (16 * k.val) 16 ho rfl rfl (Or.inl h)]
    exact hf j h
  · rw [View.read_writes_cons_hit_of_coords (sC).view f _ _ [] (ix1 ⟨(j 0).val - 16 * k.val, by omega⟩ : S16.Idx) j (by
      intro (a : Fin 1); obtain rfl : a = 0 := Subsingleton.elim _ _
      show (j 0).val = k1_off2 k 0 + 1 * ((j 0).val - 16 * k.val)
      omega)]
    rfl

omit [FloatOps F] in
/-- What a trip of the counting loop loads: sixteen words of the chunk. -/
theorem load2 (k : Fin k1_t2_loop.trips) (x : Fin 16) :
    ((sI).view.readAt (Elt F) (Rect.unit (s := S256) (k1_off3 k) S16.size (k1_off3_inb k)).toLoadRect (gBuf (F := F) iv d L) : S16.Idx → BitVec 32) (ix1 x)
      = word (iv d) (256 * (wL L).val + (16 * k.val + x.val)) := by
  show word (iv d) (256 * (wL L).val + (k1_off3 k 0 + 1 * x.val)) = _
  rw [show k1_off3 k 0 = 16 * k.val from congrFun (k1_off3_eq k) 0, Nat.one_mul]

omit [FloatOps F] in
theorem word_lt (hiv : ∀ d j, (iv d j).toNat < 8192) (n : ℕ) : (word (iv d) n).toNat < 8192 := by
  unfold Hist.word; split
  · exact hiv _ _
  · decide

omit [FloatOps F] in
theorem chk2 (hiv : ∀ d j, (iv d j).toNat < 8192) (k : Fin k1_t2_loop.trips) :
    k1_chk1 ((sI).view.readAt (Elt F) (Rect.unit (s := S256) (k1_off3 k) S16.size (k1_off3_inb k)).toLoadRect (gBuf (F := F) iv d L) : S16.Idx → BitVec 32) := by
  have h : ∀ a x, ((![((sI).view.readAt (Elt F) (Rect.unit (s := S256) (k1_off3 k) S16.size (k1_off3_inb k)).toLoadRect (gBuf (F := F) iv d L) : S16.Idx → BitVec 32)] : Fin 1 → IVec S16 32) a x).toNat < S8192.size a := by
    intro a x; obtain rfl : a = 0 := Subsingleton.elim _ _
    rw [eq_ix1 x]
    have := load2 (F := F) iv d L k (x 0)
    exact lt_of_eq_of_lt (congrArg BitVec.toNat this) (word_lt iv d hiv _)
  exact ⟨h, h⟩

/-- One counting trip: the two scatters take the counts to the next sixteen. -/
theorem step2 (k : Fin k1_t2_loop.trips) (v : IVec S16 32)
    (hv : v = ((sI).view.readAt (Elt F) (Rect.unit (s := S256) (k1_off3 k) S16.size (k1_off3_inb k)).toLoadRect (gBuf (F := F) iv d L) : S16.Idx → BitVec 32))
    (h h' : ∀ a x, ((![v] : Fin 1 → IVec S16 32) a x).toNat < S8192.size a) :
    (storeIdx (F := F) (s := S8192) (e := .i32) (storeIdx (F := F) (s := S8192) (e := .i32) (cBuf (F := F) iv d L k.val) ![v] k1_pay2 k1_pay3 true h) ![v] k1_pay2 k1_pay4 true h')
      = cBuf (F := F) iv d L (k.val + 1) := by
  funext j
  refine (Hist.storeIdx_both (F := F) (cBuf (F := F) iv d L k.val) v h h' j).trans ?_
  exact Hist.part_step (iv d) (wL L).val k.val (j 0).val v fun x => by rw [hv]; exact load2 (F := F) iv d L k x

omit [FloatOps F] in
/-- Where the row memref places element `x`. -/
theorem hK_emb (x : S8192.Idx) : (hK L).view.emb x = (ix2 (wL L) (x 0) : S32x8192.Idx) := by
  have hr : Shape.reshapeEquiv squeezes_S1x8192_S8192.numel_eq x = (ix2 (0 : Fin 1) (x 0) : S1x8192.Idx) :=
    Shape.reshapeEquiv_eq_of_rowMajor _ (by
      rw [Shape.rowMajor_val_two, Shape.rowMajor_val_one]
      show 0 * 8192 + (x 0).val = (x 0).val
      omega)
  show (rowK L).emb (Shape.reshapeEquiv squeezes_S1x8192_S8192.numel_eq x) = _
  rw [hr]
  refine Rect.emb_eq_of_coords _ _ _ fun a => ?_
  match a with
  | ⟨0, _⟩ =>
    show (wL L).val = k1_off4 L 0 + 1 * 0
    rw [k1_off4_eq]; rfl
  | ⟨1, _⟩ =>
    show (x 0).val = k1_off4 L 1 + 1 * (x 0).val
    rw [k1_off4_eq]; show _ = 0 + 1 * (x 0).val; omega

omit [FloatOps F] in
/-- The row written out is the histogram's row. -/
theorem pts_out (fh : Buf (Elt F) (hLoc d)) :
    ((hK L).view.loc (V d (cV L) (jV L)) ↦[(hK L).view.set]{fullShare}
        (hK L).view.writes (Elt F) fh [⟨Rect.whole S8192, (cBuf (F := F) iv d L 16 : S8192.Idx → BitVec 32)⟩] : sProp 𝕄)
      = hPts d (wL L) (hVal iv d) := by
  rw [show hPts d (wL L) (hVal (F := F) iv d) = ((hK L).view.loc (V d (cV L) (jV L)) ↦[(hK L).view.set]{fullShare} hVal (F := F) iv d : sProp 𝕄)
    from (pts_hK d L _).symm]
  refine pointsTo_congr fun i hi => ?_
  obtain ⟨x, -, rfl⟩ := Finset.mem_map.mp hi
  have h1 : (hK L).view.read (Elt F) ((hK L).view.writes (Elt F) fh [⟨Rect.whole S8192, (cBuf (F := F) iv d L 16 : S8192.Idx → BitVec 32)⟩]) x
      = (cBuf (F := F) iv d L 16 : S8192.Idx → BitVec 32) x :=
    View.read_writes_cons_hit_of_coords (hK L).view fh (Rect.whole S8192) (cBuf (F := F) iv d L 16 : S8192.Idx → BitVec 32) [] x x
      fun (a : Fin 1) => show (x a).val = 0 + 1 * (x a).val by omega
  have h2 : histV (iv d) ((hK L).view.emb x) = part (iv d) (wL L).val (16 * 16) (x 0).val := by rw [hK_emb]; rfl
  generalize (hK L).view.writes (Elt F) fh [⟨Rect.whole S8192, (cBuf (F := F) iv d L 16 : S8192.Idx → BitVec 32)⟩] = g at h1 ⊢
  rw [View.read_apply] at h1
  exact ((cast_eq _ _).symm.trans h1).trans h2.symm

omit [FloatOps F] in
/-- What the fetch lands is the chunk. -/
theorem fetch_lands (fs : Buf (Elt F) ((V d (cV L) (jV L)).loc cc1_scratch0)) :
    (sI).view.write (Elt F) fs ((iK L).view.read (Elt F) (show Buf (Elt F) (iLoc d) from iv d)) Finset.univ = gBuf (F := F) iv d L := by
  refine (View.write_whole_univ _ _ _).trans ?_
  funext j
  show iv d ((chunkK L).emb j) = word (iv d) (256 * (wL L).val + (j 0).val)
  have hj : (j 0).val < 256 := (j 0).isLt
  have hw : (wL L).val < 32 := (wL L).isLt
  unfold Hist.word
  rw [dif_pos (by omega)]
  congr 1
  refine Rect.emb_eq_of_coords _ _ _ fun a => ?_
  obtain rfl : a = 0 := Subsingleton.elim _ _
  show 256 * (wL L).val + (j 0).val = k1_off1 L 0 + 1 * (j 0).val
  rw [k1_off1_eq]
  show 256 * (2 * (L 1).val + (L 0).val) + (j 0).val = (512 * (L 1).val + 256 * (L 0).val) + 1 * (j 0).val
  omega

theorem tile_body (hF : (K (F := F)).Facts) (hiv : ∀ d j, (iv d j).toNat < 8192) (O : CellTallies nD τ sig (HIx 1)) (W : Waits sig (HIx 1)) (hO : ∀ g, O g none = 0) :
    iprop(levAts (K (F := F)).L (K (F := F)).lev ∗ emp
        ∗ goOf iv d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_hist_kernel L iV (Memref.isWhole_whole _) hV (Memref.isWhole_whole _)
            sI (Memref.isWhole_whole _) sC (Memref.isWhole_whole _) cc1_scoped0 cc1_scoped1)
          fun _ => iprop(tdOf iv d (wL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc1_hist_kernel_eq_skeleton]; unfold cc1_hist_kernel_skel
  rw [(K (F := F)).scopedBufs_V hF d (cV L) (jV L), SparseCore.Cfg.scopedSems0_V (Val := Elt F) d (cV L) (jV L), ownSems0_V, ownBufs_V]
  iintro ⟨#Hlv, -, ⟨Hi, %fh, Hh⟩, ⟨⟨%fs, Hs⟩, ⟨%fc, Hc⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L _).symm) $$ Hi
  ihave Hh' := (Entails.of_eq (pts_hK (F := F) d L _).symm) $$ Hh
  ihave Hs' := (Entails.of_eq (pts_sI (F := F) d L _).symm) $$ Hs
  ihave Hc' := (Entails.of_eq (pts_sC (F := F) d L _).symm) $$ Hc
  sl_exec (disch := exact View.amount_pos _ _ (show 0 < S256.numel by decide))
  sl_for (inv1 (F := F) d L) $$ [Hc']
  case region =>
    intro k _
    unfold inv1
    iintro ⟨%f, %hf, Hc⟩
    sl_exec
    sl_step
    iexists _; isplitr
    swap; · iexact Hc
    ipureintro
    exact step1 d L k f hf
  · unfold inv1
    iexists fc; isplitr
    swap; · iexact Hc'
    ipureintro
    intro j hj; exact absurd hj (by omega)
  iintro %_ HI
  sl_for (inv2 (F := F) iv d L) $$ [HI Hs']
  case region =>
    intro k _
    unfold inv2
    iintro ⟨Hs, Hc⟩
    sl_exec
    rw [wp_assume_of _ _ _ _ (chk2 iv d L hiv k)]
    ihave Hc1 := (Entails.of_eq (pts_sC_whole (F := F) d L _).symm) $$ Hc
    iapply (SparseCore.wp_vectorStoreIdx 𝒱₀ (V d (cV L) (jV L)) none Set.univ (base := sC)) $$ Hc1
    iintro Hc1
    iapply (SparseCore.wp_vectorStoreIdx 𝒱₀ (V d (cV L) (jV L)) none Set.univ (base := sC)) $$ Hc1
    iintro Hc1
    ihave Hc := (Entails.of_eq (pts_sC_whole (F := F) d L _)) $$ Hc1
    sl_step
    isplitl [Hs]; · iexact Hs
    rw [Memref.write_access_whole_univ, Memref.read_access_whole, Memref.write_access_whole_univ, Memref.read_access_whole]
    rw [step2 iv d L k _ rfl]
    iexact Hc
  · unfold inv1 inv2
    icases HI with ⟨%f, %hf, Hc⟩
    isplitl [Hs']
    · iapply (Entails.of_eq (congrArg (fun g => ((sI).view.loc (V d (cV L) (jV L)) ↦{fullShare} g : sProp 𝕄)) (fetch_lands iv d L fs)))
      iexact Hs'
    · have hz : f = cBuf (F := F) iv d L 0 := by
        funext j
        refine (hf j ?_).trans ?_
        · exact (j 0).isLt
        · rfl
      rw [hz]; iexact Hc
  iintro %_ HI
  unfold inv2
  icases HI with ⟨Hs, Hc⟩
  sl_exec
  sl_step
  isplitl [Hi' Hh']
  · isplitl [Hi']; · iapply (Entails.of_eq (pts_iK (F := F) d L _)); iexact Hi'
    iapply (Entails.of_eq (pts_out iv d L fh)); iexact Hh'
  isplitl [Hs Hc Hbufs]
  · isplitl [Hs]; · iexists _; iexact Hs
    isplitl [Hc]; · iexists _; iexact Hc
    iexact Hbufs
  isplitl [HsemA HsemB Hsems]
  · isplitl [HsemA]; · iexact HsemA
    isplitl [HsemB]; · iexact HsemB
    iexact Hsems
  iexists _; isplitr
  swap; · iexact HO
  ipureintro; intro p _
  rcases p.2 with _ | q
  · exact .inr (.inl rfl)
  · exact .inr (.inr (congrArg some (Subsingleton.elim q 0)))

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_hist_kernel (coordsV c s)
          iV (Memref.isWhole_whole _) hV (Memref.isWhole_whole _)
          sI (Memref.isWhole_whole _) sC (Memref.isWhole_whole _) cc1_scoped0 cc1_scoped1) ⟨⟩ c s := rfl

theorem tileObl (hF : (K (F := F)).Facts) (hiv : ∀ d j, (iv d j).toNat < 8192) : (K (F := F)).TileObl (D (F := F)) 𝒱 (P iv) v₀ 0 := by
  intro d c i O W hO _ _
  simp only [show (P (F := F) iv).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body iv d (coordsV ⟨_, hci.1⟩ ⟨_, hci.2⟩) hF hiv O W hO

end Tile

theorem vecSplit : (K (F := F)).VecSplit' (P iv) 0 := by
  intro d c
  show (bigSep Finset.univ fun i : Fin 16 => goOf iv d (wid (Fin.cast nCore_zero c) i)) ⊢ |={Set.univ}=> iprop(
      (bigSep Finset.univ fun i : Fin ((K (F := F)).nSub 0) => goOf iv d (wid (Fin.cast nCore_zero c) (Fin.cast nSub_zero i)))
      ∗ ((bigSep Finset.univ fun i : Fin ((K (F := F)).nSub 0) => tdOf iv d (wid (Fin.cast nCore_zero c) (Fin.cast nSub_zero i)))
          -∗ (bigSep Finset.univ fun i : Fin 16 => tdOf iv d (wid (Fin.cast nCore_zero c) i))))
  iintro H; imodintro
  isplitl [H]; · iexact H
  iintro H; iexact H

end Cert.Proof.Sc

end
-- ==== Proof.Split.lean ====
/-
  The histogram call's arrays as its 32 tasks' pieces, and back.
-/
module

public import proofs.«01_k».proof.Proof.Sc

@[expose] public section

noncomputable section

namespace Cert.Proof.Sc

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- A worker is a SparseCore and a subcore. -/
def widE : Fin 2 × Fin 16 ≃ Fin 32 where
  toFun p := wid p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

theorem bigSep_wid (Φ : Fin 32 → sProp 𝕄) :
    bigSep Finset.univ Φ = bigSep Finset.univ fun c : Fin 2 => bigSep Finset.univ fun i : Fin 16 => Φ (wid c i) := by
  rw [bigSep_univ_equiv widE Φ, bigSep_univ_prod]
  rfl

theorem chunkSet_eq (w : Fin 32) : chunkSet w = (chunk w).set := View.set_slice_whole (main_v1_scv : Ref sig .scVector) (chunk w)
theorem rowSet_eq (w : Fin 32) : rowSet w = (row w).set := View.set_slice_whole (main_v2_scv : Ref sig .scVector) (row w)

theorem iPts_whole (d : Dev nD) (f : Buf (Elt F) (iLoc d)) :
    (iLoc d ↦{fullShare} f : sProp 𝕄) = bigSep Finset.univ fun w : Fin 32 => iLoc d ↦[chunkSet w]{fullShare} f := by
  rw [← pointsTo_biUnion Finset.univ (ℓ := iLoc d) chunkSet (fun t _ t' _ h => by
      rw [chunkSet_eq, chunkSet_eq]; exact Rect.part_disjoint hdivI h),
    show Finset.univ.biUnion chunkSet = Finset.univ from
      (Finset.biUnion_congr rfl fun i _ => chunkSet_eq i).trans (Rect.biUnion_part hdivI)]
  try rfl
theorem hPts_whole (d : Dev nD) (f : Buf (Elt F) (hLoc d)) :
    (hLoc d ↦{fullShare} f : sProp 𝕄) = bigSep Finset.univ fun w : Fin 32 => hLoc d ↦[rowSet w]{fullShare} f := by
  rw [← pointsTo_biUnion Finset.univ (ℓ := hLoc d) rowSet (fun t _ t' _ h => by
      rw [rowSet_eq, rowSet_eq]; exact Rect.part_disjoint hdivH h),
    show Finset.univ.biUnion rowSet = Finset.univ from
      (Finset.biUnion_congr rfl fun i _ => rowSet_eq i).trans (Rect.biUnion_part hdivH)]
  try rfl

variable [FloatOps F]
variable (iv : Dev nD → S8192.Idx → BitVec 32)

/-- The two whole arrays make up what the call's start hands over, -/
theorem st_intro (d : Dev nD) (f : Buf (Elt F) (hLoc d)) :
    iprop((iLoc d ↦{fullShare} (show Buf (Elt F) (iLoc d) from iv d)) ∗ hLoc d ↦{fullShare} f)
      ⊢ bigSep Finset.univ fun c : Fin ((K (F := F)).nCore 0) => (P iv).st 0 d c := by
  have h : (bigSep Finset.univ fun c : Fin ((K (F := F)).nCore 0) => (P iv).st 0 d c)
      = bigSep Finset.univ fun w : Fin 32 => goOf (F := F) iv d w := (bigSep_wid (fun w => goOf (F := F) iv d w)).symm
  rw [h, iPts_whole, hPts_whole]
  rw [← bigSep_sep']
  refine bigSep_mono fun w _ => ?_
  show iprop((iPts (F := F) iv d w) ∗ hPts d w f) ⊢ goOf (F := F) iv d w
  iintro ⟨Hi, Hh⟩
  isplitl [Hi]; · iexact Hi
  iexists _; iexact Hh

/-- and what its end hands back is the two whole arrays, the histogram at the counts. -/
theorem dn_elim (d : Dev nD) :
    (bigSep Finset.univ fun c : Fin ((K (F := F)).nCore 0) => (P iv).dn 0 d c)
      ⊢ iprop((iLoc d ↦{fullShare} (show Buf (Elt F) (iLoc d) from iv d)) ∗ hLoc d ↦{fullShare} hVal iv d) := by
  have h : (bigSep Finset.univ fun c : Fin ((K (F := F)).nCore 0) => (P iv).dn 0 d c)
      = bigSep Finset.univ fun w : Fin 32 => tdOf (F := F) iv d w := (bigSep_wid (fun w => tdOf (F := F) iv d w)).symm
  rw [h, iPts_whole, hPts_whole, ← bigSep_sep']

end Cert.Proof.Sc

end
-- ==== Proof.Regions.lean ====
/-
  The two TensorCore calls as regions of @main: what each is entered from and what it leaves.
-/
module

public import proofs.«01_k».proof.Proof.Finish
public import proofs.«01_k».proof.Proof.Split

@[expose] public section

noncomputable section

namespace Cert.Proof.Sc

open Cert.KernelIdeal Cert.KernelIdeal.Gen
open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The arrays between the calls -/

/-- The launch contents of the arrays. -/
def V0 (c : Dev nD) (b : Ref sig .tc) : Buf (Elt F) ((c : Thread nD τ).loc b) := m ((c : Thread nD τ).loc b)
/-- The picked indices of every query, as the first call leaves them. -/
def xA (c : Dev nD) : Buf (Elt F) (xLoc c) := (dat0 (V0 m) c).arrAt 2 cfg0.N
/-- The sum of the normalized queries, as the first call leaves it. -/
def sA (c : Dev nD) : Buf (Elt F) (sLoc c) := (dat0 (V0 m) c).arrAt 3 cfg0.N
/-- The index list. -/
def iv (c : Dev nD) : S8192.Idx → BitVec 32 := fun i => shapeCast (α := BitVec 32) S8192 (xA m c) shapeCasts_S1024x8_S8192 i
/-- What the last call is entered with. -/
def V2 (c : Dev nD) : (b : Ref sig .tc) → Buf (Elt F) ((c : Thread nD τ).loc b) :=
  Function.update (Function.update (Function.update (Function.update (V0 m c) main_v0_0 (xA m c)) main_v0_1 (sA m c)) main_v1 (iv m c))
    main_v2 (hVal (F := F) (iv m) c)

theorem V2_arg0 (c : Dev nD) : V2 m c main_arg0 = m (qLoc c) := by
  unfold V2; rw [Function.update_of_ne (by decide), Function.update_of_ne (by decide), Function.update_of_ne (by decide), Function.update_of_ne (by decide)]; rfl
theorem V2_arg1 (c : Dev nD) : V2 m c main_arg1 = m (kLoc c) := by
  unfold V2; rw [Function.update_of_ne (by decide), Function.update_of_ne (by decide), Function.update_of_ne (by decide), Function.update_of_ne (by decide)]; rfl
theorem V2_arg2 (c : Dev nD) : V2 m c main_arg2 = m (pLoc c) := by
  unfold V2; rw [Function.update_of_ne (by decide), Function.update_of_ne (by decide), Function.update_of_ne (by decide), Function.update_of_ne (by decide)]; rfl
theorem V2_v0_0 (c : Dev nD) : V2 m c main_v0_0 = xA m c := by
  unfold V2; rw [Function.update_of_ne (by decide), Function.update_of_ne (by decide), Function.update_of_ne (by decide), Function.update_self]
theorem V2_v0_1 (c : Dev nD) : V2 m c main_v0_1 = sA m c := by
  unfold V2; rw [Function.update_of_ne (by decide), Function.update_of_ne (by decide), Function.update_self]
theorem V2_v1 (c : Dev nD) : V2 m c main_v1 = iv m c := by
  unfold V2; rw [Function.update_of_ne (by decide), Function.update_self]
theorem V2_v2 (c : Dev nD) : V2 m c main_v2 = hVal (F := F) (iv m) c := by
  unfold V2; rw [Function.update_self]
theorem V2_v3_0 (c : Dev nD) : V2 m c main_v3_0 = m (lLoc c) := by
  unfold V2; rw [Function.update_of_ne (by decide), Function.update_of_ne (by decide), Function.update_of_ne (by decide), Function.update_of_ne (by decide)]; rfl
theorem V2_v3_1 (c : Dev nD) : V2 m c main_v3_1 = m (oLoc c) := by
  unfold V2; rw [Function.update_of_ne (by decide), Function.update_of_ne (by decide), Function.update_of_ne (by decide), Function.update_of_ne (by decide)]; rfl
theorem V2_v4 (c : Dev nD) : V2 m c main_v4 = m (rLoc c) := by
  unfold V2; rw [Function.update_of_ne (by decide), Function.update_of_ne (by decide), Function.update_of_ne (by decide), Function.update_of_ne (by decide)]; rfl

omit [FloatOps F] in
theorem unscopedBufs_eq (d : Dev nD) (W : (b : Ref sig .tc) → Buf (Elt F) ((d.tc : Thread nD τ).loc b)) :
    (unscopedBufs d W : sProp 𝕄) = iprop((qLoc d ↦{fullShare} W main_arg0) ∗ (kLoc d ↦{fullShare} W main_arg1) ∗ (pLoc d ↦{fullShare} W main_arg2)
      ∗ (xLoc d ↦{fullShare} W main_v0_0) ∗ (sLoc d ↦{fullShare} W main_v0_1) ∗ (iLoc d ↦{fullShare} W main_v1) ∗ (hLoc d ↦{fullShare} W main_v2)
      ∗ (lLoc d ↦{fullShare} W main_v3_0) ∗ (oLoc d ↦{fullShare} W main_v3_1) ∗ rLoc d ↦{fullShare} W main_v4) := by
  unfold unscopedBufs
  rw [show (Finset.univ.filter fun b : Ref sig .tc => ¬ b.isScoped)
      = {main_arg0, main_arg1, main_arg2, main_v0_0, main_v0_1, main_v1, main_v2, main_v3_0, main_v3_1, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The regions -/

variable (hc : ∀ c, Chk (hBlk (V2 m) c))

abbrev adm : (p : Fin 2) → (pcfgs (F := F) p).Adm := fun p => (cfgs p).toPCfg_adm

def pdats : (p : Fin 2) → (c : Dev nD) → Dat τ (Elt F) (HIx 1) ℕ UU ℕ (Pipeline.pin (pcfgs (F := F)) adm p) c
  | 0 => fun c => dat0 (V0 m) c
  | 1 => fun c => dat2 (V2 m) c hc

abbrev L := (K (F := F)).L (nD := nD) (N := 1)
abbrev lv : GSem nD τ sig → HIx 1 → ℕ := (K (F := F)).lev

theorem otc_none (c : Dev nD) (g : GSem nD τ sig) : (K (F := F)).Otc (N := 1) c 0 g none = 0 := by
  by_contra h
  have := SparseCore.Cfg.lev_of_Otc_pos (K := K (F := F)) (Nat.pos_of_ne_zero h)
  rw [SparseCore.Cfg.lev_none] at this
  omega

/-- What the TensorCore owes before call `n`, what it has waited for bounded. -/
abbrev owesT (c : Dev nD) (n : ℕ) : sProp 𝕄 :=
  iprop(∃ W, ⌜(K (F := F)).WBelow (T c) W (8 * SparseCore.Cfg.Blocks.fst 1 1 n)⌝ ∗ owes (T c) ((K (F := F)).Otc c n) W)

theorem arrays0 (c : Dev nD) (G) : ((pdats m hc 0 c).arrays G : sProp 𝕄)
    = iprop((qLoc c ↦{fullShare} G 0) ∗ (kLoc c ↦{fullShare} G 1) ∗ (xLoc c ↦{fullShare} G 2) ∗ sLoc c ↦{fullShare} G 3) := by
  rw [Pipeline.arrays_eq (Pipeline.pin (pcfgs (F := F)) adm) (pdats m hc) 0 c launch0.arr_whole ((pdats m hc 0 c).share_full fun _ => rfl)]
  exact bigSep_W0 _

theorem arrays2 (c : Dev nD) (G) : ((pdats m hc 1 c).arrays G : sProp 𝕄)
    = iprop((hLoc c ↦{fullShare} G 0) ∗ (kLoc c ↦{fullShare} G 1) ∗ (sLoc c ↦{fullShare} G 2) ∗ lLoc c ↦{fullShare} G 3) := by
  rw [Pipeline.arrays_eq (Pipeline.pin (pcfgs (F := F)) adm) (pdats m hc) 1 c launch2.arr_whole ((pdats m hc 1 c).share_full fun _ => rfl)]
  exact bigSep_W2 _

theorem ownSemFacts0 : Pipeline.OwnSemFacts spec0 (fun k : Fin 0 => (k.elim0 : SemLoc sig)) := by decide
theorem ownSemFacts2 : Pipeline.OwnSemFacts spec2 (![semIn, semOut] : Fin 2 → SemLoc sig) := by decide

set_option backward.isDefEq.respectTransparency.types false in
/-- The first call: entered with the arrays at their launch contents, left with the picked indices and the sum written. -/
def reg0 : Pipeline.RegionSeg (pcfgs (F := F)) adm (pdats m hc) none defs₀ 𝒱₀ (L (F := F)) (lv (F := F)) 0 where
  win := launch0.win.to₀
  block_pos := launch0.block_pos
  stage_whole := launch0.stage_whole
  K := Fin 0
  osem := fun k => k.elim0
  ho := ownSemFacts0
  hbody c := (body_obligation0 (V0 m) c).loose
  hwaits c := Pipeline.cellsWaits_intro _ (pdats m hc) none 0 c fun w s t => (K (F := F)).mayWait_none _ (otc_none c)
  pre c := iprop(unscopedBufs c (V0 m c) ∗ owesT c 0)
  post c := iprop(((qLoc c ↦{fullShare} m (qLoc c)) ∗ (kLoc c ↦{fullShare} m (kLoc c)) ∗ (xLoc c ↦{fullShare} xA m c) ∗ (sLoc c ↦{fullShare} sA m c))
    ∗ owesT c 0 ∗ Pipeline.unscopedRest spec0 c (V0 m c))
  X _ := iprop(emp)
  Y _ := iprop(emp)
  Z c := Pipeline.unscopedRest spec0 c (V0 m c)
  hentry c := by
    have hsplit := Pipeline.arrays_of_unscopedBufs (pcfgs (F := F)) adm (pdats m hc) (p := 0) launch0.win launch0.arr_whole c
      ((pdats m hc 0 c).share_full fun _ => rfl) (V0 m c) (fun _ => rfl)
    iintro ⟨⟨Hub, ⟨%W, %hW, HO⟩⟩, -, -⟩
    ihave H := hsplit $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr [HO]; rotate_left
      · iexact HO
      · ipureintro; exact fun p hp => Or.inl (hW p hp)
    isplitr [HZ]; · iempintro
    iexact HZ
  hin c := by
    refine BIBase.Entails.trans ?_ (show Φ0 (V0 m) c 0 ⊢ (pdats m hc 0 c).Φ 0 from .rfl)
    unfold Φ0 rest0
    iintro ⟨-, -, HS⟩
    ihave HS' := (BIBase.Entails.of_eq (scopedRest0_eq c)) $$ HS
    icases HS' with ⟨⟨%f, Hf⟩, HR⟩
    isplitl [Hf]
    · iexists f
      isplitr [Hf]; · ipureintro; exact fun h => absurd rfl h
      rw [owns_whole]; iexact Hf
    iexact HR
  hout c := by
    refine BIBase.Entails.trans (show (pdats m hc 0 c).Φ (Fin.last cfg0.N) ⊢ Φ0 (V0 m) c cfg0.N from .rfl) ?_
    unfold Φ0 rest0
    iintro ⟨⟨%X, -, H⟩, HR⟩
    isplitr [H HR]; · iempintro
    isplitr [H HR]
    · unfold Pipeline.ownSems0; rw [show (Finset.univ : Finset (Fin 0)) = ∅ from rfl, BI.bigSep_empty]; iempintro
    iapply (BIBase.Entails.of_eq (scopedRest0_eq c).symm)
    isplitl [H]
    · iexists X; iapply (BIBase.Entails.of_eq (owns_whole (c : Thread nD τ) cc0_scratch0 fullShare X)); iexact H
    iexact HR
  hexit c := by
    rw [arrays0]
    have e0 : (dat0 (V0 m) c).arrAt 0 cfg0.N = m (qLoc c) := (dat0 (V0 m) c).arrAt_in 0 rfl _
    have e1 : (dat0 (V0 m) c).arrAt 1 cfg0.N = m (kLoc c) := (dat0 (V0 m) c).arrAt_in 1 rfl _
    rw [← e0, ← e1]
    unfold Pipeline.Dat.owesAt Pipeline.owesWithin
    iintro ⟨Ha, ⟨%W, %hW, HO⟩, -, HZ⟩
    imodintro
    isplitl [Ha]; · iexact Ha
    isplitl [HO]
    · iexists W; isplitr [HO]; rotate_left
      · iexact HO
      · ipureintro
        intro p hp
        rcases hW hp with h | ⟨w, s, rfl⟩
        · exact h
        · exact Nat.zero_le _
    iexact HZ

abbrev osem2 : Fin 2 → SemLoc sig := ![semIn, semOut]

omit [FloatOps F] in
theorem ownSems2_eq (c : Dev nD) :
    (Pipeline.ownSems0 (Ix := HIx 1) (Name := ℕ) (U := UU) (Lvl := ℕ) (Val := Elt F) (τ := τ) osem2 c : sProp 𝕄)
      = iprop(semVal ((c : Thread nD τ), semIn) 0 ∗ semVal ((c : Thread nD τ), semOut) 0) :=
  Pipeline.ownSems0_eq_of_list c osem2 [0, 1] (by decide) (by decide)

set_option backward.isDefEq.respectTransparency.types false in
/-- The last call: entered with the histogram, left with the prompts copied out and the loss written. -/
def reg1 [∀ e, Nonempty (Elt F e)] : Pipeline.RegionSeg (pcfgs (F := F)) adm (pdats m hc) none defs₀ 𝒱₀ (L (F := F)) (lv (F := F)) 1 where
  win := launch2.win.to₀
  block_pos := launch2.block_pos
  stage_whole := launch2.stage_whole
  K := Fin 2
  osem := osem2
  ho := ownSemFacts2
  hbody c := (body_obligation2 (V2 m) c hc).loose
  hwaits := Pipeline.hwaits_of_owed_zero _ _ _ _ (L (F := F)) (lv (F := F)) 1 fun _ _ => rfl
  pre c := iprop(unscopedBufs c (V2 m c) ∗ owesT c 1)
  post c := iprop(((hLoc c ↦{fullShare} (dat2 (V2 m) c hc).arrAt 0 cfg2.N) ∗ (kLoc c ↦{fullShare} V2 m c main_arg1) ∗ (sLoc c ↦{fullShare} (dat2 (V2 m) c hc).arrAt 2 cfg2.N)
      ∗ (lLoc c ↦{fullShare} (dat2 (V2 m) c hc).arrAt 3 cfg2.N))
    ∗ owesT c 1 ∗ ((pLoc c ↦{fullShare.left} V2 m c main_arg2) ∗ (oLoc c ↦{fullShare} outV (hBlk (V2 m) c) (hc c) (V2 m c main_arg2)))
    ∗ (qLoc c ↦{fullShare} V2 m c main_arg0) ∗ (rLoc c ↦{fullShare} V2 m c main_v4))
  X c := iprop((pLoc c ↦{fullShare} V2 m c main_arg2) ∗ (oLoc c ↦{fullShare} V2 m c main_v3_1) ∗ semVal ((c : Thread nD τ), semIn) 0 ∗ semVal ((c : Thread nD τ), semOut) 0)
  Y c := iprop((pLoc c ↦{fullShare.left} V2 m c main_arg2) ∗ (oLoc c ↦{fullShare} outV (hBlk (V2 m) c) (hc c) (V2 m c main_arg2)))
  Z c := iprop((qLoc c ↦{fullShare} V2 m c main_arg0) ∗ (rLoc c ↦{fullShare} V2 m c main_v4))
  hentry c := by
    have hsplit := (Pipeline.arrays_of_unscopedBufs (pcfgs (F := F)) adm (pdats m hc) (p := 1) launch2.win launch2.arr_whole c
      ((pdats m hc 1 c).share_full fun _ => rfl) (V2 m c) (fun _ => rfl)).trans (sep_mono .rfl (BIBase.Entails.of_eq (unscopedRest2_eq c (V2 m c))))
    rw [ownSems2_eq]
    iintro ⟨⟨Hub, ⟨%W, %hW, HO⟩⟩, Hos, -⟩
    ihave H := hsplit $$ Hub
    icases H with ⟨Ha, Hq, Hp, -, -, Ho, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr [HO]; rotate_left
      · rw [(K (F := F)).Otc_end c (le_refl 1)]; iexact HO
      · ipureintro; exact fun p hp => Or.inl (hW p hp)
    isplitr [Hq Hr]
    · isplitl [Hp]; · iexact Hp
      isplitl [Ho]; · iexact Ho
      iexact Hos
    isplitl [Hq]; · iexact Hq
    iexact Hr
  hin c := by
    refine BIBase.Entails.trans ?_ (show Φ2 (V2 m) c hc 0 ⊢ (pdats m hc 1 c).Φ 0 from .rfl)
    unfold Φ2 rest2
    iintro ⟨⟨Hp, Ho, Ha, Hb⟩, -, HS⟩
    ihave HS' := (BIBase.Entails.of_eq (scopedRest2_eq c)) $$ HS
    icases HS' with ⟨H1, H2, H3, H4, H5, H6, H7, H8, H9⟩
    isplitl [Hp]; · iexact Hp
    isplitl [Ho]; · iexists _; iexact Ho
    isplitl [H8]; · iexact H8
    isplitl [H9]; · iexact H9
    isplitl [Ha]; · iexact Ha
    isplitl [Hb]; · iexact Hb
    isplitl [H1]; · iexact H1
    isplitl [H2]; · iexact H2
    isplitl [H3]; · iexact H3
    isplitl [H4]; · iexact H4
    isplitl [H5]; · iexact H5
    isplitl [H6]; · iexact H6
    iexact H7
  hout c := by
    refine BIBase.Entails.trans (show (pdats m hc 1 c).Φ (Fin.last cfg2.N) ⊢ Φ2 (V2 m) c hc 1 from .rfl) ?_
    rw [ownSems2_eq]
    unfold Φ2 rest2
    iintro ⟨Hp, Ho, H8, H9, Ha, Hb, H1, H2, H3, H4, H5, H6, H7⟩
    isplitl [Hp Ho]
    · isplitl [Hp]; · iexact Hp
      iexact Ho
    isplitl [Ha Hb]
    · isplitl [Ha]; · iexact Ha
      iexact Hb
    iapply (BIBase.Entails.of_eq (scopedRest2_eq c).symm)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  hexit c := by
    rw [arrays2]
    have e1 : (dat2 (V2 m) c hc).arrAt 1 cfg2.N = V2 m c main_arg1 := (dat2 (V2 m) c hc).arrAt_in 1 rfl _
    rw [← e1]
    unfold Pipeline.Dat.owesAt Pipeline.owesWithin
    iintro ⟨Ha, ⟨%W, %hW, HO⟩, HY, HZ⟩
    imodintro
    isplitl [Ha]; · iexact Ha
    isplitl [HO]
    · iexists W; isplitr [HO]; rotate_left
      · rw [(K (F := F)).Otc_end c (le_refl 1)]; iexact HO
      · ipureintro
        intro p hp
        rcases hW hp with h | ⟨w, s, rfl⟩
        · exact h
        · exact Nat.zero_le _
    isplitl [HY]; · iexact HY
    iexact HZ

end Cert.Proof.Sc

end
-- ==== Proof.ArrVal.lean ====
module

public import proofs.«01_k».proof.Proof.FinVal
public import proofs.«01_k».proof.Proof.Regions
public import Idealize.ShloMosaic.Lib.Pipeline.ValueKit

@[expose] public section

noncomputable section

namespace Cert.Proof.Sc

open Cert.KernelIdeal Cert.KernelIdeal.Gen
open Idealize.ShloMosaic Idealize.ShloMosaic.Pipeline

variable {F : FTy → Type} [FloatOps F]

theorem idx0_0 (t : Fin cfg0.N) : (cfg0.win 0).index t = ![t.val, 0] := by fin_cases t <;> rfl
theorem idx0_1 (t : Fin cfg0.N) : (cfg0.win 1).index t = ![0, 0] := by fin_cases t <;> rfl
theorem idx0_2 (t : Fin cfg0.N) : (cfg0.win 2).index t = ![t.val, 0] := by fin_cases t <;> rfl
theorem idx0_3 (t : Fin cfg0.N) : (cfg0.win 3).index t = ![0, 0] := by fin_cases t <;> rfl

variable (m : (a : Loc nD τ sig) → Buf (Elt F) a) (c : Dev nD)

theorem kBlk_eq : kBlk (V0 m) c t0_0 = m (kLoc c) := by
  refine funext fun j => ?_
  show m (kLoc c) (((cfg0.win 1).rect t0_0).emb j) = _
  refine congrArg (m (kLoc c)) (funext fun a => Fin.ext ?_)
  show ((cfg0.win 1).index t0_0 a) * _ + 1 * (j a).val = (j a).val
  rw [idx0_1]
  match a with
  | ⟨0, _⟩ => simp
  | ⟨1, _⟩ => simp

theorem qBlk_apply (t : Fin cfg0.N) (r : Fin 256) (d : Fin 128) : qBlk (V0 m) c t (ix2 r d) = m (qLoc c) (ix2 ⟨t.val * 256 + r.val, by have : t.val < 4 := t.isLt; omega⟩ d) := by
  show m (qLoc c) (((cfg0.win 0).rect t).emb (ix2 r d)) = _
  refine congrArg (m (qLoc c)) (funext fun a => Fin.ext ?_)
  have hi := idx0_0 t
  match a with
  | ⟨0, _⟩ => show ((cfg0.win 0).index t 0) * 256 + 1 * r.val = t.val * 256 + r.val; rw [hi]; show t.val * 256 + 1 * r.val = _; omega
  | ⟨1, _⟩ => show ((cfg0.win 0).index t 1) * 128 + 1 * d.val = d.val; rw [hi]; show 0 * 128 + 1 * d.val = _; omega

/-- The ids the first call leaves, at the query `t * 256 + r`. -/
theorem xA_apply (t : Fin cfg0.N) (r : Fin 256) (j : Fin 8) :
    xA m c (ix2 ⟨t.val * 256 + r.val, by have : t.val < 4 := t.isLt; omega⟩ j) = picks (qBlk (V0 m) c t) (knV (V0 m) c) (ix2 r j) := by
  have h := Pipeline.Dat.arrAt_emb_eq_flushed (dat := dat0 (V0 m) c) 2 (Window.hdisj_of_index_inj _ fun t t' _ _ e => by
    rw [show (cfg0.win 2).index t = _ from idx0_2 t, show (cfg0.win 2).index t' = _ from idx0_2 t'] at e
    exact Fin.ext (congrFun e 0)) t (flush0_2 t) (ix2 r j)
  refine Eq.trans (congrArg (xA m c) (funext fun a => Fin.ext ?_)) (h.trans ?_)
  · have hi := idx0_2 t
    match a with
    | ⟨0, _⟩ => show t.val * 256 + r.val = ((cfg0.win 2).index t 0) * 256 + 1 * r.val; rw [hi]; show _ = t.val * 256 + 1 * r.val; omega
    | ⟨1, _⟩ => show j.val = ((cfg0.win 2).index t 1) * 8 + 1 * j.val; rw [hi]; show _ = 0 * 8 + 1 * j.val; omega
  · rfl

theorem whole0_3 : (cfg0.win 3).WholeAt t0_3 := by decide

theorem sA_eq : sA m c = qsAt (V0 m) c 3 (by decide) := by
  refine Pipeline.Dat.arrAt_eq_of_after_last (dat := dat0 (V0 m) c) 3 t0_3 whole0_3 _ fun j => ?_
  rfl

theorem read_whole2_0 (X : S32x8192.Idx → Elt F .i32) : ((cfg2.win 0).blk t2_0).view.read (Elt F) X = X := by
  refine funext fun j => ?_
  show X (((cfg2.win 0).rect t2_0).emb j) = _
  refine congrArg X (funext fun a => Fin.ext ?_)
  match a with
  | ⟨0, _⟩ => show 0 * 32 + 1 * (j 0).val = (j 0).val; omega
  | ⟨1, _⟩ => show 0 * 8192 + 1 * (j 1).val = (j 1).val; omega

theorem read_whole2_1 (X : S8192x128.Idx → Elt F .f32) : ((cfg2.win 1).blk t2_0).view.read (Elt F) X = X := by
  refine funext fun j => ?_
  show X (((cfg2.win 1).rect t2_0).emb j) = _
  refine congrArg X (funext fun a => Fin.ext ?_)
  match a with
  | ⟨0, _⟩ => show 0 * 8192 + 1 * (j 0).val = (j 0).val; omega
  | ⟨1, _⟩ => show 0 * 128 + 1 * (j 1).val = (j 1).val; omega

theorem read_whole2_2 (X : S1x128.Idx → Elt F .f32) : ((cfg2.win 2).blk t2_0).view.read (Elt F) X = X := by
  refine funext fun j => ?_
  show X (((cfg2.win 2).rect t2_0).emb j) = _
  refine congrArg X (funext fun a => Fin.ext ?_)
  match a with
  | ⟨0, _⟩ => show 0 * 1 + 1 * (j 0).val = (j 0).val; omega
  | ⟨1, _⟩ => show 0 * 128 + 1 * (j 1).val = (j 1).val; omega

theorem hBlk_eq : hBlk (V2 m) c = Hist.histV (iv m c) := by
  unfold hBlk
  rw [V2_v2]
  exact read_whole2_0 _

theorem k2Blk_eq : k2Blk (V2 m) c = m (kLoc c) := by
  unfold k2Blk
  rw [V2_arg1]
  exact read_whole2_1 _

theorem qs2Blk_eq : qs2Blk (V2 m) c = qsAt (V0 m) c 3 (by decide) := by
  unfold qs2Blk
  rw [V2_v0_1, sA_eq]
  exact read_whole2_2 _

theorem whole2_3 : (cfg2.win 3).WholeAt t2_0 := by decide

theorem lA_eq (hc : ∀ c, Chk (hBlk (V2 m) c)) : (dat2 (V2 m) c hc).arrAt 3 cfg2.N = lossV (hBlk (V2 m) c) (k2Blk (V2 m) c) (qs2Blk (V2 m) c) (hc c) := by
  refine Pipeline.Dat.arrAt_eq_of_after_last (dat := dat2 (V2 m) c hc) 3 t2_0 whole2_3 _ fun j => ?_
  rfl

end Cert.Proof.Sc

end
-- ==== Proof.Spec.lean ====
module

public import proofs.«01_k».proof.Proof.TopkVal

@[expose] public section

noncomputable section

namespace Cert.Proof.Spec

open Idealize.ShloMosaic
open Cert.Proof.Order Cert.Proof.Sc

variable (q : (⟨2, ![1024, 128]⟩ : Shape).Idx → EReal) (k : (⟨2, ![8192, 128]⟩ : Shape).Idx → EReal)

/-- The normalized queries and keys. -/
def qn (n : Fin 1024) (d : Fin 128) : EReal := nrmd (fun d => q (ix2 n d)) d
def kn (p : Fin 8192) (d : Fin 128) : EReal := nrmd (fun d => k (ix2 p d)) d

/-- The similarity of a query and a key. -/
def sim (n : Fin 1024) (p : Fin 8192) : EReal := ∑ d : Fin 128, qn q n d * kn k p d

/-- The eight keys most similar to a query, and the same in one row. -/
def ind (n : Fin 1024) (j : Fin 8) : Fin 8192 := sel (sim q k n) ⟨j.val, by omega⟩
def indF (i : Fin 8192) : Fin 8192 := ind q k ⟨i.val / 8, by omega⟩ ⟨i.val % 8, by omega⟩

/-- How often a key is picked, and the eight keys picked most often. -/
def cnt (p : Fin 8192) : ℕ := (Finset.univ.filter fun i : Fin 8192 => indF q k i = p).card
def fi (t : Fin 8) : Fin 8192 := sel (cnt q k) ⟨t.val, by omega⟩

theorem cnt_le (p : Fin 8192) : cnt q k p ≤ 8192 := by
  refine (Finset.card_filter_le _ _).trans ?_
  simp

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The real values of the normalized queries and keys. -/
def qr (n : Fin 1024) (d : Fin 128) : ℝ := (nrmd_real (fun d => q (ix2 n d)) d).choose
def kr (p : Fin 8192) (d : Fin 128) : ℝ := (nrmd_real (fun d => k (ix2 p d)) d).choose
theorem qn_eq (n : Fin 1024) (d : Fin 128) : qn q n d = qr q n d := (nrmd_real (fun d => q (ix2 n d)) d).choose_spec
theorem kn_eq (p : Fin 8192) (d : Fin 128) : kn k p d = kr k p d := (nrmd_real (fun d => k (ix2 p d)) d).choose_spec

theorem sim_eq (n : Fin 1024) (p : Fin 8192) : sim q k n p = ((∑ d : Fin 128, qr q n d * kr k p d : ℝ) : EReal) := by
  rw [coe_sum]
  unfold sim
  simp only [qn_eq, kn_eq, EReal.coe_mul]

theorem sim_ne_bot (n : Fin 1024) (p : Fin 8192) : sim q k n p ≠ ⊥ := by
  rw [sim_eq]
  exact EReal.coe_ne_bot _

/-- The picked keys' normalized entries against the normalized queries, summed. -/
def tot : EReal := ∑ n : Fin 1024, ∑ t : Fin 8, ∑ d : Fin 128, kn k (fi q k t) d * qn q n d

/-- The sum may be taken of the keys first and of the queries first. -/
theorem tot_eq : tot q k = ∑ d : Fin 128, (∑ t : Fin 8, kn k (fi q k t) d) * ∑ n : Fin 1024, qn q n d := by
  unfold tot
  have h1 : ∀ n t d, kn k (fi q k t) d * qn q n d = ((kr k (fi q k t) d * qr q n d : ℝ) : EReal) := fun n t d => by
    rw [kn_eq, qn_eq, EReal.coe_mul]
  have h2 : ∀ d, (∑ t : Fin 8, kn k (fi q k t) d) * ∑ n : Fin 1024, qn q n d
      = (((∑ t : Fin 8, kr k (fi q k t) d) * ∑ n : Fin 1024, qr q n d : ℝ) : EReal) := fun d => by
    rw [EReal.coe_mul, coe_sum, coe_sum]
    simp only [kn_eq, qn_eq]
  simp only [h1, h2, ← coe_sum]
  refine congrArg _ ?_
  have h3 : ∀ n : Fin 1024, ∑ t : Fin 8, ∑ d : Fin 128, kr k (fi q k t) d * qr q n d = ∑ d : Fin 128, (∑ t : Fin 8, kr k (fi q k t) d) * qr q n d := fun n => by
    rw [Finset.sum_comm]
    exact Finset.sum_congr rfl fun d _ => (Finset.sum_mul _ _ _).symm
  simp only [h3]
  rw [Finset.sum_comm]
  exact Finset.sum_congr rfl fun d _ => (Finset.mul_sum _ _ _).symm

/-- A sum over all queries, block by block. -/
theorem sum_blocks (f : Fin 1024 → EReal) :
    ∑ n, f n = ∑ t : Fin 4, ∑ r : Fin 256, f ⟨t.val * 256 + r.val, by omega⟩ := by
  rw [← Fintype.sum_prod_type', ← (finProdFinEquiv : Fin 4 × Fin 256 ≃ Fin 1024).sum_comp]
  refine Finset.sum_congr rfl fun x _ => congrArg f (Fin.ext ?_)
  show x.2.val + 256 * x.1.val = x.1.val * 256 + x.2.val
  omega

/-- A fold of sums of words below the wrap. -/
theorem fold_addi_ofNat {ι : Type} [DecidableEq ι] (S : Finset ι) (f : ι → ℕ) :
    Finset.fold IntOp.addi (0#32) (fun i => BitVec.ofNat 32 (f i)) S = BitVec.ofNat 32 (∑ i ∈ S, f i) := by
  induction S using Finset.induction_on with
  | empty => rfl
  | insert a S ha ih =>
    rw [Finset.fold_insert ha, ih, Finset.sum_insert ha]
    exact (BitVec.ofNat_add _ _).symm

theorem filter_card (p : ℕ → Prop) [DecidablePred p] (n : ℕ) :
    ((Finset.univ : Finset (Fin n)).filter fun k => p k.val).card = Nat.count p n := by
  rw [Nat.count_eq_card_filter_range]
  refine Finset.card_bij (fun k _ => k.val) (fun k hk => ?_) (fun a _ b _ h => Fin.ext h) (fun b hb => ?_)
  · have := (Finset.mem_filter.mp hk).2
    exact Finset.mem_filter.mpr ⟨Finset.mem_range.mpr k.isLt, this⟩
  · obtain ⟨h1, h2⟩ := Finset.mem_filter.mp hb
    exact ⟨⟨b, Finset.mem_range.mp h1⟩, Finset.mem_filter.mpr ⟨Finset.mem_univ _, h2⟩, rfl⟩

/-- The workers' counts of an id add up to its count among all words. -/
theorem sum_counts (p : ℕ → Prop) [DecidablePred p] :
    ∑ w : Fin 32, Nat.count (fun j => p (256 * w.val + j)) 256 = ((Finset.univ : Finset (Fin 8192)).filter fun i => p i.val).card := by
  rw [Finset.card_filter, ← (finProdFinEquiv : Fin 32 × Fin 256 ≃ Fin 8192).sum_comp, Fintype.sum_prod_type]
  refine Finset.sum_congr rfl fun w _ => ?_
  rw [← filter_card, Finset.card_filter]
  refine Finset.sum_congr rfl fun j _ => ?_
  have : (finProdFinEquiv (w, j) : Fin 8192).val = 256 * w.val + j.val := by
    show j.val + 256 * w.val = _
    omega
  rw [this]

end Cert.Proof.Spec

end
-- ==== Proof.Run.lean ====
/-
  @main on the TensorCore and the program's run.
-/
module

public import proofs.«01_k».proof.Proof.Regions

@[expose] public section

noncomputable section

namespace Cert.Proof.Sc

open Cert.KernelIdeal Cert.KernelIdeal.Gen
open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg) (hc : ∀ c, Chk (hBlk (V2 m) c))

/-! ## A region's statement of @main -/

set_option backward.isDefEq.respectTransparency.types false in
theorem wp_reg0 [∀ e, Nonempty (Elt F e)] (d : Dev nD) (Q : PUnit.{1} → sProp 𝕄) :
    iprop((iprop(boundary (T d) ∗ (reg0 m hc).post d) -∗ Q ⟨⟩) ∗ boundary (T d) ∗ (reg0 m hc).pre d ∗ levAts (L (F := F)) (lv (F := F))
        ∗ Pipeline.cellsGhost cfgs EP 0 d ∗ Pipeline.toksInit cfgs EP 0 d)
      ⊢ wp frame (wpE ((K (F := F)).defs (D (F := F))) 𝒱 (T d) none) Set.univ (Prog.lift (.customCall (SparseCore.inner (Pipeline.entry 0)) ())) Q := by
  have h1 : Function.Injective (cellOf (nD := nD) (τ := τ) (Pipeline.pin (pcfgs (F := F)) adm)) := cellOf_inj
  have h4 := Pipeline.RegionSeg.wp (α := PUnit) (pcfgs (F := F)) adm (pdats m hc) none h1 EP defs₀ 𝒱₀ (L (F := F)) (lv (F := F)) (reg0 m hc) d none
    (fun u h => (Option.not_mem_none u h).elim) (fun x => .ret x) Q
  have h5 : wp frame (wpE (Pipeline.defs (pcfgs (F := F)) defs₀) (Variants.lift 𝒱₀) (d.tc : Thread nD τ) none) Set.univ (.op (.customCall (Pipeline.entry 0) ()) (fun x => .ret x)) Q
      ⊢ wp frame (wpE (D (F := F)) 𝒱 (T d) none) Set.univ (Prog.lift (.customCall (Pipeline.entry 0) ())) Q := .rfl
  have h7 : wp frame (wpE (D (F := F)) 𝒱 (T d) none) Set.univ (Prog.lift (.customCall (Pipeline.entry 0) ())) Q
      ⊢ wp frame (wpE ((K (F := F)).defs (D (F := F))) 𝒱 (T d) none) Set.univ (Prog.lift (.customCall (SparseCore.inner (Pipeline.entry 0)) ())) Q :=
    (K (F := F)).wp_liftProg (D (F := F)) 𝒱 (T d) Set.univ none (Prog.lift (.customCall (Pipeline.entry 0) ())) Q
  refine BIBase.Entails.trans ?_ (h4.trans (h5.trans h7))
  iintro ⟨Hk, H⟩
  isplitl [Hk]
  · iintro H
    rw [wp_ret]; imodintro
    iapply Hk; iexact H
  iexact H

set_option backward.isDefEq.respectTransparency.types false in
theorem wp_reg1 [∀ e, Nonempty (Elt F e)] (d : Dev nD) (Q : PUnit.{1} → sProp 𝕄) :
    iprop((iprop(boundary (T d) ∗ (reg1 m hc).post d) -∗ Q ⟨⟩) ∗ boundary (T d) ∗ (reg1 m hc).pre d ∗ levAts (L (F := F)) (lv (F := F))
        ∗ Pipeline.cellsGhost cfgs EP 1 d ∗ Pipeline.toksInit cfgs EP 1 d)
      ⊢ wp frame (wpE ((K (F := F)).defs (D (F := F))) 𝒱 (T d) none) Set.univ (Prog.lift (.customCall (SparseCore.inner (Pipeline.entry 1)) ())) Q := by
  have h1 : Function.Injective (cellOf (nD := nD) (τ := τ) (Pipeline.pin (pcfgs (F := F)) adm)) := cellOf_inj
  have h4 := Pipeline.RegionSeg.wp (α := PUnit) (pcfgs (F := F)) adm (pdats m hc) none h1 EP defs₀ 𝒱₀ (L (F := F)) (lv (F := F)) (reg1 m hc) d none
    (fun u h => (Option.not_mem_none u h).elim) (fun x => .ret x) Q
  have h5 : wp frame (wpE (Pipeline.defs (pcfgs (F := F)) defs₀) (Variants.lift 𝒱₀) (d.tc : Thread nD τ) none) Set.univ (.op (.customCall (Pipeline.entry 1) ()) (fun x => .ret x)) Q
      ⊢ wp frame (wpE (D (F := F)) 𝒱 (T d) none) Set.univ (Prog.lift (.customCall (Pipeline.entry 1) ())) Q := .rfl
  have h7 : wp frame (wpE (D (F := F)) 𝒱 (T d) none) Set.univ (Prog.lift (.customCall (Pipeline.entry 1) ())) Q
      ⊢ wp frame (wpE ((K (F := F)).defs (D (F := F))) 𝒱 (T d) none) Set.univ (Prog.lift (.customCall (SparseCore.inner (Pipeline.entry 1)) ())) Q :=
    (K (F := F)).wp_liftProg (D (F := F)) 𝒱 (T d) Set.univ none (Prog.lift (.customCall (Pipeline.entry 1) ())) Q
  refine BIBase.Entails.trans ?_ (h4.trans (h5.trans h7))
  iintro ⟨Hk, H⟩
  isplitl [Hk]
  · iintro H
    rw [wp_ret]; imodintro
    iapply Hk; iexact H
  iexact H

/-! ## What the launch element holds -/

def u₀ : UU := (initOf (K (F := F)).hsCells (K (F := F)).hsToks,
  (initOf (Pipeline.cells (nD := nD) (τ := τ) cfgs cellOf_inj) (Pipeline.launchToks (nD := nD) (τ := τ) cfgs cellOf_inj), 1))

omit [FloatOps F] in
theorem bigSep_none {I : Type} (s : Finset I) : (bigSep s fun _ => iprop(emp)) = (iprop(emp) : sProp 𝕄) := bigSep_emp_const s

/-- The two pipelines' rounds on a core. -/
abbrev G (d : Dev nD) : sProp 𝕄 :=
  iprop((Pipeline.cellsGhost cfgs EP 0 d ∗ Pipeline.cellsGhost cfgs EP 1 d) ∗ (Pipeline.toksInit cfgs EP 0 d ∗ Pipeline.toksInit cfgs EP 1 d))

omit [FloatOps F] in
theorem bigSep_two (Φ : Fin 2 → sProp 𝕄) : bigSep Finset.univ Φ = iprop(Φ 0 ∗ Φ 1) :=
  bigSep_univ_eq_bigSepL [(0 : Fin 2), (1 : Fin 2)] (by decide) (by decide) Φ

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (iv m)).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), 1) : UP × Counters)) $$ Hu
  icases H with ⟨HH, HP⟩
  ihave HP := (show BI.own ((embR : Emb (UP × Counters) 𝕄) (initOf (Pipeline.cells (nD := nD) (τ := τ) cfgs cellOf_inj) (Pipeline.launchToks (nD := nD) (τ := τ) cfgs cellOf_inj), 1))
    ⊢ (BI.own (EP (initOf (Pipeline.cells (nD := nD) (τ := τ) cfgs cellOf_inj) (Pipeline.launchToks (nD := nD) (τ := τ) cfgs cellOf_inj))) : sProp 𝕄) from .rfl) $$ HP
  imod (Pipeline.fund_ghost cfgs (EP (F := F)) cellOf_inj) $$ HP with ⟨Hg, Ht⟩
  imodintro
  isplitl [HH]; · iexact HH
  isplitl [Hg Ht]
  · unfold G
    simp only [bigSep_two, bigSep_sep']
    icases Hg with ⟨Hg0, Hg1⟩
    icases Ht with ⟨Ht0, Ht1⟩
    isplitl [Hg0 Hg1]
    · isplitl [Hg0] <;> iassumption
    isplitl [Ht0] <;> iassumption
  rw [show (bigSep Finset.univ fun thr : Thread nD τ => bigSep Finset.univ fun q : Fin 1 => (P (F := F) (iv m)).x q thr) = bigSep Finset.univ fun _ => iprop(emp) from
    bigSep_congr fun _ _ => bigSep_univ_of_subsingleton (0 : Fin 1), bigSep_none]
  iempintro

/-! ## The host's reshapes -/

abbrev x' : DevRef τ sig := Proc.devRef .tc main_v0_0
abbrev i' : DevRef τ sig := Proc.devRef .tc main_v1
abbrev l' : DevRef τ sig := Proc.devRef .tc main_v3_0
abbrev r' : DevRef τ sig := Proc.devRef .tc main_v4

abbrev opI : HloOp τ sig (Elt F) := StableHlo.reshape main_v0_0 main_v1 (rfl : (.i32 : EltTy) = .i32) shapeCasts_S1024x8_S8192
abbrev opR : HloOp τ sig (Elt F) := StableHlo.reshape main_v3_0 main_v4 (rfl : (.f32 : EltTy) = .f32) shapeCasts_S1x1_S_

/-- The loss as the last call leaves it, and as the program returns it. -/
def lA (d : Dev nD) : Buf (Elt F) (lLoc d) := (dat2 (V2 m) d hc).arrAt 3 cfg2.N
def rV (d : Dev nD) : Buf (Elt F) (rLoc d) := fun i => shapeCast (α := Elt F .f32) S_ (lA m hc d) shapeCasts_S1x1_S_ i

def Wx (d : Dev nD) : Valuation τ sig (Elt F) := Function.update (fun b => m (d, b)) x' (xA m d)
def Wl (d : Dev nD) : Valuation τ sig (Elt F) := Function.update (fun b => m (d, b)) l' (lA m hc d)

omit [FloatOps F] in
theorem held_xi (d : Dev nD) (W : Valuation τ sig (Elt F)) :
    (held (T d) {x', i'} W : sProp 𝕄) = iprop((xLoc d ↦{fullShare} W x') ∗ iLoc d ↦{fullShare} W i') := by
  unfold StableHlo.held
  rw [SparseCore.bigSep_insert' (by decide), bigSep_singleton]
omit [FloatOps F] in
theorem held_lr (d : Dev nD) (W : Valuation τ sig (Elt F)) :
    (held (T d) {l', r'} W : sProp 𝕄) = iprop((lLoc d ↦{fullShare} W l') ∗ rLoc d ↦{fullShare} W r') := by
  unfold StableHlo.held
  rw [SparseCore.bigSep_insert' (by decide), bigSep_singleton]

theorem Wx_x (d : Dev nD) : Wx m d x' = xA m d := Function.update_self _ _ _
theorem Wx_i (d : Dev nD) : Wx m d i' = m (iLoc d) := Function.update_of_ne (by decide) _ _
theorem Wl_l (d : Dev nD) : Wl m hc d l' = lA m hc d := Function.update_self _ _ _
theorem Wl_r (d : Dev nD) : Wl m hc d r' = m (rLoc d) := Function.update_of_ne (by decide) _ _

theorem held_opI (d : Dev nD) : (held (T d) {x', i'} ((opI (F := F)).result (Wx m d)) : sProp 𝕄)
    = iprop((xLoc d ↦{fullShare} xA m d) ∗ iLoc d ↦{fullShare} (iv m d : Buf (Elt F) (iLoc d))) := by
  rw [held_xi, (opI (F := F)).result_of_not_mem (Wx m d) (b := x') (show x' ∉ ({i'} : Finset (DevRef τ sig)) by decide), Wx_x,
    show (opI (F := F)).result (Wx m d) i' = iv m d from (StableHlo.reshape_result _ _ _ _ _ _ _).trans (by rw [Wx_x]; rfl)]
theorem held_opR (d : Dev nD) : (held (T d) {l', r'} ((opR (F := F)).result (Wl m hc d)) : sProp 𝕄)
    = iprop((lLoc d ↦{fullShare} lA m hc d) ∗ rLoc d ↦{fullShare} rV m hc d) := by
  rw [held_lr, (opR (F := F)).result_of_not_mem (Wl m hc d) (b := l') (show l' ∉ ({r'} : Finset (DevRef τ sig)) by decide), Wl_l,
    show (opR (F := F)).result (Wl m hc d) r' = rV m hc d from (StableHlo.reshape_result _ _ _ _ _ _ _).trans (by rw [Wl_l]; rfl)]

/-! ## @main -/

/-- The prompts' copies the program returns. -/
def oV (d : Dev nD) : Buf (Elt F) (oLoc d) := outV (hBlk (V2 m) d) (hc d) (m (pLoc d))

/-- What the launch leaves: the arguments as they were, and the two results. -/
abbrev FIN (d : Dev nD) : sProp 𝕄 :=
  iprop((qLoc d ↦{fullShare} m (qLoc d)) ∗ (kLoc d ↦{fullShare} m (kLoc d)) ∗ (pLoc d ↦{fullShare.left} m (pLoc d))
    ∗ (oLoc d ↦{fullShare} oV m hc d) ∗ rLoc d ↦{fullShare} rV m hc d)

theorem hmain [∀ e, Nonempty (Elt F e)] (κ : GSem nD τ sig → ℕ) (d : Dev nD) :
    iprop((K (F := F)).ctx EH (P (iv m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m hc d ∗ (K (F := F)).tcEnd d) := by
  unfold SparseCore.Cfg.tcRes SparseCore.Cfg.tcEnd G
  simp only [main, wp_bind, wp_pure]
  iintro ⟨#Hctx, Hst, ⟨Hb, Hub, Hts, -⟩, ⟨Hg0, Hg1⟩, Ht0, Ht1⟩
  ihave #Hlev := (SparseCore.Cfg.ctx_levAts κ) $$ Hctx
  -- the first call
  ihave Hst := (BIBase.Entails.of_eq (show (K (F := F)).tcSt EH d 0 = iprop(owesT d 0 ∗ _) from rfl)) $$ Hst
  icases Hst with ⟨HO, Hst⟩
  iapply (wp_reg0 m hc d)
  isplitr [Hb Hub HO Hg0 Ht0]; rotate_left
  · isplitl [Hb]; · iexact Hb
    isplitl [Hub HO]
    · iapply (BIBase.Entails.of_eq (show (reg0 m hc).pre d = iprop(unscopedBufs d (V0 m d) ∗ owesT d 0) from rfl).symm)
      isplitl [Hub]; · iexact Hub
      iexact HO
    isplitr; · iexact Hlev
    isplitl [Hg0]; · iexact Hg0
    iexact Ht0
  iintro ⟨Hb, Hpost⟩
  ihave Hpost := (BIBase.Entails.of_eq (show (reg0 m hc).post d = iprop(((qLoc d ↦{fullShare} m (qLoc d)) ∗ (kLoc d ↦{fullShare} m (kLoc d))
    ∗ (xLoc d ↦{fullShare} xA m d) ∗ (sLoc d ↦{fullShare} sA m d)) ∗ owesT d 0 ∗ Pipeline.unscopedRest spec0 d (V0 m d)) from rfl)) $$ Hpost
  icases Hpost with ⟨⟨Hq, Hk, Hx, Hs⟩, HO, HZ⟩
  ihave HZ := (BIBase.Entails.of_eq (unscopedRest0_eq d (V0 m d))) $$ HZ
  icases HZ with ⟨Hp, Hi, Hh, Hl, Ho, Hr⟩
  -- the index list
  iapply (wp_hlo_within 𝒱 (SparseCore.T d) none Set.univ (op := opI) (S := {x', i'}) (show ({x', i'} : Finset (DevRef τ sig)) ⊆ {x', i'} from le_refl _) (V := Wx m d)) $$ [Hb Hx Hi]
  · isplitl [Hb]; · iexact Hb
    rw [held_xi, Wx_x, Wx_i]
    isplitl [Hx]; · iexact Hx
    iexact Hi
  iintro ⟨Hb, Hheld⟩
  ihave Hheld := (BIBase.Entails.of_eq (held_opI m d)) $$ Hheld
  icases Hheld with ⟨Hx, Hi⟩
  rw [wp_ret]; imodintro
  -- the histogram
  iapply ((K (F := F)).wp_run (D (F := F)) 𝒱 (EH := EH) (P := P (iv m)) κ d 0) $$ [Hst HO Hb Hts Hg1 Ht1 Hq Hk Hx Hs Hp Hi Hh Hl Ho Hr]
  isplitr; · iexact Hctx
  isplitl [Hst HO]
  · iapply (BIBase.Entails.of_eq (show (K (F := F)).tcSt EH d 0 = iprop(owesT d 0 ∗ _) from rfl).symm)
    isplitl [HO]; · iexact HO
    iexact Hst
  isplitl [Hi Hh]
  · iapply (st_intro (iv m) d (m (hLoc d)))
    isplitl [Hi]; · iexact Hi
    iexact Hh
  iintro ⟨Hst, Hdn⟩
  ihave Hdn' := (dn_elim (iv m) d) $$ Hdn
  icases Hdn' with ⟨Hi, Hh⟩
  ihave Hst := (BIBase.Entails.of_eq (show (K (F := F)).tcSt EH d (((0 : Fin 1) : ℕ) + 1) = iprop(owesT d 1 ∗ _) from rfl)) $$ Hst
  icases Hst with ⟨HO, Hst⟩
  -- the last call
  iapply (wp_reg1 m hc d)
  isplitr [Hb HO Hg1 Ht1 Hq Hk Hx Hs Hp Hi Hh Hl Ho Hr]; rotate_left
  · isplitl [Hb]; · iexact Hb
    isplitr [Hg1 Ht1]
    · iapply (BIBase.Entails.of_eq (show (reg1 m hc).pre d = iprop(unscopedBufs d (V2 m d) ∗ owesT d 1) from rfl).symm)
      isplitr [HO]
      · iapply (BIBase.Entails.of_eq (unscopedBufs_eq d (V2 m d)).symm)
        rw [V2_arg0, V2_arg1, V2_arg2, V2_v0_0, V2_v0_1, V2_v1, V2_v2, V2_v3_0, V2_v3_1, V2_v4]
        isplitl [Hq]; · iexact Hq
        isplitl [Hk]; · iexact Hk
        isplitl [Hp]; · iexact Hp
        isplitl [Hx]; · iexact Hx
        isplitl [Hs]; · iexact Hs
        isplitl [Hi]; · iexact Hi
        isplitl [Hh]; · iexact Hh
        isplitl [Hl]; · iexact Hl
        isplitl [Ho]; · iexact Ho
        iexact Hr
      iexact HO
    isplitr; · iexact Hlev
    isplitl [Hg1]; · iexact Hg1
    iexact Ht1
  iintro ⟨Hb, Hpost⟩
  ihave Hpost := (BIBase.Entails.of_eq (show (reg1 m hc).post d = iprop(((hLoc d ↦{fullShare} (dat2 (V2 m) d hc).arrAt 0 cfg2.N) ∗ (kLoc d ↦{fullShare} V2 m d main_arg1)
    ∗ (sLoc d ↦{fullShare} (dat2 (V2 m) d hc).arrAt 2 cfg2.N) ∗ (lLoc d ↦{fullShare} lA m hc d)) ∗ owesT d 1
    ∗ ((pLoc d ↦{fullShare.left} V2 m d main_arg2) ∗ (oLoc d ↦{fullShare} outV (hBlk (V2 m) d) (hc d) (V2 m d main_arg2)))
    ∗ (qLoc d ↦{fullShare} V2 m d main_arg0) ∗ (rLoc d ↦{fullShare} V2 m d main_v4)) from rfl)) $$ Hpost
  icases Hpost with ⟨⟨-, Hk, -, Hl⟩, HO, ⟨Hp, Ho⟩, Hq, Hr⟩
  rw [V2_arg0, V2_arg1, V2_arg2, V2_v4]
  -- the loss
  iapply (wp_hlo_within 𝒱 (SparseCore.T d) none Set.univ (op := opR) (S := {l', r'}) (show ({l', r'} : Finset (DevRef τ sig)) ⊆ {l', r'} from le_refl _) (V := Wl m hc d)) $$ [Hb Hl Hr]
  · isplitl [Hb]; · iexact Hb
    rw [held_lr, Wl_l, Wl_r]
    isplitl [Hl]; · iexact Hl
    iexact Hr
  iintro ⟨Hb, Hheld⟩
  ihave Hheld := (BIBase.Entails.of_eq (held_opR m hc d)) $$ Hheld
  icases Hheld with ⟨Hl, Hr⟩
  rw [wp_ret]; imodintro; imodintro
  isplitl [Hst HO]
  · iapply (BIBase.Entails.of_eq (show (K (F := F)).tcSt EH d 1 = iprop(owesT d 1 ∗ _) from rfl).symm)
    isplitl [HO]; · iexact HO
    iexact Hst
  isplitr [Hb Hts]
  · isplitl [Hq]; · iexact Hq
    isplitl [Hk]; · iexact Hk
    isplitl [Hp]; · iexact Hp
    isplitl [Ho]; · iexact Ho
    iexact Hr
  isplitl [Hb] <;> iassumption

def fq (d : Dev nD) (s' : Phys nD τ sig (Elt F)) : Prop :=
  s'.mem.mem (qLoc d) = m (qLoc d) ∧ s'.mem.mem (kLoc d) = m (kLoc d) ∧ s'.mem.mem (pLoc d) = m (pLoc d)
    ∧ s'.mem.mem (oLoc d) = oV m hc d ∧ s'.mem.mem (rLoc d) = rV m hc d

theorem hfin (d : Dev nD) (s' : Phys nD τ sig (Elt F)) : iprop(FIN m hc d ∗ SI s') ⊢ (⌜fq m hc d s'⌝ : sProp 𝕄) := by
  iintro ⟨⟨Hq, Hk, Hp, Ho, Hr⟩, HSI⟩
  ihave H := (persistent_entails_right (SI_pointsTo_agree (st := s') (ℓ := qLoc d) (I := Finset.univ) (q := fullShare) (f := m (qLoc d)))) $$ [HSI Hq]
  · isplitl [HSI] <;> iassumption
  icases H with ⟨%hq, HSI, -⟩
  ihave H := (persistent_entails_right (SI_pointsTo_agree (st := s') (ℓ := kLoc d) (I := Finset.univ) (q := fullShare) (f := m (kLoc d)))) $$ [HSI Hk]
  · isplitl [HSI] <;> iassumption
  icases H with ⟨%hk, HSI, -⟩
  ihave H := (persistent_entails_right (SI_pointsTo_agree (st := s') (ℓ := pLoc d) (I := Finset.univ) (q := fullShare.left) (f := m (pLoc d)))) $$ [HSI Hp]
  · isplitl [HSI] <;> iassumption
  icases H with ⟨%hp, HSI, -⟩
  ihave H := (persistent_entails_right (SI_pointsTo_agree (st := s') (ℓ := oLoc d) (I := Finset.univ) (q := fullShare) (f := oV m hc d))) $$ [HSI Ho]
  · isplitl [HSI] <;> iassumption
  icases H with ⟨%ho, HSI, -⟩
  ihave H := (SI_pointsTo_agree (st := s') (ℓ := rLoc d) (I := Finset.univ) (q := fullShare) (f := rV m hc d)) $$ [HSI Hr]
  · isplitl [HSI] <;> iassumption
  icases H with %hr
  ipureintro
  exact ⟨funext fun i => hq i (Finset.mem_univ i), funext fun i => hk i (Finset.mem_univ i), funext fun i => hp i (Finset.mem_univ i),
    funext fun i => ho i (Finset.mem_univ i), funext fun i => hr i (Finset.mem_univ i)⟩

def QC : PUnit × MemSt nD τ sig (Elt F) → Prop := fun r =>
  (∀ c : Dev nD, r.2.mem (qLoc c) = m (qLoc c) ∧ r.2.mem (kLoc c) = m (kLoc c) ∧ r.2.mem (pLoc c) = m (pLoc c)
    ∧ r.2.mem (oLoc c) = oV m hc c ∧ r.2.mem (rLoc c) = rV m hc c) ∧ r.2.sem = fun _ => 0

theorem run_main [∀ e, Nonempty (Elt F e)] (hiv : ∀ d j, (iv m d j).toNat < 8192) :
    θ_run (Cert.KernelIdeal.defs (F := F)) (Cert.KernelIdeal.threads (F := F)) ⟨m, fun _ => 0, ρ⟩ (QC m hc) :=
  SparseCore.Cfg.θ_run_sc_quiescent (K := K (F := F)) (D := D (F := F)) (𝒱 := 𝒱) (EH := EH) (P := P (iv m)) (A := ∅) facts v₀
    (fun q hq => match q with | 0 => nomatch hq)
    (fun q _ => match q with | 0 => tileObl (iv m) facts hiv)
    (fun q _ => match q with | 0 => SparseCore.Cfg.VecSplit.of_plain (vecSplit (iv m)))
    m ρ main G (FIN m hc) (u₀ (F := F)) (sep_elim_left.trans (hu₀ m)) (hmain m ρ hc) (fq m hc) (hfin m hc) (QC m hc) (fun _ h hz => ⟨h, hz⟩)

end Cert.Proof.Sc

end
-- ==== Proof.KerVal.lean ====
module

public import proofs.«01_k».proof.Proof.ArrVal
public import proofs.«01_k».proof.Proof.Spec
public import proofs.«01_k».proof.Proof.Run

@[expose] public section

noncomputable section

namespace Cert.Proof.Sc

open Cert.KernelIdeal Cert.KernelIdeal.Gen
open Idealize.ShloMosaic Idealize.ShloMosaic.Pipeline
open Cert.Proof.Order Cert.Proof.Spec

variable (m : (a : Loc nD τ sig) → Buf (Elt Ideal) a) (c : Dev nD)

/-- The queries, keys and prompts at the start. -/
abbrev qM : (⟨2, ![1024, 128]⟩ : Shape).Idx → EReal := m (qLoc c)
abbrev kM : (⟨2, ![8192, 128]⟩ : Shape).Idx → EReal := m (kLoc c)
abbrev pM : S8192x4x768.Idx → Elt Ideal .f32 := m (pLoc c)

theorem knV_apply (p : Fin 8192) (d : Fin 128) : knV (V0 m) c (ix2 p d) = kn (kM m c) p d := by
  unfold knV
  rw [kBlk_eq]
  exact knOf_apply _ p d

theorem sim_apply (t : Fin cfg0.N) (r : Fin 256) (p : Fin 8192) :
    k0_pay6 (qBlk (V0 m) c t) (knV (V0 m) c) (ix2 r p) = sim (qM m c) (kM m c) ⟨t.val * 256 + r.val, by have : t.val < 4 := t.isLt; omega⟩ p := by
  rw [pay6_apply]
  unfold sim
  refine Finset.sum_congr rfl fun d _ => ?_
  rw [knV_apply]
  have : (fun d => qBlk (V0 m) c t (ix2 r d)) = fun d => qM m c (ix2 ⟨t.val * 256 + r.val, by have : t.val < 4 := t.isLt; omega⟩ d) := funext fun d => qBlk_apply m c t r d
  rw [this]
  rfl

theorem xA_ind (n : Fin 1024) (j : Fin 8) : xA m c (ix2 n j) = BitVec.ofNat 32 (ind (qM m c) (kM m c) n j).val := by
  have h := xA_apply m c ⟨n.val / 256, by have := n.isLt; show n.val / 256 < 4; omega⟩ ⟨n.val % 256, by omega⟩ j
  have hn : (⟨n.val / 256 * 256 + n.val % 256, by omega⟩ : Fin 1024) = n := Fin.ext (by show n.val / 256 * 256 + n.val % 256 = n.val; omega)
  have hs : (fun p => k0_pay6 (qBlk (V0 m) c ⟨n.val / 256, by have := n.isLt; show n.val / 256 < 4; omega⟩) (knV (V0 m) c) (ix2 ⟨n.val % 256, by omega⟩ p)) = sim (qM m c) (kM m c) n := funext fun p => by
    rw [sim_apply]
    exact congrArg (fun x => sim (qM m c) (kM m c) x p) hn
  rw [picks_apply _ _ _ (fun p => by rw [congrFun hs p]; exact sim_ne_bot _ _ n p), hs] at h
  exact (congrArg (fun x => xA m c (ix2 x j)) hn.symm).trans h

theorem iv_apply (i : Fin 8192) : iv m c (ix1 i) = BitVec.ofNat 32 (indF (qM m c) (kM m c) i).val := by
  have h : iv m c (ix1 i) = xA m c (ix2 ⟨i.val / 8, by omega⟩ ⟨i.val % 8, by omega⟩) := by
    show shapeCast S8192 (show S1024x8.Idx → BitVec 32 from xA m c) shapeCasts_S1024x8_S8192 (ix1 i) = (show S1024x8.Idx → BitVec 32 from xA m c) _
    generalize (show S1024x8.Idx → BitVec 32 from xA m c) = X
    refine shapeCast_apply (s := S1024x8) X _ _ _ ?_
    rw [Shape.rowMajor_val_two, Shape.rowMajor_val_one]
    show i.val / 8 * 8 + i.val % 8 = i.val
    omega
  rw [h, xA_ind]
  rfl

theorem iv_lt : ∀ d j, (iv m d j).toNat < 8192 := by
  intro d j
  obtain ⟨i, rfl⟩ : ∃ i : Fin 8192, j = ix1 i := ⟨j 0, funext fun a => by obtain rfl : a = 0 := Subsingleton.elim _ _; rfl⟩
  rw [iv_apply, BitVec.toNat_ofNat]
  have := (indF (qM m d) (kM m d) i).isLt
  omega

theorem counts : Counts (hBlk (V2 m) c) (cnt (qM m c) (kM m c)) := by
  intro p
  refine ⟨cnt_le _ _ p, ?_⟩
  rw [hBlk_eq]
  have : ∀ w : Fin 32, Hist.histV (iv m c) (ix2 w p) = BitVec.ofNat 32 (Nat.count (fun j => (Hist.word (iv m c) (256 * w.val + j)).toNat = p.val) 256) := fun w => rfl
  simp only [this]
  rw [fold_addi_ofNat, sum_counts (fun i => (Hist.word (iv m c) i).toNat = p.val)]
  unfold cnt
  refine congrArg (fun S : Finset (Fin 8192) => BitVec.ofNat 32 S.card) (Finset.filter_congr fun i _ => ?_)
  unfold Hist.word
  rw [dif_pos i.isLt]
  have hi := iv_apply m c i
  have hl := (indF (qM m c) (kM m c) i).isLt
  show (iv m c (ix1 i)).toNat = p.val ↔ _
  rw [hi, BitVec.toNat_ofNat, Nat.mod_eq_of_lt (by omega)]
  exact Fin.ext_iff.symm

theorem chks (c : Dev nD) : Chk (hBlk (V2 m) c) := chk (counts m c)

theorem qsAt_apply (d : Fin 128) : qsAt (V0 m) c 3 (by decide) (ix2 0 d) = ∑ n : Fin 1024, qn (qM m c) n d := by
  have hq : ∀ t : Fin cfg0.N, (∑ r : Fin 256, nrmd (fun d => qBlk (V0 m) c t (ix2 r d)) d) = ∑ r : Fin 256, qn (qM m c) ⟨t.val * 256 + r.val, by have : t.val < 4 := t.isLt; omega⟩ d := fun t =>
    Finset.sum_congr rfl fun r _ => by
      rw [show (fun d => qBlk (V0 m) c t (ix2 r d)) = fun d => qM m c (ix2 ⟨t.val * 256 + r.val, by have : t.val < 4 := t.isLt; omega⟩ d) from funext fun d => qBlk_apply m c t r d]
      rfl
  rw [sum_blocks, Fin.sum_univ_four]
  simp only [qsAt, qsNext_apply, qs0_apply, hq, zero_add]
  rfl

/-- The first result. -/
theorem oV_apply (x : Fin 1024) (y : Fin 32) (z : Fin 768) :
    oV m (chks m) c (ix3 x y z) = pM m c (ix3 (fi (qM m c) (kM m c) ⟨y.val / 4, by omega⟩) ⟨y.val % 4, by omega⟩ z) :=
  outV_apply (counts m c) (chks m c) (pM m c) x y z

/-- The second result. -/
theorem rV_apply : rV m (chks m) c = fun _ => Ideal.div (tot (qM m c) (kM m c)) (Ideal.ofBits FTy.f32 0x44800000#32) := by
  funext i
  have h : rV m (chks m) c i = lA m (chks m) c (ix2 0 0) := by
    show shapeCast S_ (lA m (chks m) c) shapeCasts_S1x1_S_ i = _
    generalize lA m (chks m) c = X
    refine congrArg X (funext fun a => ?_)
    match a with
    | ⟨0, _⟩ => exact Subsingleton.elim (α := Fin 1) _ _
    | ⟨1, _⟩ => exact Subsingleton.elim (α := Fin 1) _ _
  rw [h, show lA m (chks m) c = _ from lA_eq m c (chks m), lossV_apply (counts m c), tot_eq, k2Blk_eq, qs2Blk_eq]
  simp only [qsAt_apply]
  rfl

end Cert.Proof.Sc

end
-- ==== Proof.Uniq.lean ====
/-
  Counting with sorted values: a list of values in order, split into its runs of equal values. Which run an entry is in, where
  each run begins, how long it is; and the longest runs are the values that occur most often.
-/
module

public import proofs.«01_k».proof.Proof.Order
public import Mathlib.Data.Nat.Count
public import Mathlib.Algebra.BigOperators.Fin

@[expose] public section

noncomputable section

namespace Cert.Proof.Uniq

open Idealize.ShloMosaic
open Cert.Proof.Order

open scoped Classical

/-! ## Counting -/

/-- A condition that holds up to some place and not from there on. -/
theorem lt_count_iff (P : ℕ → Prop) [DecidablePred P] (hP : ∀ i j, i ≤ j → P j → P i) (n i : ℕ) (hi : i < n) : i < Nat.count P n ↔ P i := by
  constructor
  · intro h
    by_contra hn
    obtain ⟨d, rfl⟩ : ∃ d, n = i + d := ⟨n - i, by omega⟩
    rw [Nat.count_add, (Nat.count_iff_forall_not (p := fun k => P (i + k))).mpr fun m _ hm => hn (hP i (i + m) (by omega) hm)] at h
    have := Nat.count_le P (n := i)
    omega
  · intro h
    have h1 : Nat.count P (i + 1) = i + 1 := Nat.count_iff_forall.mpr fun j hj => hP j i (by omega) h
    have h2 : Nat.count P (i + 1) ≤ Nat.count P n := Nat.count_monotone P (by omega)
    omega

theorem count_le_succ (c : ℕ → ℕ) (j n : ℕ) : Nat.count (fun i => c i ≤ j + 1) n = Nat.count (fun i => c i ≤ j) n + Nat.count (fun i => c i = j + 1) n := by
  induction n with
  | zero => rfl
  | succ n ih =>
    rw [Nat.count_succ, Nat.count_succ, Nat.count_succ, ih]
    rcases lt_trichotomy (c n) (j + 1) with h | h | h
    · rw [if_pos (by omega), if_pos (by omega), if_neg (by omega)]; omega
    · rw [if_pos (by omega), if_neg (by omega), if_pos h]; omega
    · rw [if_neg (by omega), if_neg (by omega), if_neg (by omega)]; omega

theorem sum_count (c : ℕ → ℕ) (n j : ℕ) : ((List.range (j + 1)).map fun x => Nat.count (fun i => c i = x) n).sum = Nat.count (fun i => c i ≤ j) n := by
  induction j with
  | zero => simp
  | succ j ih => rw [List.range_succ, List.map_append, List.sum_append, ih, count_le_succ]; simp

theorem sum_ite (P : ℕ → Prop) [DecidablePred P] (n : ℕ) : ((List.range n).map fun i => if P i then 1 else 0).sum = Nat.count P n := by
  induction n with
  | zero => rfl
  | succ n ih => rw [List.range_succ, List.map_append, List.sum_append, ih, Nat.count_succ]; simp

theorem count_eq_card (P : ℕ → Prop) [DecidablePred P] (n : ℕ) : Nat.count P n = (Finset.univ.filter fun i : Fin n => P i.val).card := by
  rw [Nat.count_eq_card_filter_range, Finset.card_filter, Finset.card_filter, Fin.sum_univ_eq_sum_range (fun i => if P i then 1 else 0)]

/-! ## Runs -/

variable (a : ℕ → ℕ)

/-- A run begins here. -/
def New (i : ℕ) : Prop := i = 0 ∨ a i ≠ a (i - 1)

/-- The number, from one, of the run an entry is in. -/
def run (i : ℕ) : ℕ := Nat.count (New a) (i + 1)

theorem run_zero : run a 0 = 1 := by
  unfold run
  rw [Nat.count_succ, if_pos (.inl rfl)]
  rfl

theorem run_succ (i : ℕ) : run a (i + 1) = run a i + if a (i + 1) = a i then 0 else 1 := by
  unfold run
  rw [Nat.count_succ]
  refine congrArg (Nat.count (New a) (i + 1) + ·) ?_
  by_cases h : a (i + 1) = a i
  · rw [if_pos h, if_neg]
    rintro (h' | h')
    · omega
    · exact h' h
  · rw [if_neg h, if_pos (.inr h)]

theorem run_mono {i j : ℕ} (h : i ≤ j) : run a i ≤ run a j := Nat.count_monotone _ (by omega)

theorem run_pos (i : ℕ) : 1 ≤ run a i := (run_zero a).symm.le.trans (run_mono a (Nat.zero_le i))

theorem run_le (i : ℕ) : run a i ≤ i + 1 := Nat.count_le _

theorem exists_run (m N : ℕ) (h1 : 1 ≤ m) (h : m ≤ run a N) : ∃ i ≤ N, run a i = m := by
  induction N with
  | zero => exact ⟨0, le_refl _, by rw [run_zero] at h ⊢; omega⟩
  | succ N ih =>
    by_cases hm : m ≤ run a N
    · obtain ⟨i, hi, e⟩ := ih hm
      exact ⟨i, by omega, e⟩
    · refine ⟨N + 1, le_refl _, ?_⟩
      have := run_succ a N
      split at this <;> omega

variable {n : ℕ} (ha : ∀ i j, i ≤ j → j < n → a i ≤ a j)
include ha

theorem run_lt {i j : ℕ} (h : i ≤ j) (hj : j < n) (hl : a i < a j) : run a i < run a j := by
  induction j with
  | zero => obtain rfl : i = 0 := by omega
            omega
  | succ j ih =>
    have hij : i ≤ j := by
      by_contra hc
      obtain rfl : i = j + 1 := by omega
      omega
    rw [run_succ]
    by_cases e : a (j + 1) = a j
    · rw [if_pos e]; exact ih hij (by omega) (e ▸ hl)
    · rw [if_neg e]; have := run_mono a hij; omega

theorem run_eq {i j : ℕ} (h : i ≤ j) (hj : j < n) (hl : a i = a j) : run a i = run a j := by
  induction j with
  | zero => obtain rfl : i = 0 := by omega
            rfl
  | succ j ih =>
    by_cases hij : i ≤ j
    · have h1 := ha i j hij (by omega)
      have h2 := ha j (j + 1) (by omega) hj
      rw [run_succ, if_pos (by omega)]
      exact ih hij (by omega) (by omega)
    · obtain rfl : i = j + 1 := by omega
      rfl

theorem run_eq_iff {i j : ℕ} (hi : i < n) (hj : j < n) : run a i = run a j ↔ a i = a j := by
  constructor
  · intro h
    by_contra hne
    rcases le_total i j with hij | hij
    · have := run_lt a ha hij hj (lt_of_le_of_ne (ha i j hij hj) hne); omega
    · have := run_lt a ha hij hi (lt_of_le_of_ne (ha j i hij hi) (Ne.symm hne)); omega
  · intro h
    rcases le_total i j with hij | hij
    · exact run_eq a ha hij hj h
    · exact (run_eq a ha hij hi h.symm).symm

theorem run_lt_iff {i j : ℕ} (hi : i < n) (hj : j < n) : run a i < run a j ↔ a i < a j := by
  constructor
  · intro h
    have hij : i ≤ j := by
      by_contra hc
      have := run_mono a (show j ≤ i by omega); omega
    refine lt_of_le_of_ne (ha i j hij hj) fun e => ?_
    have := (run_eq_iff a ha hi hj).mpr e
    omega
  · intro h
    refine run_lt a ha ?_ hj h
    by_contra hc
    have := ha j i (by omega) hi
    omega

omit ha in
/-- How many entries are in the first `j` runs: the place where the run after them begins. -/
def head (n j : ℕ) : ℕ := Nat.count (fun i => run a i ≤ j) n

omit ha in
theorem lt_head_iff (j i : ℕ) (hi : i < n) : i < head a n j ↔ run a i ≤ j :=
  lt_count_iff (fun i => run a i ≤ j) (fun _ _ h h' => (run_mono a h).trans h') n i hi

omit ha in
theorem head_le (j : ℕ) : head a n j ≤ n := Nat.count_le _

omit ha in
theorem head_mono (j : ℕ) : head a n j ≤ head a n (j + 1) := by
  unfold head
  rw [count_le_succ]
  omega

omit ha in
theorem head_zero : head a n 0 = 0 := Nat.count_iff_forall_not.mpr fun i _ h => by have := run_pos a i; omega

omit ha in
theorem head_pos (hn : 0 < n) (j : ℕ) : 1 ≤ head a n (j + 1) := by
  have := (lt_head_iff a (n := n) (j + 1) 0 hn).mpr (by rw [run_zero]; omega)
  omega

omit ha in
/-- How many runs there are. -/
def runs (n : ℕ) : ℕ := Nat.count (New a) n

omit ha in
theorem run_le_runs {i : ℕ} (hi : i < n) : run a i ≤ runs a n := Nat.count_monotone _ hi

omit ha in
theorem head_lt {j : ℕ} (hn : 0 < n) (hj : j < runs a n) : head a n j < n := by
  by_contra hc
  have h := (lt_head_iff a (n := n) j (n - 1) (by omega)).mp (by omega)
  unfold run at h
  rw [Nat.sub_add_cancel hn] at h
  unfold runs at hj
  omega

omit ha in
theorem head_all {j : ℕ} (hj : runs a n ≤ j) : head a n j = n := by
  unfold head
  exact Nat.count_iff_forall.mpr fun i hi => (run_le_runs a hi).trans hj

theorem head_run {i : ℕ} (hi : i < n) : head a n (run a i - 1) ≤ i ∧ a (head a n (run a i - 1)) = a i := by
  have hp := run_pos a i
  have h1 : head a n (run a i - 1) ≤ i := by
    by_contra hc
    have := (lt_head_iff a (n := n) (run a i - 1) i hi).mp (by omega)
    omega
  refine ⟨h1, (run_eq_iff a ha (by omega) hi).mp (le_antisymm (run_mono a h1) ?_)⟩
  by_contra hc
  have := (lt_head_iff a (n := n) (run a i - 1) (head a n (run a i - 1)) (by omega)).mpr (by omega)
  omega

/-- The length of the run an entry is in: how often its value occurs. -/
theorem length_run {i : ℕ} (hi : i < n) : head a n (run a i) - head a n (run a i - 1) = Nat.count (fun i' => a i' = a i) n := by
  have hp := run_pos a i
  have h := count_le_succ (run a) (run a i - 1) n
  rw [Nat.sub_add_cancel hp] at h
  unfold head
  rw [h, Nat.add_sub_cancel_left, count_eq_card, count_eq_card]
  exact congrArg Finset.card (Finset.filter_congr fun i' _ => run_eq_iff a ha i'.isLt hi)

/-! ## The longest runs -/

omit ha

theorem card_bef {m : ℕ} (s : Fin m → ℕ) (r : Fin m) : (Finset.univ.filter fun x => Bef s x (sel s r)).card = r.val := by
  have h : (Finset.univ.filter fun x => Bef s x (sel s r)) = (Finset.univ.filter fun i : Fin m => i < r).image (sel s) := by
    ext x
    simp only [Finset.mem_filter, Finset.mem_univ, true_and, Finset.mem_image]
    constructor
    · intro hx
      obtain ⟨i, rfl⟩ := sel_surjective s x
      refine ⟨i, ?_, rfl⟩
      by_contra hc
      rcases lt_or_eq_of_le (not_lt.mp hc) with h | h
      · exact hx.asymm (sel_bef s h)
      · subst h; exact hx.asymm hx
    · rintro ⟨i, hi, rfl⟩
      exact sel_bef s hi
  rw [h, Finset.card_image_of_injective _ (sel_injective s)]
  have h2 : (Finset.univ.filter fun i : Fin m => i < r) = Finset.Iio r := by ext; simp
  rw [h2, Fin.card_Iio]

variable (g σ : Fin n → Fin n)

/-- The values put in order. -/
def arr (i : ℕ) : ℕ := if h : i < n then (g (σ ⟨i, h⟩)).val else 0

theorem arr_val (i : Fin n) : arr g σ i.val = (g (σ i)).val := dif_pos i.isLt

theorem count_arr (hσ : Function.Bijective σ) (p : Fin n) :
    Nat.count (fun i => arr g σ i = p.val) n = (Finset.univ.filter fun i => g i = p).card := by
  rw [count_eq_card]
  refine Finset.card_bij (fun i _ => σ i) (fun i hi => ?_) (fun i _ j _ h => hσ.1 h) (fun x hx => ?_)
  · have := (Finset.mem_filter.mp hi).2
    rw [arr_val] at this
    exact Finset.mem_filter.mpr ⟨Finset.mem_univ _, Fin.ext this⟩
  · obtain ⟨i, rfl⟩ := hσ.2 x
    refine ⟨i, Finset.mem_filter.mpr ⟨Finset.mem_univ _, ?_⟩, rfl⟩
    rw [arr_val]
    exact congrArg Fin.val (Finset.mem_filter.mp hx).2

/-- The places of the longest runs, taken back to the runs' values: the values that occur most often. -/
theorem pick (hσ : Function.Bijective σ) (hm : ∀ i j : Fin n, i ≤ j → g (σ i) ≤ g (σ j)) (cnt : Fin n → ℕ)
    (hcnt : ∀ p, cnt p = (Finset.univ.filter fun i => g i = p).card) (t : Fin n)
    (ht : t.val < (Finset.univ.filter fun p => 0 < cnt p).card) :
    (sel (fun j : Fin n => head (arr g σ) n (j.val + 1) - head (arr g σ) n j.val) t).val < runs (arr g σ) n
      ∧ arr g σ (head (arr g σ) n (sel (fun j : Fin n => head (arr g σ) n (j.val + 1) - head (arr g σ) n j.val) t).val) = (sel cnt t).val := by
  have ha : ∀ i j, i ≤ j → j < n → arr g σ i ≤ arr g σ j := fun i j hij hj => by
    have h1 := arr_val g σ ⟨i, by omega⟩
    have h2 := arr_val g σ ⟨j, hj⟩
    simp only at h1 h2
    rw [h1, h2]
    exact hm _ _ hij
  have hc : ∀ p : Fin n, Nat.count (fun i => arr g σ i = p.val) n = cnt p := fun p => (count_arr g σ hσ p).trans (hcnt p).symm
  -- a value that occurs is some entry's
  have hocc : ∀ p, 0 < cnt p → ∃ i : Fin n, arr g σ i.val = p.val := fun p hp => by
    rw [hcnt] at hp
    obtain ⟨x, hx⟩ := Finset.card_pos.mp hp
    obtain ⟨i, rfl⟩ := hσ.2 x
    exact ⟨i, by rw [arr_val]; exact congrArg Fin.val (Finset.mem_filter.mp hx).2⟩
  have hpos : 0 < cnt (sel cnt t) := by
    by_contra h0
    have hsub : (Finset.univ.filter fun p => 0 < cnt p) ⊆ Finset.univ.filter fun x => Bef cnt x (sel cnt t) := fun x hx => by
      have := (Finset.mem_filter.mp hx).2
      exact Finset.mem_filter.mpr ⟨Finset.mem_univ _, .inl (by omega)⟩
    have := Finset.card_le_card hsub
    rw [card_bef] at this
    omega
  set u : Fin n → ℕ := fun j => head (arr g σ) n (j.val + 1) - head (arr g σ) n j.val with hu
  -- an entry's run
  have hrun : ∀ i : Fin n, ∃ j : Fin n, j.val + 1 = run (arr g σ) i.val ∧ arr g σ (head (arr g σ) n j.val) = arr g σ i.val ∧
      u j = Nat.count (fun i' => arr g σ i' = arr g σ i.val) n := fun i => by
    have h1 := run_pos (arr g σ) i.val
    have h2 := run_le (arr g σ) i.val
    refine ⟨⟨run (arr g σ) i.val - 1, by omega⟩, by simp only; omega, (head_run _ ha i.isLt).2, ?_⟩
    have := length_run _ ha i.isLt
    rw [← this, hu]
    simp only
    rw [Nat.sub_add_cancel h1]
  have hrun' : ∀ j : Fin n, 0 < u j → ∃ i : Fin n, j.val + 1 = run (arr g σ) i.val := fun j hj => by
    have hlt : j.val < runs (arr g σ) n := by
      by_contra hge
      have h1 := head_all (arr g σ) (n := n) (j := j.val) (by omega)
      have h2 := head_all (arr g σ) (n := n) (j := j.val + 1) (by omega)
      simp only [hu, h1, h2] at hj
      omega
    obtain ⟨i, hi, e⟩ := exists_run (arr g σ) (j.val + 1) (n - 1) (by omega) (by
      unfold run
      rw [Nat.sub_add_cancel (by have := j.isLt; omega)]
      exact hlt)
    exact ⟨⟨i, by have := j.isLt; omega⟩, e.symm⟩
  -- from a run to its value
  have hval : ∀ j : Fin n, 0 < u j → ∃ p : Fin n, p.val = arr g σ (head (arr g σ) n j.val) ∧ u j = cnt p ∧
      ∃ i : Fin n, j.val + 1 = run (arr g σ) i.val ∧ arr g σ i.val = p.val := fun j hj => by
    obtain ⟨i, hi⟩ := hrun' j hj
    obtain ⟨j', h1, h2, h3⟩ := hrun i
    obtain rfl : j = j' := Fin.ext (by omega)
    refine ⟨g (σ i), ?_, ?_, i, hi, arr_val g σ i⟩
    · rw [h2, arr_val]
    · rw [h3, arr_val, hc]
  have hcmp : ∀ (j j' p p' : Fin n), (∃ i : Fin n, j.val + 1 = run (arr g σ) i.val ∧ arr g σ i.val = p.val) →
      (∃ i : Fin n, j'.val + 1 = run (arr g σ) i.val ∧ arr g σ i.val = p'.val) → u j = cnt p → u j' = cnt p' → (Bef u j j' ↔ Bef cnt p p') := by
    rintro j j' p p' ⟨i, hi, hp⟩ ⟨i', hi', hp'⟩ h h'
    have hl := run_lt_iff _ ha i.isLt i'.isLt
    unfold Bef
    rw [h, h', Fin.lt_def, Fin.lt_def, ← hp, ← hp', ← hl]
    have : j.val < j'.val ↔ run (arr g σ) i.val < run (arr g σ) i'.val := by omega
    rw [this]
  -- the wanted value's run
  obtain ⟨i, hi⟩ := hocc _ hpos
  obtain ⟨j, h1, h2, h3⟩ := hrun i
  have hj : u j = cnt (sel cnt t) := by rw [h3, hi, hc]
  have hjt : sel u t = j := by
    obtain ⟨r, hr⟩ := sel_surjective u j
    suffices e : r = t by rw [← e]; exact hr
    refine Fin.ext ?_
    rw [← card_bef u r, ← card_bef cnt t, hr]
    have hup : ∀ x, Bef u x j → 0 < u x := fun x hx => by
      rcases hx with hx | ⟨hx, -⟩ <;> omega
    refine Finset.card_bij (fun x hx => (hval x (hup x (Finset.mem_filter.mp hx).2)).choose) (fun x hx => ?_) (fun x hx y hy e => ?_) (fun p hp => ?_)
    · obtain ⟨-, e2, e3⟩ := (hval x (hup x (Finset.mem_filter.mp hx).2)).choose_spec
      exact Finset.mem_filter.mpr ⟨Finset.mem_univ _, (hcmp x j _ _ e3 ⟨i, h1, hi⟩ e2 hj).mp (Finset.mem_filter.mp hx).2⟩
    · obtain ⟨-, -, ix, e3, e4⟩ := (hval x (hup x (Finset.mem_filter.mp hx).2)).choose_spec
      obtain ⟨-, -, iy, e5, e6⟩ := (hval y (hup y (Finset.mem_filter.mp hy).2)).choose_spec
      have e' : (hval x (hup x (Finset.mem_filter.mp hx).2)).choose = (hval y (hup y (Finset.mem_filter.mp hy).2)).choose := e
      have := (run_eq_iff _ ha ix.isLt iy.isLt).mpr (by rw [e4, e6, e'])
      exact Fin.ext (by omega)
    · have hp' := (Finset.mem_filter.mp hp).2
      have hpp : 0 < cnt p := by rcases hp' with hx | ⟨hx, -⟩ <;> omega
      obtain ⟨ip, hip⟩ := hocc p hpp
      obtain ⟨jp, g1, g2, g3⟩ := hrun ip
      have hjp : u jp = cnt p := by rw [g3, hip, hc]
      have hb := (hcmp jp j p _ ⟨ip, g1, hip⟩ ⟨i, h1, hi⟩ hjp hj).mpr hp'
      refine ⟨jp, Finset.mem_filter.mpr ⟨Finset.mem_univ _, hb⟩, ?_⟩
      have := (hval jp (hup jp hb)).choose_spec.1
      exact Fin.ext (by rw [this, g2, hip])
  rw [hjt]
  refine ⟨?_, by rw [h2, hi]⟩
  have := run_le_runs (arr g σ) i.isLt
  omega

end Cert.Proof.Uniq

end
-- ==== Proof.UniqVal.lean ====
/-
  The reference's list of distinct values and its counts, step by step: what each step holds, on values below the list's length.
-/
module

public import proofs.«01_k».proof.Proof.Uniq
public import proofs.«01_k».proof.Proof.Gen.ReferenceIdeal.Run
public import Idealize.ShloMosaic.Lib.Routing.Ops
public import Idealize.ShloMosaic.Lib.Routing.OpsSet
public import Idealize.ShloMosaic.Lib.Routing.OpsPair
public import Idealize.ShloMosaic.Lib.Routing.Words
public import Idealize.ShloMosaic.Lib.Routing.BitFacts
public import Idealize.ShloMosaic.Lib.Pipeline.Value
public import Idealize.ShloMosaic.Lib.Pointwise

@[expose] public section

noncomputable section

namespace Cert.Proof.Ref

open Cert.ReferenceIdeal Cert.ReferenceIdeal.Gen
open Idealize.ShloMosaic Idealize.ShloMosaic.Routing
open Cert.Proof.Order Cert.Proof.Uniq

open scoped Classical

/-! ## The steps -/

def flatT (x : IVec S1024x8 32) : IVec S8192 32 := shapeCast S8192 x shapeCasts_S1024x8_S8192
def flipT (x : IVec S8192 32) : IVec S8192 32 :=
  shapeCast S8192 (extractStridedSlice S1x8192 ![0, 0] (Host.reverse [0] (transpose S1x8192 [1, 0] (shapeCast S8192x1 x shapeCasts_S8192_S8192x1) transposes_S8192x1_S1x8192_1_0)) slices_S1x8192_S1x8192_0_0) shapeCasts_S1x8192_S8192
/-- The places of the entries put in order. -/
def posT (x : IVec S8192 32) : IVec S8192 32 := (Host.sort2 S8192 0 comparator_i32_i32_d0 (flipT x) (iotaInDim S8192 32 0)).2
def wrapT (x : IVec S8192 32) : IVec S8192x1 32 :=
  broadcastInDim S8192x1 ![0] bcast_S8192_S8192x1_0 (select (cmpi .slt x (broadcastInDim S8192 ![] bcast_S_S8192 (constantI S_ 32 0#32))) (addi x (broadcastInDim S8192 ![] bcast_S_S8192 (constantI S_ 32 8192#32))) x)
def wrap'T (x : IVec S8192 32) : IVec S8192x1 32 :=
  broadcastInDim S8192x1 ![0] bcast_S8192_S8192x1_0 (select (cmpi .slt x (broadcastInDim S8192 ![] bcast_S_S8192 (constantI S_ 32 0#32))) (addi x (broadcastInDim S8192 ![] bcast_S_S8192 (constantI S_ 32 8193#32))) x)
def wrap8T (x : IVec S8 32) : IVec S8x1 32 :=
  broadcastInDim S8x1 ![0] bcast_S8_S8x1_0 (select (cmpi .slt x (broadcastInDim S8 ![] bcast_S_S8 (constantI S_ 32 0#32))) (addi x (broadcastInDim S8 ![] bcast_S_S8 (constantI S_ 32 8192#32))) x)
def takeT (y x : IVec S8192 32) : IVec S8192 32 := Host.gather gather_S8192_S8192x1_S8192_n_0_n_n_0_1_1 y (wrapT x)
def take8T (y : IVec S8192 32) (x : IVec S8 32) : IVec S8 32 := Host.gather gather_S8192_S8x1_S8_n_0_n_n_0_1_1 y (wrap8T x)
def diffT (y : IVec S8192 32) : IVec S8191 1 :=
  Host.reduce IntOp.ori (cmpi .ne (extractStridedSlice S8191 ![1] y slices_S8192_S8191_1) (extractStridedSlice S8191 ![0] y slices_S8192_S8191_0)) (constantI S_ 1 0#1) reducesTo_S8191_S8191_d h_S_
/-- Where a run begins. -/
def newT (y : IVec S8192 32) : IVec S8192 1 :=
  Host.scatter scatter_S8192_S1_S8191_0_n_0_0 (fun _ b => b) (broadcastInDim S8192 ![] bcast_S_S8192 (constantI S_ 1 1#1)) (broadcastInDim S1 ![] bcast_S_S1 (constantI S_ 32 1#32)) (diffT y)
def sumT (x : IVec S8192 32) : IVec S8192 32 :=
  Host.reduceWindow IntOp.addi ![8192] ![1] ![8191] ![0] x (broadcastInDim S_ ![] bcast_S_S_ (constantI S_ 32 0#32)) reduceWindows_S8192_S8192_w8192s1p8191_0 h_S_
def sum'T (x : IVec S8193 32) : IVec S8193 32 :=
  Host.reduceWindow IntOp.addi ![8193] ![1] ![8192] ![0] x (broadcastInDim S_ ![] bcast_S_S_ (constantI S_ 32 0#32)) reduceWindows_S8193_S8193_w8193s1p8192_0 h_S_
/-- The number of an entry's run. -/
def runT (x : IVec S8192 1) : IVec S8192 32 := sumT (extui 32 x natLt_1_32)
def totalT (x : IVec S8192 1) : IVec S_ 32 := Host.reduce IntOp.addi (extui 32 x natLt_1_32) (constantI S_ 32 0#32) reducesTo_S8192_S_d0 h_S_
def headT (r : IVec S8192 32) : IVec S8192 32 :=
  sumT (Host.scatter scatter_S8192_S8192x1_S8192_n_0_0_1 IntOp.addi (broadcastInDim S8192 ![] bcast_S_S8192 (constantI S_ 32 0#32)) (wrapT r) (broadcastInDim S8192 ![] bcast_S_S8192 (constantI S_ 32 1#32)))
def head'T (r : IVec S8192 32) : IVec S8193 32 :=
  sum'T (Host.scatter scatter_S8193_S8192x1_S8192_n_0_0_1 IntOp.addi (broadcastInDim S8193 ![] bcast_S_S8193 (constantI S_ 32 0#32)) (wrap'T r) (broadcastInDim S8192 ![] bcast_S_S8192 (constantI S_ 32 1#32)))
/-- The place where a run begins, nought past the last run. -/
def startT (x : IVec S8192 1) (h : IVec S8192 32) : IVec S8192 32 :=
  select (cmpi .sge (iotaInDim S8192 32 0) (broadcastInDim S8192 ![0] bcast_S1_S8192_0 (broadcastInDim S1 ![] bcast_S_S1 (totalT x)))) (broadcastInDim S8192 ![] bcast_S_S8192 (id (constantI S_ 32 0#32)))
    (pyRem bcast_S_S8192 (pyDiv bcast_S_S8192 h (id (constantI S_ 32 1#32))) (id (constantI S_ 32 8192#32)))
def start'T (x : IVec S8192 1) (h : IVec S8193 32) : IVec S8193 32 :=
  select (cmpi .sge (iotaInDim S8193 32 0) (broadcastInDim S8193 ![0] bcast_S1_S8193_0 (broadcastInDim S1 ![] bcast_S_S1 (totalT x)))) (broadcastInDim S8193 ![] bcast_S_S8193 (id (constantI S_ 32 0#32)))
    (pyRem bcast_S_S8193 (pyDiv bcast_S_S8193 h (id (constantI S_ 32 1#32))) (id (constantI S_ 32 8192#32)))
/-- The same with the list's length past the last run. -/
def edgeT (x : IVec S8193 32) : IVec S8193 32 :=
  Host.scatter scatter_S8193_S1_S8192_0_n_0_0 (fun _ b => b) x (broadcastInDim S1 ![] bcast_S_S1 (constantI S_ 32 1#32)) (select (cmpi .ne (extractStridedSlice S8192 ![1] x slices_S8193_S8192_1) (broadcastInDim S8192 ![] bcast_S_S8192 (constantI S_ 32 0#32))) (extractStridedSlice S8192 ![1] x slices_S8193_S8192_1) (broadcastInDim S8192 ![] bcast_S_S8192 (id (constantI S_ 32 8192#32))))
/-- The runs' lengths. -/
def lenT (x : IVec S8193 32) : IVec S8192 32 :=
  subi (extractStridedSlice S8192 ![1] x slices_S8193_S8192_1) (extractStridedSlice S8192 ![0] x slices_S8193_S8192_0)

/-- The values put in order. -/
def arrT (x : IVec S8192 32) : IVec S8192 32 := takeT x (posT x)
/-- The distinct values, the least repeated past the last. -/
def valsT (x : IVec S8192 32) : IVec S8192 32 :=
  takeT (arrT x) (startT (newT (arrT x)) (headT (runT (newT (arrT x)))))
/-- How often each occurs, nought past the last. -/
def countsT (x : IVec S8192 32) : IVec S8192 32 :=
  lenT (edgeT (start'T (newT (arrT x)) (head'T (runT (newT (arrT x))))))

/-! ## What they hold -/

theorem flatT_apply (x : IVec S1024x8 32) (i : Fin 8192) : flatT x (ix1 i) = x (ix2 ⟨i.val / 8, by omega⟩ ⟨i.val % 8, by omega⟩) :=
  cast21 x _ _ _ i (by simp only; omega)

theorem flipT_apply (x : IVec S8192 32) (i : Fin 8192) : flipT x (ix1 i) = x (ix1 i) := by
  have h : flipT x (ix1 i) = x (ix1 (if (1 : Fin 2) ∈ [(0 : Fin 2)] then i.rev else i)) := by
    pointwise [flipT]
  rw [h, if_neg (by decide)]

theorem wrap_word (b : ℕ) (hb : b < 2 ^ 31) (a : BitVec 32) : Scalar.select (IntOp.cmpi .slt (BitVec.ofNat 32 b) 0#32) a (BitVec.ofNat 32 b) = BitVec.ofNat 32 b :=
  wrap_of_lt _ _ (by rw [BitVec.toNat_ofNat]; omega)

theorem wrapT_apply (x : IVec S8192 32) (i : Fin 8192) (b : ℕ) (hb : b < 2 ^ 31) (h : x (ix1 i) = BitVec.ofNat 32 b) : wrapT x (ix2 i 0) = BitVec.ofNat 32 b := by
  have e : wrapT x (ix2 i 0) = Scalar.select (IntOp.cmpi .slt (x (ix1 i)) 0#32) (IntOp.addi (x (ix1 i)) 8192#32) (x (ix1 i)) := by
    pointwise [wrapT]
  rw [e, h]
  exact wrap_word b hb _

theorem wrap'T_apply (x : IVec S8192 32) (i : Fin 8192) (b : ℕ) (hb : b < 2 ^ 31) (h : x (ix1 i) = BitVec.ofNat 32 b) : wrap'T x (ix2 i 0) = BitVec.ofNat 32 b := by
  have e : wrap'T x (ix2 i 0) = Scalar.select (IntOp.cmpi .slt (x (ix1 i)) 0#32) (IntOp.addi (x (ix1 i)) 8193#32) (x (ix1 i)) := by
    pointwise [wrap'T]
  rw [e, h]
  exact wrap_word b hb _

theorem wrap8T_apply (x : IVec S8 32) (i : Fin 8) (b : ℕ) (hb : b < 2 ^ 31) (h : x (ix1 i) = BitVec.ofNat 32 b) : wrap8T x (ix2 i 0) = BitVec.ofNat 32 b := by
  have e : wrap8T x (ix2 i 0) = Scalar.select (IntOp.cmpi .slt (x (ix1 i)) 0#32) (IntOp.addi (x (ix1 i)) 8192#32) (x (ix1 i)) := by
    pointwise [wrap8T]
  rw [e, h]
  exact wrap_word b hb _

theorem takeT_apply (y x : IVec S8192 32) (i b : Fin 8192) (h : x (ix1 i) = BitVec.ofNat 32 b.val) : takeT y x (ix1 i) = y (ix1 b) :=
  gather_take1 _ rfl rfl rfl rfl y (wrapT x) i b (wrapT_apply x i b.val (by omega) h) (by norm_num)

theorem take8T_apply (y : IVec S8192 32) (x : IVec S8 32) (i : Fin 8) (b : Fin 8192) (h : x (ix1 i) = BitVec.ofNat 32 b.val) : take8T y x (ix1 i) = y (ix1 b) :=
  gather_take1 _ rfl rfl rfl rfl y (wrap8T x) i b (wrap8T_apply x i b.val (by omega) h) (by norm_num)

theorem diffT_apply (y : IVec S8192 32) (i : Fin 8191) :
    diffT y (ix1 i) = IntOp.cmpi .ne (y (ix1 ⟨1 + i.val, by omega⟩)) (y (ix1 ⟨0 + i.val, by omega⟩)) := by
  have h : diffT y (ix1 i) = Finset.fold IntOp.ori (0#1) (fun x : S8191.Idx => IntOp.cmpi CmpIPredicate.ne (y (ix1 ⟨1 + (x 0).val, by have h : (x 0).val < 8191 := (x 0).isLt; omega⟩)) (y (ix1 ⟨0 + (x 0).val, by have h : (x 0).val < 8191 := (x 0).isLt; omega⟩)))
      (Finset.univ.filter fun j => reducesTo_S8191_S8191_d.drop j = ix1 i) := by
    pointwise [diffT]
  have hs : (Finset.univ.filter fun j : S8191.Idx => reducesTo_S8191_S8191_d.drop j = ix1 i) = {ix1 i} := by
    ext j
    have hj : reducesTo_S8191_S8191_d.drop j = j := funext fun a => match a with
      | ⟨0, _⟩ => rfl
    simp only [Finset.mem_filter, Finset.mem_univ, true_and, Finset.mem_singleton, hj]
  rw [h, hs, Finset.fold_singleton]
  show _ ||| 0#1 = _
  rw [BitVec.or_zero]
  rfl

theorem posT_apply (x : IVec S8192 32) (g : Fin 8192 → Fin 8192) (hx : ∀ i, x (ix1 i) = BitVec.ofNat 32 (g i).val) (i : Fin 8192) :
    posT x (ix1 i) = BitVec.ofNat 32 (sel (fun i => OrderDual.toDual (g i)) i).val := by
  have hd : 0 < S8192.rank := by decide
  have hu : ∀ u : Fin 8192, Shape.Idx.along (s := S8192) (ix1 i) ⟨0, hd⟩ u = ix1 u := fun u => by
    funext a
    match a with
    | ⟨0, _⟩ => rfl
  have hb : ∀ u v : Fin 8192, (comparator_i32_i32_d0 (flipT x (Shape.Idx.along (s := S8192) (ix1 i) ⟨0, hd⟩ u), iotaInDim S8192 32 0 (Shape.Idx.along (s := S8192) (ix1 i) ⟨0, hd⟩ u))
        (flipT x (Shape.Idx.along (s := S8192) (ix1 i) ⟨0, hd⟩ v), iotaInDim S8192 32 0 (Shape.Idx.along (s := S8192) (ix1 i) ⟨0, hd⟩ v)) == 1#1)
      = decide (OrderDual.toDual (g v) < OrderDual.toDual (g u)) := fun u v => by
    rw [hu, hu, flipT_apply, flipT_apply, hx, hx]
    have h1 := (g u).isLt
    have h2 := (g v).isLt
    show (BitVec.ofBool ((BitVec.ofNat 32 (g u).val).slt (BitVec.ofNat 32 (g v).val)) == 1#1) = _
    rw [slt_ofNat32 (by omega) (by omega)]
    show _ = decide ((g u).val < (g v).val)
    cases decide ((g u).val < (g v).val) <;> rfl
  unfold posT Host.sort2
  rw [dif_pos hd]
  dsimp only
  refine (congrArg (iotaInDim S8192 32 0) (hu _)).trans ?_
  exact congrArg (fun R : Fin 8192 → Fin 8192 → Bool => BitVec.ofNat 32 (sortedFrom R i).val) (funext fun u => funext fun v => hb u v)

theorem sel_dual_mono (g : Fin 8192 → Fin 8192) (i j : Fin 8192) (h : i ≤ j) :
    g (sel (fun i => OrderDual.toDual (g i)) i) ≤ g (sel (fun i => OrderDual.toDual (g i)) j) := by
  rcases lt_or_eq_of_le h with h | rfl
  · rcases sel_bef (fun i => OrderDual.toDual (g i)) h with h | ⟨h, -⟩
    · exact (OrderDual.toDual_lt_toDual.mp h).le
    · exact (OrderDual.toDual_inj.mp h).le
  · exact le_refl _

/-! The steps past the sort, on the values in order. -/

variable (y : IVec S8192 32) (a : ℕ → ℕ) (hy : ∀ i : Fin 8192, y (ix1 i) = BitVec.ofNat 32 (a i.val)) (hlt : ∀ i < 8192, a i < 8192)

/-- Where an update of a whole window, set from place one on, lands. -/
theorem lands_new (i : Fin 8191) (x : Fin 8192) :
    scatter_S8192_S1_S8191_0_n_0_0.resultIdx? (ix1 i) (broadcastInDim S1 ![] bcast_S_S1 (constantI S_ 32 1#32)) = some (ix1 x) ↔ 1 + i.val = x.val := by
  refine (resultIdx?_ix1 _ _ _ _).trans ?_
  have hs : scatter_S8192_S1_S8191_0_n_0_0.start (ix1 i) (broadcastInDim S1 ![] bcast_S_S1 (constantI S_ 32 1#32)) 0 = 1 := by
    unfold ScatterDims.start
    rw [dif_pos (show (0 : Fin S8192.rank) ∈ scatter_S8192_S1_S8191_0_n_0_0.scatterDimsToOperandDims from List.mem_singleton.mpr rfl)]
    rfl
  have hw : scatter_S8192_S1_S8191_0_n_0_0.window (ix1 i) 0 = i.val := rfl
  rw [hs, hw]
  omega

theorem lands_edge (i : Fin 8192) (x : Fin 8193) :
    scatter_S8193_S1_S8192_0_n_0_0.resultIdx? (ix1 i) (broadcastInDim S1 ![] bcast_S_S1 (constantI S_ 32 1#32)) = some (ix1 x) ↔ 1 + i.val = x.val := by
  refine (resultIdx?_ix1 _ _ _ _).trans ?_
  have hs : scatter_S8193_S1_S8192_0_n_0_0.start (ix1 i) (broadcastInDim S1 ![] bcast_S_S1 (constantI S_ 32 1#32)) 0 = 1 := by
    unfold ScatterDims.start
    rw [dif_pos (show (0 : Fin S8193.rank) ∈ scatter_S8193_S1_S8192_0_n_0_0.scatterDimsToOperandDims from List.mem_singleton.mpr rfl)]
    rfl
  have hw : scatter_S8193_S1_S8192_0_n_0_0.window (ix1 i) 0 = i.val := rfl
  rw [hs, hw]
  omega

include hy hlt in
theorem newT_apply (i : Fin 8192) : newT y (ix1 i) = BitVec.ofBool (decide (New a i.val)) := by
  unfold newT
  by_cases h0 : i.val = 0
  · rw [scatter_set_miss _ _ _ _ _ fun k hk => ?_]
    · rw [bc0, decide_eq_true (show New a i.val from .inl h0)]
      rfl
    · obtain ⟨k, rfl⟩ : ∃ k' : Fin 8191, k = ix1 k' := ⟨k 0, eq_ix1 k⟩
      have := (lands_new k i).mp hk
      omega
  · have hi := i.isLt
    refine scatter_set_hit _ _ _ _ _ _ (fun k hk => ?_) (ix1 ⟨i.val - 1, by omega⟩) ((lands_new _ i).mpr (by simp only; omega))
    obtain ⟨k, rfl⟩ : ∃ k' : Fin 8191, k = ix1 k' := ⟨k 0, eq_ix1 k⟩
    have hk := (lands_new k i).mp hk
    have h1 := hlt i.val hi
    have h2 := hlt (i.val - 1) (by omega)
    rw [diffT_apply, hy, hy]
    simp only [hk, show 0 + k.val = i.val - 1 by omega]
    have hN : New a i.val ↔ a i.val ≠ a (i.val - 1) := ⟨fun h => h.resolve_left h0, .inr⟩
    show BitVec.ofBool (BitVec.ofNat 32 (a i.val) != BitVec.ofNat 32 (a (i.val - 1))) = _
    by_cases e : a i.val = a (i.val - 1)
    · rw [decide_eq_false (show ¬ New a i.val from fun h => hN.mp h e), e]
      simp
    · rw [decide_eq_true (hN.mpr e)]
      have : BitVec.ofNat 32 (a i.val) ≠ BitVec.ofNat 32 (a (i.val - 1)) := fun h => e (by
        have := congrArg BitVec.toNat h
        rwa [BitVec.toNat_ofNat, BitVec.toNat_ofNat, Nat.mod_eq_of_lt (by omega), Nat.mod_eq_of_lt (by omega)] at this)
      rw [bne_iff_ne.mpr this]

theorem sumT_apply (x : IVec S8192 32) (f : ℕ → ℕ) (hx : ∀ i : Fin 8192, x (ix1 i) = BitVec.ofNat 32 (f i.val)) (j : Fin 8192) :
    sumT x (ix1 j) = BitVec.ofNat 32 ((List.range (j.val + 1)).map f).sum :=
  cumsum1 (Nm1 := 8191) rfl x f hx _ (bc0 _ _ _) _ _ j

theorem sum'T_apply (x : IVec S8193 32) (f : ℕ → ℕ) (hx : ∀ i : Fin 8193, x (ix1 i) = BitVec.ofNat 32 (f i.val)) (j : Fin 8193) :
    sum'T x (ix1 j) = BitVec.ofNat 32 ((List.range (j.val + 1)).map f).sum :=
  cumsum1 (Nm1 := 8192) rfl x f hx _ (bc0 _ _ _) _ _ j

section
variable (b : IVec S8192 1) (hb : ∀ i : Fin 8192, b (ix1 i) = BitVec.ofBool (decide (New a i.val)))
include hb

theorem ext_apply (i : Fin 8192) : extui 32 b natLt_1_32 (ix1 i) = BitVec.ofNat 32 (if New a i.val then 1 else 0) := by
  show BitVec.setWidth 32 (b (ix1 i)) = _
  rw [hb, setWidth_ofBool]

theorem runT_apply (i : Fin 8192) : runT b (ix1 i) = BitVec.ofNat 32 (run a i.val) := by
  refine (sumT_apply _ (fun i => if New a i then 1 else 0) (ext_apply a b hb) i).trans ?_
  rw [sum_ite]
  rfl

theorem totalT_apply : totalT b ix0 = BitVec.ofNat 32 (runs a 8192) := by
  refine (reduce_sum _ (fun i => if New a i then 1 else 0) (ext_apply a b hb) _ _).trans ?_
  rw [sum_ite]
  rfl

end

section
variable (r : IVec S8192 32) (hr : ∀ i : Fin 8192, r (ix1 i) = BitVec.ofNat 32 (run a i.val))
include hr

theorem headT_apply (j : Fin 8192) : headT r (ix1 j) = BitVec.ofNat 32 (head a 8192 j.val) := by
  have hl : ∀ i : Fin 8192, run a i.val < 2 ^ 31 := fun i => by
    have := run_le a i.val; have := i.isLt; omega
  refine (sumT_apply _ (fun x => Nat.count (fun i => run a i = x) 8192) (fun x => ?_) j).trans ?_
  · exact scatter_hist _ rfl rfl rfl _ (fun i => bc0 _ _ _) _ _ (fun i => bc0 _ _ _) (run a) (fun i => wrapT_apply _ i _ (hl i) (hr i)) hl x
  · rw [sum_count]
    rfl

theorem lands_head (i : Fin 8192) (x : Fin 8193) :
    scatter_S8193_S8192x1_S8192_n_0_0_1.resultIdx? (ix1 i) (wrap'T r) = some (ix1 x) ↔ run a i.val = x.val := by
  refine (resultIdx?_ix1 _ _ _ _).trans ?_
  have hl : run a i.val < 2 ^ 31 := by
    have := run_le a i.val; have := i.isLt; omega
  have hs : scatter_S8193_S8192x1_S8192_n_0_0_1.start (ix1 i) (wrap'T r) 0 = (wrap'T r (ix2 i 0)).toInt := by
    unfold ScatterDims.start
    rw [dif_pos (show (0 : Fin S8193.rank) ∈ scatter_S8193_S8192x1_S8192_n_0_0_1.scatterDimsToOperandDims from List.mem_singleton.mpr rfl)]
    refine congrArg (fun j => (wrap'T r j).toInt) (funext fun a => Fin.ext ?_)
    match a with
    | ⟨0, _⟩ => rfl
    | ⟨1, _⟩ => rfl
  have hw : scatter_S8193_S8192x1_S8192_n_0_0_1.window (ix1 i) 0 = 0 := rfl
  rw [hs, hw, wrap'T_apply _ i _ hl (hr i), StableHlo.Predicate.toInt_ofNat_small _ hl]
  omega

theorem head'T_apply (j : Fin 8193) : head'T r (ix1 j) = BitVec.ofNat 32 (head a 8192 j.val) := by
  refine (sum'T_apply _ (fun x => Nat.count (fun i => run a i = x) 8192) (fun x => ?_) j).trans ?_
  · have hiff := fun i => lands_head a r hr i x
    unfold Host.scatter
    refine (foldl_count _ (ix1 x) (fun n => decide (run a n.val = x.val)) (fun r' n => ?_) _ _ 0 (bc0 _ _ _)).trans ?_
    · rw [show (S8192).rowMajor.symm n = ix1 (n.cast (numel1 8192)) from symm1 n]
      have hi := hiff (n.cast (numel1 8192))
      change _ ↔ run a n.val = x.val at hi
      generalize scatter_S8193_S8192x1_S8192_n_0_0_1.resultIdx? (ix1 (n.cast (numel1 8192))) (wrap'T r) = o at hi ⊢
      cases o with
      | none =>
        dsimp only
        rw [if_neg fun h => by have := hi.2 (of_decide_eq_true h); cases this]
      | some k =>
        dsimp only
        by_cases e : run a n.val = x.val
        · have hk : k = ix1 x := Option.some.inj (hi.2 e)
          rw [hk, if_pos rfl, if_pos (decide_eq_true e), bc0]
          rfl
        · rw [if_neg fun h : ix1 x = k => e (hi.1 (congrArg some h.symm)), if_neg fun h => e (of_decide_eq_true h)]
    · rw [Nat.zero_add, countP_finRange _ (fun i => run a i = x.val), numel1]
  · rw [sum_count]
    rfl

end

theorem head_le_8192 (j : ℕ) : head a 8192 j ≤ 8192 := head_le a j

section
variable (b : IVec S8192 1) (hb : ∀ i : Fin 8192, b (ix1 i) = BitVec.ofBool (decide (New a i.val)))
include hb

theorem runs_le : runs a 8192 ≤ 8192 := Nat.count_le _

theorem startT_apply (h : IVec S8192 32) (hh : ∀ i : Fin 8192, h (ix1 i) = BitVec.ofNat 32 (head a 8192 i.val)) (i : Fin 8192) :
    startT b h (ix1 i) = BitVec.ofNat 32 (if i.val < runs a 8192 then head a 8192 i.val else 0) := by
  have hi := i.isLt
  have hR : runs a 8192 ≤ 8192 := Nat.count_le _
  have hH := head_le_8192 a i.val
  have e : startT b h (ix1 i) = Scalar.select (IntOp.cmpi .sge (BitVec.ofNat 32 i.val) (totalT b ix0)) 0#32
      (pyRem bcast_S_S8192 (pyDiv bcast_S_S8192 h (id (constantI S_ 32 1#32))) (id (constantI S_ 32 8192#32)) (ix1 i)) := by
    unfold startT
    generalize totalT b = tt
    generalize pyRem bcast_S_S8192 (pyDiv bcast_S_S8192 h (id (constantI S_ 32 1#32))) (id (constantI S_ 32 8192#32)) = z
    pointwise
    rfl
  have hd : pyDiv bcast_S_S8192 h (id (constantI S_ 32 1#32)) (ix1 i) = BitVec.ofNat 32 (head a 8192 i.val / 1) :=
    pyDiv_ap _ h _ _ (hh i) rfl (by omega) (by omega) (by omega)
  rw [e, totalT_apply a b hb, pyRem_ap _ _ _ _ hd (b := 8192) rfl (by omega) (by omega) (by omega), Nat.div_one]
  show Scalar.select (BitVec.ofBool ((BitVec.ofNat 32 (runs a 8192)).sle (BitVec.ofNat 32 i.val))) _ _ = _
  rw [sle_ofNat32 (by omega) (by omega)]
  by_cases hc : i.val < runs a 8192
  · have := head_lt a (n := 8192) (by omega) hc
    rw [if_pos hc, decide_eq_false (by omega), Nat.mod_eq_of_lt this]
    rfl
  · rw [if_neg hc, decide_eq_true (by omega)]
    rfl

theorem start'T_apply (h : IVec S8193 32) (hh : ∀ i : Fin 8193, h (ix1 i) = BitVec.ofNat 32 (head a 8192 i.val)) (i : Fin 8193) :
    start'T b h (ix1 i) = BitVec.ofNat 32 (if i.val < runs a 8192 then head a 8192 i.val else 0) := by
  have hi := i.isLt
  have hR : runs a 8192 ≤ 8192 := Nat.count_le _
  have hH := head_le_8192 a i.val
  have e : start'T b h (ix1 i) = Scalar.select (IntOp.cmpi .sge (BitVec.ofNat 32 i.val) (totalT b ix0)) 0#32
      (pyRem bcast_S_S8193 (pyDiv bcast_S_S8193 h (id (constantI S_ 32 1#32))) (id (constantI S_ 32 8192#32)) (ix1 i)) := by
    unfold start'T
    generalize totalT b = tt
    generalize pyRem bcast_S_S8193 (pyDiv bcast_S_S8193 h (id (constantI S_ 32 1#32))) (id (constantI S_ 32 8192#32)) = z
    pointwise
    rfl
  have hd : pyDiv bcast_S_S8193 h (id (constantI S_ 32 1#32)) (ix1 i) = BitVec.ofNat 32 (head a 8192 i.val / 1) :=
    pyDiv_ap _ h _ _ (hh i) rfl (by omega) (by omega) (by omega)
  rw [e, totalT_apply a b hb, pyRem_ap _ _ _ _ hd (b := 8192) rfl (by omega) (by omega) (by omega), Nat.div_one]
  show Scalar.select (BitVec.ofBool ((BitVec.ofNat 32 (runs a 8192)).sle (BitVec.ofNat 32 i.val))) _ _ = _
  rw [sle_ofNat32 (by omega) (by omega)]
  by_cases hc : i.val < runs a 8192
  · have := head_lt a (n := 8192) (by omega) hc
    rw [if_pos hc, decide_eq_false (by omega), Nat.mod_eq_of_lt this]
    rfl
  · rw [if_neg hc, decide_eq_true (by omega)]
    rfl

end

theorem edgeT_apply (x : IVec S8193 32) (hx : ∀ i : Fin 8193, x (ix1 i) = BitVec.ofNat 32 (if i.val < runs a 8192 then head a 8192 i.val else 0)) (i : Fin 8193) :
    edgeT x (ix1 i) = BitVec.ofNat 32 (head a 8192 i.val) := by
  have hi := i.isLt
  unfold edgeT
  by_cases h0 : i.val = 0
  · rw [scatter_set_miss _ _ _ _ _ fun k hk => ?_]
    · rw [hx, h0, head_zero]
      split <;> rfl
    · obtain ⟨k, rfl⟩ : ∃ k' : Fin 8192, k = ix1 k' := ⟨k 0, eq_ix1 k⟩
      have := (lands_edge k i).mp hk
      omega
  · refine scatter_set_hit _ _ _ _ _ _ (fun k hk => ?_) (ix1 ⟨i.val - 1, by omega⟩) ((lands_edge _ i).mpr (by simp only; omega))
    obtain ⟨k, rfl⟩ : ∃ k' : Fin 8192, k = ix1 k' := ⟨k 0, eq_ix1 k⟩
    have hk := (lands_edge k i).mp hk
    have hs : extractStridedSlice S8192 ![1] x slices_S8193_S8192_1 (ix1 k) = BitVec.ofNat 32 (if i.val < runs a 8192 then head a 8192 i.val else 0) := by
      refine (slice1 1 x _ k (by omega)).trans ((hx _).trans ?_)
      simp only [hk]
    show Scalar.select (IntOp.cmpi .ne (extractStridedSlice S8192 ![1] x slices_S8193_S8192_1 (ix1 k)) 0#32) (extractStridedSlice S8192 ![1] x slices_S8193_S8192_1 (ix1 k)) 8192#32 = _
    rw [hs]
    by_cases hc : i.val < runs a 8192
    · have h1 := head_pos a (n := 8192) (by omega) (i.val - 1)
      rw [Nat.sub_add_cancel (by omega)] at h1
      have h2 := head_le_8192 a i.val
      have : BitVec.ofNat 32 (head a 8192 i.val) ≠ 0#32 := ofNat32_ne_zero (by omega) (by omega)
      rw [if_pos hc]
      show Scalar.select (BitVec.ofBool (BitVec.ofNat 32 (head a 8192 i.val) != 0#32)) _ _ = _
      rw [bne_iff_ne.mpr this]
      rfl
    · rw [if_neg hc, head_all a (n := 8192) (by omega)]
      rfl

theorem lenT_apply (x : IVec S8193 32) (hx : ∀ i : Fin 8193, x (ix1 i) = BitVec.ofNat 32 (head a 8192 i.val)) (i : Fin 8192) :
    lenT x (ix1 i) = BitVec.ofNat 32 (head a 8192 (i.val + 1) - head a 8192 i.val) := by
  have hi := i.isLt
  have h1 : extractStridedSlice S8192 ![1] x slices_S8193_S8192_1 (ix1 i) = BitVec.ofNat 32 (head a 8192 (i.val + 1)) :=
    (slice1 1 x _ i (by omega)).trans ((hx _).trans (by simp only [Nat.add_comm]))
  have h0 : extractStridedSlice S8192 ![0] x slices_S8193_S8192_0 (ix1 i) = BitVec.ofNat 32 (head a 8192 i.val) :=
    (slice1 0 x _ i (by omega)).trans ((hx _).trans (by simp only [Nat.zero_add]))
  show extractStridedSlice S8192 ![1] x slices_S8193_S8192_1 (ix1 i) - extractStridedSlice S8192 ![0] x slices_S8193_S8192_0 (ix1 i) = _
  rw [h1, h0]
  exact ofNat32_sub (head_mono a i.val)

/-! ## The distinct values and how often they occur -/

section
variable (x : IVec S8192 32) (g : Fin 8192 → Fin 8192) (hx : ∀ i, x (ix1 i) = BitVec.ofNat 32 (g i).val)
include hx

theorem arrT_apply (i : Fin 8192) : arrT x (ix1 i) = BitVec.ofNat 32 (arr g (sel fun i => OrderDual.toDual (g i)) i.val) := by
  unfold arrT
  rw [takeT_apply x (posT x) i _ (posT_apply x g hx i), hx, arr_val]

theorem arr_lt (σ : Fin 8192 → Fin 8192) (i : ℕ) (hi : i < 8192) : arr g σ i < 8192 := by
  have := arr_val g σ ⟨i, hi⟩
  simp only at this
  rw [this]
  exact (g _).isLt

theorem newT_arr (i : Fin 8192) : newT (arrT x) (ix1 i) = BitVec.ofBool (decide (New (arr g (sel fun i => OrderDual.toDual (g i))) i.val)) :=
  newT_apply _ _ (arrT_apply x g hx) (arr_lt x g hx _) i

omit hx in
theorem exists_fin (v : ℕ) (h : v < 8192) : ∃ c : Fin 8192, c.val = v := ⟨⟨v, h⟩, rfl⟩

theorem valsT_apply (i : Fin 8192) (hi : i.val < runs (arr g (sel fun i => OrderDual.toDual (g i))) 8192) :
    valsT x (ix1 i) = BitVec.ofNat 32 (arr g (sel fun i => OrderDual.toDual (g i)) (head (arr g (sel fun i => OrderDual.toDual (g i))) 8192 i.val)) := by
  have hs := startT_apply _ _ (newT_arr x g hx) _ (headT_apply _ _ (runT_apply _ _ (newT_arr x g hx))) i
  rw [if_pos hi] at hs
  have hl := head_lt (arr g (sel fun i => OrderDual.toDual (g i))) (n := 8192) (by norm_num) hi
  obtain ⟨c, hc⟩ : ∃ c : Fin 8192, c.val = head (arr g (sel fun i => OrderDual.toDual (g i))) 8192 i.val := exists_fin _ hl
  rw [← hc] at hs ⊢
  unfold valsT
  rw [takeT_apply _ _ i c hs, arrT_apply x g hx]

theorem countsT_apply (i : Fin 8192) :
    countsT x (ix1 i) = BitVec.ofNat 32 (head (arr g (sel fun i => OrderDual.toDual (g i))) 8192 (i.val + 1) - head (arr g (sel fun i => OrderDual.toDual (g i))) 8192 i.val) :=
  lenT_apply _ _ (edgeT_apply _ _ (start'T_apply _ _ (newT_arr x g hx) _ (head'T_apply _ _ (runT_apply _ _ (newT_arr x g hx))))) i

end

end Cert.Proof.Ref

end
-- ==== Proof.RefVal.lean ====
module

public import proofs.«01_k».proof.Proof.Spec
public import proofs.«01_k».proof.Proof.UniqVal
public import Idealize.ShloMosaic.Lib.Pipeline.Value

@[expose] public section

noncomputable section

namespace Cert.Proof.Ref

open Cert.ReferenceIdeal Cert.ReferenceIdeal.Gen
open Idealize.ShloMosaic
open Cert.Proof.Order Cert.Proof.Sc Cert.Proof.Spec

variable (q : FVec Ideal S1024x128 .f32) (k : FVec Ideal S8192x128 .f32) (p : FVec Ideal S8192x4x768 .f32)

/-! ## The reference's steps -/

def qnT  : FVec Ideal S1024x128 .f32 :=
  Host.divf q (broadcastInDim S1024x128 ![0, 1] bcast_S1024x1_S1024x128_0_1 (maximumf (Host.sqrt (broadcastInDim S1024x1 ![0] bcast_S1024_S1024x1_0 (Host.reduceAdd (mulf q q) (constant S_ .f32 0x00000000#32) reducesTo_S1024x128_S1024_d1 h_S_))) (broadcastInDim S1024x1 ![] bcast_S_S1024x1 (constant S_ .f32 0x2B8CBCCC#32))))
def knT  : FVec Ideal S8192x128 .f32 :=
  Host.divf k (broadcastInDim S8192x128 ![0, 1] bcast_S8192x1_S8192x128_0_1 (maximumf (Host.sqrt (broadcastInDim S8192x1 ![0] bcast_S8192_S8192x1_0 (Host.reduceAdd (mulf k k) (constant S_ .f32 0x00000000#32) reducesTo_S8192x128_S8192_d1 h_S_))) (broadcastInDim S8192x1 ![] bcast_S_S8192x1 (constant S_ .f32 0x2B8CBCCC#32))))
def simT  : FVec Ideal S1024x8192 .f32 :=
  Host.dotGeneral dot_S1024x128_S128x8192_S1024x8192_1_0_0_1_n_n none (qnT q) (transpose S128x8192 [1, 0] (knT k) transposes_S8192x128_S128x8192_1_0)
def indT (s : FVec Ideal S1024x8192 .f32) : IVec S1024x8 32 :=
  (Host.topK S1024x8 1 (FloatOps.cmpfTotal .gt) s sliceFits_S1024x8192_S1024x8).2
def fiT (x : IVec S8192 32) : IVec S8 32 :=
  (Host.topK S8 0 (IntOp.cmpi .sgt) x sliceFits_S8192_S8).2
def fbT (x : IVec S8 32) : IVec S1024x8 32 :=
  broadcastInDim S1024x8 ![0, 1] bcast_S1x8_S1024x8_0_1 (broadcastInDim S1x8 ![1] bcast_S8_S1x8_1 x)
def ixT (x : IVec S1024x8 32) : IVec S1024x8 32 :=
  select (cmpi .slt x (broadcastInDim S1024x8 ![] bcast_S_S1024x8 (constantI S_ 32 0#32))) (addi x (broadcastInDim S1024x8 ![] bcast_S_S1024x8 (constantI S_ 32 8192#32))) x
def i3T (x : IVec S1024x8 32) : IVec S1024x8x1 32 :=
  broadcastInDim S1024x8x1 ![0, 1] bcast_S1024x8_S1024x8x1_0_1 x
def mkT (x : IVec S1024x8x1 32) : IVec S1024x8 1 :=
  Host.reduce IntOp.andi (andi (cmpi .sge x (broadcastInDim S1024x8x1 ![] bcast_S_S1024x8x1 (constantI S_ 32 0#32))) (cmpi .sle x (broadcastInDim S1024x8x1 ![0, 1, 2] bcast_S1x1x1_S1024x8x1_0_1_2 (broadcastInDim S1x1x1 ![2] bcast_S1_S1x1x1_2 (constantI S1 32 8191#32))))) (constantI S_ 1 1#1) reducesTo_S1024x8x1_S1024x8_d2 h_S_
def outT (x : IVec S1024x8x1 32) : FVec Ideal S1024x32x768 .f32 :=
  shapeCast S1024x32x768 (select (broadcastInDim S1024x8x4x768 ![0, 1] bcast_S1024x8_S1024x8x4x768_0_1 (mkT x)) (Host.gather gather_S8192x4x768_S1024x8x1_S1024x8x4x768_23_0_n_n_0_2_14768 p x) (broadcastInDim S1024x8x4x768 ![] bcast_S_S1024x8x4x768 (constant S_ .f32 0x7FC00000#32))) shapeCasts_S1024x8x4x768_S1024x32x768
def lossT (x : IVec S1024x8x1 32) : FVec Ideal S_ .f32 :=
  Host.divf (Host.reduceAdd (mulf (select (broadcastInDim S1024x8x128 ![0, 1] bcast_S1024x8_S1024x8x128_0_1 (mkT x)) (Host.gather gather_S8192x128_S1024x8x1_S1024x8x128_2_0_n_n_0_2_1128 (knT k) x) (broadcastInDim S1024x8x128 ![] bcast_S_S1024x8x128 (constant S_ .f32 0x7FC00000#32))) (broadcastInDim S1024x8x128 ![0, 1, 2] bcast_S1024x1x128_S1024x8x128_0_1_2 (broadcastInDim S1024x1x128 ![0, 2] bcast_S1024x128_S1024x1x128_0_2 (qnT q)))) (constant S_ .f32 0x00000000#32) reducesTo_S1024x8x128_S_d0_1_2 h_S_) (constant S_ .f32 0x44800000#32)

/-- The row index the reference gathers at. -/
def idxT (x : IVec S8192 32) : IVec S1024x8x1 32 := i3T (ixT (fbT (take8T (valsT x) (fiT (countsT x)))))
def gixT : IVec S1024x8x1 32 := idxT (flatT (indT (simT q k)))

variable (m : (ℓ : Loc nD τ sig) → Buf (Elt Ideal) ℓ) (c : Dev nD)

abbrev qR : FVec Ideal S1024x128 .f32 := m ((c.tc : Thread nD τ).loc main_arg0)
abbrev kR : FVec Ideal S8192x128 .f32 := m ((c.tc : Thread nD τ).loc main_arg1)
abbrev pR : FVec Ideal S8192x4x768 .f32 := m ((c.tc : Thread nD τ).loc main_arg2)

/-! The same steps as they are named in the printed run. -/

open Value in
section
variable (V : Valuation τ sig (Elt Ideal))

theorem flat_eq : res_main_v12 V = flatT (indT (simT (V (Proc.devRef .tc main_arg0)) (V (Proc.devRef .tc main_arg1)))) := rfl
theorem pos_eq : res_main_v13_2 V = posT (res_main_v12 V) := rfl
theorem arr_eq : res_main_v13_0 V = arrT (res_main_v12 V) := rfl
theorem new_eq : res_main_v13_1 V = newT (res_main_v13_0 V) := rfl
theorem run_eq : res_main_v14 V = runT (res_main_v13_1 V) := rfl
theorem head_eq : res_main_v24 V = headT (res_main_v14 V) := rfl
theorem start_eq : res_main_v33 V = startT (res_main_v13_1 V) (res_main_v24 V) := rfl
theorem run'_eq : res_main_v41 V = runT (res_main_v13_1 V) := rfl
theorem head'_eq : res_main_v51 V = head'T (res_main_v41 V) := rfl
theorem start'_eq : res_main_v60 V = start'T (res_main_v13_1 V) (res_main_v51 V) := rfl
theorem edge_eq : res_main_v65 V = edgeT (res_main_v60 V) := rfl
theorem len_eq : res_main_v66 V = lenT (res_main_v65 V) := rfl
theorem fi_eq : res_main_indices_21 V = fiT (res_main_v66 V) := rfl
theorem fb_eq : res_main_v75 V = fbT (take8T (takeT (res_main_v13_0 V) (res_main_v33 V)) (res_main_indices_21 V)) := rfl
theorem ix_eq : res_main_call15_v5 V = i3T (ixT (res_main_v75 V)) := rfl

theorem gix_eq : res_main_call15_v5 V = gixT (V (Proc.devRef .tc main_arg0)) (V (Proc.devRef .tc main_arg1)) := by
  rw [ix_eq, fb_eq, fi_eq, len_eq, edge_eq, start'_eq, head'_eq, run'_eq, start_eq, head_eq, run_eq, new_eq, arr_eq, flat_eq]
  rfl

end

theorem res_out_eq : outT (pR m c) (Value.res_main_call15_v5 (StableHlo.launchContents m c)) = outT (pR m c) (gixT (qR m c) (kR m c)) :=
  congrArg (outT (pR m c)) (gix_eq _)
theorem res_loss_eq : lossT (qR m c) (kR m c) (Value.res_main_call16_v5 (StableHlo.launchContents m c)) = lossT (qR m c) (kR m c) (gixT (qR m c) (kR m c)) :=
  congrArg (lossT (qR m c) (kR m c)) (gix_eq _)

theorem qnT_apply (n : Fin 1024) (d : Fin 128) : qnT q (ix2 n d) = qn q n d := by
  pointwise [qnT]
  rfl
theorem knT_apply (n : Fin 8192) (d : Fin 128) : knT k (ix2 n d) = kn k n d := by
  pointwise [knT]
  rfl
theorem simT_apply (n : Fin 1024) (d : Fin 8192) : simT q k (ix2 n d) = sim q k n d := by
  pointwise [simT]
  simp only [qnT_apply, knT_apply]
  rfl

/-- A top-k's positions: those of the sorted row. -/
theorem topK_at {α : Type} {s : Shape} (t : Shape) (d : ℕ) (hd : d < s.rank) (gt : α → α → BitVec 1) (x : s.Idx → α) (h : s.Slices (fun _ => 0) t)
    (j : t.Idx) (k : s.Idx) (hk : ∀ a : Fin s.rank, (k a).val = 0 + (j (a.cast h.1.symm)).val) :
    (Host.topK t d gt x h).2 j
      = BitVec.ofNat 32 (sortedFrom (fun u v => gt (x (k.along ⟨d, hd⟩ u)) (x (k.along ⟨d, hd⟩ v)) == 1#1) (k ⟨d, hd⟩)).val := by
  unfold Host.topK
  dsimp only
  rw [extractStridedSlice_apply _ _ h j k hk]
  unfold Host.sort2
  rw [dif_pos hd]
  dsimp only
  rw [dif_pos hd]
  unfold iotaInDim Shape.Idx.along
  rw [Function.update_self]

/-- The greatest entries' positions along a row. -/
theorem indT_apply (s : FVec Ideal S1024x8192 .f32) (n : Fin 1024) (j : Fin 8) :
    indT s (ix2 n j) = BitVec.ofNat 32 (sel (fun c => s (ix2 n c)) ⟨j.val, by omega⟩).val := by
  have hd : 1 < S1024x8192.rank := by decide
  refine (topK_at (s := S1024x8192) S1024x8 1 hd _ s sliceFits_S1024x8192_S1024x8 (ix2 n j) (ix2 n ⟨j.val, by omega⟩) (fun a => ?_)).trans ?_
  · match a with
    | ⟨0, _⟩ => exact (Nat.zero_add _).symm
    | ⟨1, _⟩ => exact (Nat.zero_add _).symm
  · have hu : ∀ u : Fin 8192, Shape.Idx.along (s := S1024x8192) (ix2 n ⟨j.val, by omega⟩) ⟨1, hd⟩ u = ix2 n u := fun u => by
      funext a
      match a with
      | ⟨0, _⟩ => rfl
      | ⟨1, _⟩ => rfl
    have hb : ∀ u v : Fin 8192, (FloatOps.cmpfTotal (F := Ideal) (φ := .f32) .gt (s (Shape.Idx.along (s := S1024x8192) (ix2 n ⟨j.val, by omega⟩) ⟨1, hd⟩ u)) (s (Shape.Idx.along (s := S1024x8192) (ix2 n ⟨j.val, by omega⟩) ⟨1, hd⟩ v)) == 1#1)
        = decide (s (ix2 n v) < s (ix2 n u)) := fun u v => by
      rw [hu, hu]
      show (BitVec.ofBool (decide (s (ix2 n v) < s (ix2 n u))) == 1#1) = _
      cases decide (s (ix2 n v) < s (ix2 n u)) <;> rfl
    exact congrArg (fun R : Fin 8192 → Fin 8192 → Bool => BitVec.ofNat 32 (sortedFrom R ⟨j.val, by omega⟩).val) (funext fun u => funext fun v => hb u v)

theorem fiT_apply (x : IVec S8192 32) (j : Fin 8) :
    fiT x (ix1 j) = BitVec.ofNat 32 (sel (fun c => (x (ix1 c)).toInt) ⟨j.val, by omega⟩).val := by
  have hd : 0 < S8192.rank := by decide
  refine (topK_at (s := S8192) S8 0 hd _ x sliceFits_S8192_S8 (ix1 j) (ix1 ⟨j.val, by omega⟩) (fun a => ?_)).trans ?_
  · match a with
    | ⟨0, _⟩ => exact (Nat.zero_add _).symm
  · have hu : ∀ u : Fin 8192, Shape.Idx.along (s := S8192) (ix1 ⟨j.val, by omega⟩) ⟨0, hd⟩ u = ix1 u := fun u => by
      funext a
      match a with
      | ⟨0, _⟩ => rfl
    have hb : ∀ u v : Fin 8192, (IntOp.cmpi .sgt (x (Shape.Idx.along (s := S8192) (ix1 ⟨j.val, by omega⟩) ⟨0, hd⟩ u)) (x (Shape.Idx.along (s := S8192) (ix1 ⟨j.val, by omega⟩) ⟨0, hd⟩ v)) == 1#1)
        = decide ((x (ix1 v)).toInt < (x (ix1 u)).toInt) := fun u v => by
      rw [hu, hu]
      show (BitVec.ofBool (decide ((x (ix1 v)).toInt < (x (ix1 u)).toInt)) == 1#1) = _
      cases decide ((x (ix1 v)).toInt < (x (ix1 u)).toInt) <;> rfl
    exact congrArg (fun R : Fin 8192 → Fin 8192 → Bool => BitVec.ofNat 32 (sortedFrom R ⟨j.val, by omega⟩).val) (funext fun u => funext fun v => hb u v)

theorem gather3_apply (x : IVec S1024x8x1 32) (n : Fin 1024) (t : Fin 8) (r : Fin 4) (e : Fin 768) (b : Fin 8192) (hb : x (ix3 n t 0) = BitVec.ofNat 32 b.val) :
    Host.gather gather_S8192x4x768_S1024x8x1_S1024x8x4x768_23_0_n_n_0_2_14768 p x (ix4 n t r e) = p (ix3 b r e) := by
  refine congrArg p (funext fun a => Fin.ext ?_)
  match a with
  | ⟨0, _⟩ =>
    have hs : GatherDims.start gather_S8192x4x768_S1024x8x1_S1024x8x4x768_23_0_n_n_0_2_14768 (ix4 n t r e) x 0 = min (x (ix3 n t 0)).toInt.toNat (8192 - 1) := by
      unfold GatherDims.start
      rw [dif_pos (show (0 : Fin S8192x4x768.rank) ∈ gather_S8192x4x768_S1024x8x1_S1024x8x4x768_23_0_n_n_0_2_14768.startIndexMap from List.mem_singleton.mpr rfl)]
      refine congrArg (fun i => min (x i).toInt.toNat (8192 - 1)) (funext fun a => Fin.ext ?_)
      match a with
      | ⟨0, _⟩ => rfl
      | ⟨1, _⟩ => rfl
      | ⟨2, _⟩ => rfl
    show GatherDims.start gather_S8192x4x768_S1024x8x1_S1024x8x4x768_23_0_n_n_0_2_14768 (ix4 n t r e) x 0 + 0 + 0 = b.val
    rw [hs, hb, toInt_ofNat_small _ b.isLt.le]
    have := b.isLt
    omega
  | ⟨1, _⟩ => exact (show 0 + 0 + r.val = r.val by omega)
  | ⟨2, _⟩ => exact (show 0 + 0 + e.val = e.val by omega)

theorem gather2_apply (y : FVec Ideal S8192x128 .f32) (x : IVec S1024x8x1 32) (n : Fin 1024) (t : Fin 8) (r : Fin 128) (b : Fin 8192) (hb : x (ix3 n t 0) = BitVec.ofNat 32 b.val) :
    Host.gather gather_S8192x128_S1024x8x1_S1024x8x128_2_0_n_n_0_2_1128 y x (ix3 n t r) = y (ix2 b r) := by
  refine congrArg y (funext fun a => Fin.ext ?_)
  match a with
  | ⟨0, _⟩ =>
    have hs : GatherDims.start gather_S8192x128_S1024x8x1_S1024x8x128_2_0_n_n_0_2_1128 (ix3 n t r) x 0 = min (x (ix3 n t 0)).toInt.toNat (8192 - 1) := by
      unfold GatherDims.start
      rw [dif_pos (show (0 : Fin S8192x128.rank) ∈ gather_S8192x128_S1024x8x1_S1024x8x128_2_0_n_n_0_2_1128.startIndexMap from List.mem_singleton.mpr rfl)]
      refine congrArg (fun i => min (x i).toInt.toNat (8192 - 1)) (funext fun a => Fin.ext ?_)
      match a with
      | ⟨0, _⟩ => rfl
      | ⟨1, _⟩ => rfl
      | ⟨2, _⟩ => rfl
    show GatherDims.start gather_S8192x128_S1024x8x1_S1024x8x128_2_0_n_n_0_2_1128 (ix3 n t r) x 0 + 0 + 0 = b.val
    rw [hs, hb, toInt_ofNat_small _ b.isLt.le]
    have := b.isLt
    omega
  | ⟨1, _⟩ => exact (show 0 + 0 + r.val = r.val by omega)

theorem fbT_apply (x : IVec S8 32) (n : Fin 1024) (d : Fin 8) : fbT x (ix2 n d) = x (ix1 d) := by
  pointwise [fbT]

theorem ixT_apply (x : IVec S1024x8 32) (n : Fin 1024) (d : Fin 8) (b : Fin 8192) (hb : x (ix2 n d) = BitVec.ofNat 32 b.val) : ixT x (ix2 n d) = BitVec.ofNat 32 b.val := by
  have h : ixT x (ix2 n d) = Scalar.select (IntOp.cmpi CmpIPredicate.slt (x (ix2 n d)) 0#32) (IntOp.addi (x (ix2 n d)) 8192#32) (x (ix2 n d)) := by
    pointwise [ixT]
  rw [h, hb]
  have : (BitVec.ofNat 32 b.val).slt 0#32 = false := by
    have := toInt_ofNat_small b.val b.isLt.le
    simp [BitVec.slt, this]
  simp [IntOp.cmpi, this, Scalar.select]

theorem i3T_apply (x : IVec S1024x8 32) (n : Fin 1024) (d : Fin 8) : i3T x (ix3 n d 0) = x (ix2 n d) := by
  pointwise [i3T]

theorem mkT_apply (x : IVec S1024x8x1 32) (n : Fin 1024) (d : Fin 8) (b : Fin 8192) (hb : x (ix3 n d 0) = BitVec.ofNat 32 b.val) : mkT x (ix2 n d) = 1#1 := by
  have h : mkT x (ix2 n d) = Finset.fold IntOp.andi (1#1) (fun y : Fin 1 => IntOp.andi (IntOp.cmpi CmpIPredicate.sge (x (ix3 n d y)) 0#32) (IntOp.cmpi CmpIPredicate.sle (x (ix3 n d y)) 8191#32)) Finset.univ := by
    pointwise [mkT]
  rw [h, show (Finset.univ : Finset (Fin 1)) = {0} from rfl, Finset.fold_singleton, hb]
  have hi := toInt_ofNat_small b.val b.isLt.le
  have h1 : (0#32).sle (BitVec.ofNat 32 b.val) = true := by simp [BitVec.sle, hi]
  have h2 : (BitVec.ofNat 32 b.val).sle 8191#32 = true := by
    have : (8191#32 : BitVec 32).toInt = 8191 := by decide
    simp [BitVec.sle, hi, this]
    omega
  simp [IntOp.cmpi, IntOp.andi, h1, h2]

/-- At least eight keys are picked: one query's eight. -/
theorem eight_le : 8 ≤ (Finset.univ.filter fun p => 0 < cnt q k p).card := by
  have hsub : (Finset.univ.image fun j : Fin 8 => ind q k 0 j) ⊆ Finset.univ.filter fun p => 0 < cnt q k p := fun p hp => by
    obtain ⟨j, -, rfl⟩ := Finset.mem_image.mp hp
    have hj := j.isLt
    refine Finset.mem_filter.mpr ⟨Finset.mem_univ _, Finset.card_pos.mpr ⟨⟨j.val, by omega⟩, Finset.mem_filter.mpr ⟨Finset.mem_univ _, ?_⟩⟩⟩
    unfold indF
    refine congrArg₂ (ind q k) (Fin.ext ?_) (Fin.ext ?_)
    · show j.val / 8 = 0
      omega
    · show j.val % 8 = j.val
      omega
  have := Finset.card_le_card hsub
  rw [Finset.card_image_of_injective _ fun i j h => ?_, Finset.card_univ, Fintype.card_fin] at this
  · exact this
  · have := congrArg Fin.val (sel_injective _ h)
    exact Fin.ext this

/-- The places of the greatest counts, looked up in the list of distinct values. -/
theorem pick_apply (x : IVec S8192 32) (hx : ∀ i : Fin 8192, x (ix1 i) = BitVec.ofNat 32 (indF q k i).val) (t : Fin 8) :
    take8T (valsT x) (fiT (countsT x)) (ix1 t) = BitVec.ofNat 32 (fi q k t).val := by
  have ht := t.isLt
  have h8 := eight_le q k
  obtain ⟨h1, h2⟩ := Uniq.pick (indF q k) (sel fun i => OrderDual.toDual (indF q k i)) ⟨sel_injective _, sel_surjective _⟩ (sel_dual_mono (indF q k)) (cnt q k)
    (fun _ => by unfold cnt; congr) ⟨t.val, by omega⟩ (by refine lt_of_lt_of_le ht (h8.trans (le_of_eq ?_)); congr)
  have hc : ∀ d : Fin 8192, (countsT x (ix1 d)).toInt = ((Uniq.head (Uniq.arr (indF q k) (sel fun i => OrderDual.toDual (indF q k i))) 8192 (d.val + 1) - Uniq.head (Uniq.arr (indF q k) (sel fun i => OrderDual.toDual (indF q k i))) 8192 d.val : ℕ) : ℤ) := fun d => by
    rw [countsT_apply x _ hx d]
    exact toInt_ofNat_small _ ((Nat.sub_le _ _).trans (Uniq.head_le _ _))
  have hs : sel (fun c => (countsT x (ix1 c)).toInt) = sel fun j : Fin 8192 => Uniq.head (Uniq.arr (indF q k) (sel fun i => OrderDual.toDual (indF q k i))) 8192 (j.val + 1) - Uniq.head (Uniq.arr (indF q k) (sel fun i => OrderDual.toDual (indF q k i))) 8192 j.val :=
    sel_congr _ _ fun a b h => by
      unfold Bef at h ⊢
      beta_reduce at h
      rw [hc, hc] at h
      simpa only [Nat.cast_lt, Nat.cast_inj] using h
  have hf := fiT_apply (countsT x) t
  rw [hs] at hf
  rw [take8T_apply _ _ t _ hf, valsT_apply x _ hx _ h1, h2]
  rfl

/-- The reference gathers at the keys picked most often. -/
theorem gixT_apply (n : Fin 1024) (t : Fin 8) : gixT q k (ix3 n t 0) = BitVec.ofNat 32 (fi q k t).val := by
  unfold gixT idxT
  rw [i3T_apply]
  refine ixT_apply _ n t _ ?_
  rw [fbT_apply]
  have hs : simT q k = fun j => sim q k (j 0) (j 1) := funext fun j => by
    obtain ⟨a, b, rfl⟩ : ∃ (a : Fin 1024) (b : Fin 8192), j = ix2 a b := ⟨j 0, j 1, eq_ix2 j⟩
    exact simT_apply q k a b
  refine pick_apply q k _ (fun i => ?_) t
  rw [flatT_apply, indT_apply, hs]
  rfl

theorem out_apply (n : Fin 1024) (y : Fin 32) (z : Fin 768) :
    outT p (gixT q k) (ix3 n y z) = p (ix3 (fi q k ⟨y.val / 4, by omega⟩) ⟨y.val % 4, by omega⟩ z) := by
  have h : outT p (gixT q k) (ix3 n y z) = Scalar.select (mkT (gixT q k) (ix2 n ⟨y.val / 4, by omega⟩))
      (Host.gather gather_S8192x4x768_S1024x8x1_S1024x8x4x768_23_0_n_n_0_2_14768 p (gixT q k) (ix4 n ⟨y.val / 4, by omega⟩ ⟨y.val % 4, by omega⟩ z)) (Ideal.ofBits .f32 0x7FC00000#32) := by
    generalize gixT q k = x
    pointwise [outT]
  rw [h, mkT_apply _ _ _ _ (gixT_apply q k n _), gather3_apply p _ _ _ _ _ _ (gixT_apply q k n _)]
  rfl

theorem loss_apply (i : S_.Idx) :
    lossT q k (gixT q k) i = Ideal.div (tot q k) (Ideal.ofBits .f32 0x44800000#32) := by
  obtain rfl : i = ix0 := funext fun a => a.elim0
  have h : lossT q k (gixT q k) ix0 = Ideal.div (∑ n : Fin 1024, ∑ t : Fin 8, ∑ d : Fin 128,
      Scalar.select (mkT (gixT q k) (ix2 n t)) (Host.gather gather_S8192x128_S1024x8x1_S1024x8x128_2_0_n_n_0_2_1128 (knT k) (gixT q k) (ix3 n t d)) (Ideal.ofBits .f32 0x7FC00000#32) * qnT q (ix2 n d)) (Ideal.ofBits .f32 0x44800000#32) := by
    generalize gixT q k = x
    pointwise [lossT]
  have e : ∀ (n : Fin 1024) (t : Fin 8) (d : Fin 128),
      Scalar.select (mkT (gixT q k) (ix2 n t)) (Host.gather gather_S8192x128_S1024x8x1_S1024x8x128_2_0_n_n_0_2_1128 (knT k) (gixT q k) (ix3 n t d)) (Ideal.ofBits .f32 0x7FC00000#32) * qnT q (ix2 n d)
        = kn k (fi q k t) d * qn q n d := fun n t d => by
    rw [mkT_apply _ _ _ _ (gixT_apply q k n t), gather2_apply _ _ _ _ _ _ (gixT_apply q k n t), knT_apply, qnT_apply]
    rfl
  rw [h]
  simp only [e]
  unfold tot
  rfl

end Cert.Proof.Ref

end
-- ==== Proof.Alone.Setup.lean ====
/-
  The program as the SparseCore launch theorem sees it, the resource algebra (the handshakes' rounds, the
  transfers' counters) and the arrays' locations.
-/
module

public import proofs.«01_k».proof.Defs
public import proofs.«01_k».proof.Proof.Hist
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.ScHistIdeal
public import proofs.«01_k».proof.Proof.Gen.ScHistIdeal.Skeleton

@[expose] public section

noncomputable section

namespace Cert.Proof.Alone

open Cert.ScHistIdeal Cert.ScHistIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
/-! ## The arrays' locations -/

abbrev iLoc (d : Dev nD) : Loc nD τ sig := (SparseCore.T d).loc main_arg0
abbrev hLoc (d : Dev nD) : Loc nD τ sig := (SparseCore.T d).loc main_v0

end Cert.Proof.Alone

end
-- ==== Proof.Alone.Sc.lean ====
/-
  The SparseCore call: 32 vector subcores, each fetching its 256 picked indices, zeroing its 8192 counters, adding one
  per index by two masked scatter-adds per sixteen, and writing its row of the histogram. What the handshakes carry is
  one chunk of the index list and one row of the histogram per task, the row coming back as the counts of the chunk.
-/
module

public import proofs.«01_k».proof.Proof.Alone.Setup

@[expose] public section

noncomputable section

namespace Cert.Proof.Alone

open Cert.ScHistIdeal Cert.ScHistIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Hist (word part histV)

variable {F : FTy → Type}

local notation "𝕄" => MT nD τ sig (HIx 1) (Elt F) ℕ UU ℕ

local notation "iV" => (Memref.whole Cert.ScHistIdeal.main_arg0_scv : Memref Cert.ScHistIdeal.sig Kind.scVector Space.hbm Cert.ScHistIdeal.S8192 EltTy.i32)
local notation "hV" => (Memref.whole Cert.ScHistIdeal.main_v0_scv : Memref Cert.ScHistIdeal.sig Kind.scVector Space.hbm Cert.ScHistIdeal.S32x8192 EltTy.i32)
local notation "sI" => (Memref.whole Cert.ScHistIdeal.cc0_scratch0 : Memref Cert.ScHistIdeal.sig Kind.scVector Space.vmem Cert.ScHistIdeal.S256 EltTy.i32)
local notation "sC" => (Memref.whole Cert.ScHistIdeal.cc0_scratch1 : Memref Cert.ScHistIdeal.sig Kind.scVector Space.vmem Cert.ScHistIdeal.S8192 EltTy.i32)

theorem hdivI : 32 ∣ S8192.size 0 := ⟨256, rfl⟩
theorem hdivH : 32 ∣ S32x8192.size 0 := ⟨1, rfl⟩
/-- Chunk `w` of the index list and row `w` of the histogram: one task's. -/
abbrev chunk (w : Fin 32) : Rect S8192 := Rect.part (s := S8192) (a₀ := 0) hdivI w
abbrev chunkSet (w : Fin 32) : Finset S8192.Idx := ((iV).view.slice (chunk w)).set
abbrev row (w : Fin 32) : Rect S32x8192 := Rect.part (s := S32x8192) (a₀ := 0) hdivH w
abbrev rowSet (w : Fin 32) : Finset S32x8192.Idx := ((hV).view.slice (row w)).set

theorem nCore_zero : (K (F := F)).nCore 0 = 2 := rfl
theorem nSub_zero : (K (F := F)).nSub 0 = 16 := rfl

/-- The worker number of subcore `i` of SparseCore `c`. -/
abbrev wid (c : Fin 2) (i : Fin 16) : Fin 32 := ⟨2 * i.val + c.val, by omega⟩

variable [FloatOps F]

/-! ## What the handshakes carry -/

variable (iv : Dev nD → S8192.Idx → BitVec 32)

abbrev iPts (d : Dev nD) (w : Fin 32) : sProp 𝕄 := iLoc d ↦[chunkSet w]{fullShare} (show Buf (Elt F) (iLoc d) from iv d)
abbrev hPts (d : Dev nD) (w : Fin 32) (f : Buf (Elt F) (hLoc d)) : sProp 𝕄 := hLoc d ↦[rowSet w]{fullShare} f
abbrev hVal (d : Dev nD) : Buf (Elt F) (hLoc d) := show S32x8192.Idx → BitVec 32 from histV (iv d)

abbrev goOf (d : Dev nD) (w : Fin 32) : sProp 𝕄 := iprop(iPts iv d w ∗ ∃ f, hPts d w f)
abbrev tdOf (d : Dev nD) (w : Fin 32) : sProp 𝕄 := iprop(iPts iv d w ∗ hPts d w (hVal iv d))

def P : (K (F := F)).Pay (nD := nD) (Val := Elt F) (Name := ℕ) (U := UU) where
  st := fun q d c => match q with | 0 => bigSep Finset.univ fun i : Fin 16 => goOf iv d (wid (Fin.cast nCore_zero c) i)
  dn := fun q d c => match q with | 0 => bigSep Finset.univ fun i : Fin 16 => tdOf iv d (wid (Fin.cast nCore_zero c) i)
  go := fun q d c i => match q with | 0 => goOf iv d (wid (Fin.cast nCore_zero c) (Fin.cast nSub_zero i))
  td := fun q d c i => match q with | 0 => tdOf iv d (wid (Fin.cast nCore_zero c) (Fin.cast nSub_zero i))
  x := fun _ _ => iprop(emp)

instance P_storable : (P (F := F) iv).IsStorable where
  st q d c := match q with
    | 0 => (inferInstance : BI.Storable (upEmb : UEmb _ 𝕄) (bigSep Finset.univ fun i : Fin 16 => goOf iv d (wid (Fin.cast nCore_zero c) i)))
  dn q d c := match q with
    | 0 => (inferInstance : BI.Storable (upEmb : UEmb _ 𝕄) (bigSep Finset.univ fun i : Fin 16 => tdOf iv d (wid (Fin.cast nCore_zero c) i)))
  go q d c i := match q with
    | 0 => (inferInstance : BI.Storable (upEmb : UEmb _ 𝕄) (goOf iv d (wid (Fin.cast nCore_zero c) (Fin.cast nSub_zero i))))
  td q d c i := match q with
    | 0 => (inferInstance : BI.Storable (upEmb : UEmb _ 𝕄) (tdOf iv d (wid (Fin.cast nCore_zero c) (Fin.cast nSub_zero i))))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev wL (L : grid0.Coords) : Fin 32 := wid (Fin.cast bound_zero (L 0)) (Fin.cast bound_one (L 1))

abbrev chunkK (L : grid0.Coords) : Rect S8192 := Rect.unit (s := S8192) (k0_off1 L) S256.size (k0_off1_inb L)
abbrev iK (L : grid0.Coords) : Memref sig .scVector .hbm S256 .i32 := (iV).slice (chunkK L) (fun _ => rfl)
abbrev rowK (L : grid0.Coords) : Rect S32x8192 := Rect.unit (s := S32x8192) (k0_off4 L) S1x8192.size (k0_off4_inb L)
abbrev hK (L : grid0.Coords) : Memref sig .scVector .hbm S8192 .i32 := ((hV).slice (rowK L) (fun _ => rfl)).squeeze S8192 squeezes_S1x8192_S8192

omit [FloatOps F] in
theorem chunkK_eq : chunkK L = chunk (wL L) := by
  obtain ⟨w, hw, hv⟩ : ∃ w, wL L = w ∧ w.val = 2 * (L 1).val + (L 0).val := ⟨_, rfl, rfl⟩
  rw [hw]
  unfold chunkK chunk Rect.part Rect.block
  congr 1 <;> funext a
  · rw [k0_off1_eq]
    match a with
    | 0 => simp [Shape.partIx, Shape.partSize, hv]; omega
  · match a with
    | 0 => simp [Shape.partSize]
omit [FloatOps F] in
theorem rowK_eq : rowK L = row (wL L) := by
  obtain ⟨w, hw, hv⟩ : ∃ w, wL L = w ∧ w.val = 2 * (L 1).val + (L 0).val := ⟨_, rfl, rfl⟩
  rw [hw]
  unfold rowK row Rect.part Rect.block
  congr 1 <;> funext a
  · rw [k0_off4_eq]
    match a with
    | 0 => simp [Shape.partIx, Shape.partSize, hv]
    | 1 => simp [Shape.partIx, Shape.partSize]
  · match a with
    | 0 => simp [Shape.partSize]
    | 1 => simp [Shape.partSize]

omit [FloatOps F] in
theorem set_iK : (iK L).view.set = chunkSet (wL L) := by
  show ((iV).view.slice (chunkK L)).set = ((iV).view.slice (chunk (wL L))).set
  exact chunkK_eq L ▸ rfl
omit [FloatOps F] in
theorem set_hK : (hK L).view.set = rowSet (wL L) := by
  show (((hV).view.slice (rowK L)).reshape S8192 squeezes_S1x8192_S8192.numel_eq).set = ((hV).view.slice (row (wL L))).set
  rw [View.set_reshape]
  exact rowK_eq L ▸ rfl

omit [FloatOps F] in
theorem pts_iK (f : Buf (Elt F) (iLoc d)) :
    ((iK L).view.loc (V d (cV L) (jV L)) ↦[(iK L).view.set]{fullShare} f : sProp 𝕄) = iLoc d ↦[chunkSet (wL L)]{fullShare} f := by
  rw [set_iK]
omit [FloatOps F] in
theorem pts_hK (f : Buf (Elt F) (hLoc d)) :
    ((hK L).view.loc (V d (cV L) (jV L)) ↦[(hK L).view.set]{fullShare} f : sProp 𝕄) = hLoc d ↦[rowSet (wL L)]{fullShare} f := by
  rw [set_hK]
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sC (f : Buf (Elt F) ((V d (cV L) (jV L)).loc cc0_scratch1)) :
    ((sC).view.loc (V d (cV L) (jV L)) ↦{fullShare} f : sProp 𝕄) = (V d (cV L) (jV L)).loc cc0_scratch1 ↦{fullShare} f := rfl
omit [FloatOps F] in
theorem pts_sC_whole (f : Buf (Elt F) ((V d (cV L) (jV L)).loc cc0_scratch1)) :
    (((sC).access (.whole S8192)).loc (V d (cV L) (jV L)) ↦[((sC).access (.whole S8192)).set]{fullShare} f : sProp 𝕄)
      = (sC).view.loc (V d (cV L) (jV L)) ↦{fullShare} f := by
  rw [show ((sC).access (.whole S8192)).set = Finset.univ from Memref.set_access_whole (cc0_scratch1 : Ref sig .scVector)]

/-- The two scoped DMA cells the body names: the fetch's and the write-out's. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

omit [FloatOps F] in
/-- The subcore's own buffers are the two scratches, each at some contents, together with the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The zeroing loop's invariant: the first `16 t` counters are zero. -/
def inv1 (t : Nat) (_ : PUnit) : sProp 𝕄 :=
  iprop(∃ f : Buf (Elt F) ((V d (cV L) (jV L)).loc cc0_scratch1),
    ⌜∀ j : S8192.Idx, (j 0).val < 16 * t → (f : S8192.Idx → BitVec 32) j = 0#32⌝
    ∗ (sC).view.loc (V d (cV L) (jV L)) ↦{fullShare} f)

/-- The fetched chunk; the counters at the counts of their bins among the first `16 t` of it. -/
def gBuf : Buf (Elt F) ((V d (cV L) (jV L)).loc cc0_scratch0) := fun (j : S256.Idx) => word (iv d) (256 * (wL L).val + (j 0).val)
def cBuf (t : Nat) : Buf (Elt F) ((V d (cV L) (jV L)).loc cc0_scratch1) := fun (j : S8192.Idx) => part (iv d) (wL L).val (16 * t) (j 0).val

/-- The counting loop's invariant. -/
def inv2 (t : Nat) (_ : PUnit) : sProp 𝕄 :=
  iprop(((sI).view.loc (V d (cV L) (jV L)) ↦{fullShare} gBuf iv d L)
    ∗ (sC).view.loc (V d (cV L) (jV L)) ↦{fullShare} cBuf iv d L t)

omit [FloatOps F] in
/-- One zeroing trip. -/
theorem step1 (k : Fin k0_t1_loop.trips) (f : Buf (Elt F) ((V d (cV L) (jV L)).loc cc0_scratch1))
    (hf : ∀ j : S8192.Idx, (j 0).val < 16 * k.val → (f : S8192.Idx → BitVec 32) j = 0#32) (j : S8192.Idx) (hj : (j 0).val < 16 * (k.val + 1)) :
    ((sC).view.writes (Elt F) f [⟨Rect.unit (s := S8192) (k0_off2 k) S16.size (k0_off2_inb k), k0_pay1⟩] : S8192.Idx → BitVec 32) j = 0#32 := by
  show (sC).view.read (Elt F) ((sC).view.writes (Elt F) f [⟨Rect.unit (s := S8192) (k0_off2 k) S16.size (k0_off2_inb k), k0_pay1⟩]) j = 0#32
  have ho : k0_off2 k 0 = 16 * k.val := congrFun (k0_off2_eq k) 0
  by_cases h : (j 0).val < 16 * k.val
  · rw [View.read_writes_cons_miss_of_axis (sC).view f _ [] j 0 (16 * k.val) 16 ho rfl rfl (Or.inl h)]
    exact hf j h
  · rw [View.read_writes_cons_hit_of_coords (sC).view f _ _ [] (ix1 ⟨(j 0).val - 16 * k.val, by omega⟩ : S16.Idx) j (by
      intro (a : Fin 1); obtain rfl : a = 0 := Subsingleton.elim _ _
      show (j 0).val = k0_off2 k 0 + 1 * ((j 0).val - 16 * k.val)
      omega)]
    rfl

omit [FloatOps F] in
/-- What a trip of the counting loop loads: sixteen words of the chunk. -/
theorem load2 (k : Fin k0_t2_loop.trips) (x : Fin 16) :
    ((sI).view.readAt (Elt F) (Rect.unit (s := S256) (k0_off3 k) S16.size (k0_off3_inb k)).toLoadRect (gBuf (F := F) iv d L) : S16.Idx → BitVec 32) (ix1 x)
      = word (iv d) (256 * (wL L).val + (16 * k.val + x.val)) := by
  show word (iv d) (256 * (wL L).val + (k0_off3 k 0 + 1 * x.val)) = _
  rw [show k0_off3 k 0 = 16 * k.val from congrFun (k0_off3_eq k) 0, Nat.one_mul]

omit [FloatOps F] in
theorem word_lt (hiv : ∀ d j, (iv d j).toNat < 8192) (n : ℕ) : (word (iv d) n).toNat < 8192 := by
  unfold Hist.word; split
  · exact hiv _ _
  · decide

omit [FloatOps F] in
theorem chk2 (hiv : ∀ d j, (iv d j).toNat < 8192) (k : Fin k0_t2_loop.trips) :
    k0_chk1 ((sI).view.readAt (Elt F) (Rect.unit (s := S256) (k0_off3 k) S16.size (k0_off3_inb k)).toLoadRect (gBuf (F := F) iv d L) : S16.Idx → BitVec 32) := by
  have h : ∀ a x, ((![((sI).view.readAt (Elt F) (Rect.unit (s := S256) (k0_off3 k) S16.size (k0_off3_inb k)).toLoadRect (gBuf (F := F) iv d L) : S16.Idx → BitVec 32)] : Fin 1 → IVec S16 32) a x).toNat < S8192.size a := by
    intro a x; obtain rfl : a = 0 := Subsingleton.elim _ _
    rw [eq_ix1 x]
    have := load2 (F := F) iv d L k (x 0)
    exact lt_of_eq_of_lt (congrArg BitVec.toNat this) (word_lt iv d hiv _)
  exact ⟨h, h⟩

/-- One counting trip: the two scatters take the counts to the next sixteen. -/
theorem step2 (k : Fin k0_t2_loop.trips) (v : IVec S16 32)
    (hv : v = ((sI).view.readAt (Elt F) (Rect.unit (s := S256) (k0_off3 k) S16.size (k0_off3_inb k)).toLoadRect (gBuf (F := F) iv d L) : S16.Idx → BitVec 32))
    (h h' : ∀ a x, ((![v] : Fin 1 → IVec S16 32) a x).toNat < S8192.size a) :
    (storeIdx (F := F) (s := S8192) (e := .i32) (storeIdx (F := F) (s := S8192) (e := .i32) (cBuf (F := F) iv d L k.val) ![v] k0_pay2 k0_pay3 true h) ![v] k0_pay2 k0_pay4 true h')
      = cBuf (F := F) iv d L (k.val + 1) := by
  funext j
  refine (Hist.storeIdx_both (F := F) (cBuf (F := F) iv d L k.val) v h h' j).trans ?_
  exact Hist.part_step (iv d) (wL L).val k.val (j 0).val v fun x => by rw [hv]; exact load2 (F := F) iv d L k x

omit [FloatOps F] in
/-- Where the row memref places element `x`. -/
theorem hK_emb (x : S8192.Idx) : (hK L).view.emb x = (ix2 (wL L) (x 0) : S32x8192.Idx) := by
  have hr : Shape.reshapeEquiv squeezes_S1x8192_S8192.numel_eq x = (ix2 (0 : Fin 1) (x 0) : S1x8192.Idx) :=
    Shape.reshapeEquiv_eq_of_rowMajor _ (by
      rw [Shape.rowMajor_val_two, Shape.rowMajor_val_one]
      show 0 * 8192 + (x 0).val = (x 0).val
      omega)
  show (rowK L).emb (Shape.reshapeEquiv squeezes_S1x8192_S8192.numel_eq x) = _
  rw [hr]
  refine Rect.emb_eq_of_coords _ _ _ fun a => ?_
  match a with
  | ⟨0, _⟩ =>
    show (wL L).val = k0_off4 L 0 + 1 * 0
    rw [k0_off4_eq]; rfl
  | ⟨1, _⟩ =>
    show (x 0).val = k0_off4 L 1 + 1 * (x 0).val
    rw [k0_off4_eq]; show _ = 0 + 1 * (x 0).val; omega

omit [FloatOps F] in
/-- The row written out is the histogram's row. -/
theorem pts_out (fh : Buf (Elt F) (hLoc d)) :
    ((hK L).view.loc (V d (cV L) (jV L)) ↦[(hK L).view.set]{fullShare}
        (hK L).view.writes (Elt F) fh [⟨Rect.whole S8192, (cBuf (F := F) iv d L 16 : S8192.Idx → BitVec 32)⟩] : sProp 𝕄)
      = hPts d (wL L) (hVal iv d) := by
  rw [show hPts d (wL L) (hVal (F := F) iv d) = ((hK L).view.loc (V d (cV L) (jV L)) ↦[(hK L).view.set]{fullShare} hVal (F := F) iv d : sProp 𝕄)
    from (pts_hK d L _).symm]
  refine pointsTo_congr fun i hi => ?_
  obtain ⟨x, -, rfl⟩ := Finset.mem_map.mp hi
  have h1 : (hK L).view.read (Elt F) ((hK L).view.writes (Elt F) fh [⟨Rect.whole S8192, (cBuf (F := F) iv d L 16 : S8192.Idx → BitVec 32)⟩]) x
      = (cBuf (F := F) iv d L 16 : S8192.Idx → BitVec 32) x :=
    View.read_writes_cons_hit_of_coords (hK L).view fh (Rect.whole S8192) (cBuf (F := F) iv d L 16 : S8192.Idx → BitVec 32) [] x x
      fun (a : Fin 1) => show (x a).val = 0 + 1 * (x a).val by omega
  have h2 : histV (iv d) ((hK L).view.emb x) = part (iv d) (wL L).val (16 * 16) (x 0).val := by rw [hK_emb]; rfl
  generalize (hK L).view.writes (Elt F) fh [⟨Rect.whole S8192, (cBuf (F := F) iv d L 16 : S8192.Idx → BitVec 32)⟩] = g at h1 ⊢
  rw [View.read_apply] at h1
  exact ((cast_eq _ _).symm.trans h1).trans h2.symm

omit [FloatOps F] in
/-- What the fetch lands is the chunk. -/
theorem fetch_lands (fs : Buf (Elt F) ((V d (cV L) (jV L)).loc cc0_scratch0)) :
    (sI).view.write (Elt F) fs ((iK L).view.read (Elt F) (show Buf (Elt F) (iLoc d) from iv d)) Finset.univ = gBuf (F := F) iv d L := by
  refine (View.write_whole_univ _ _ _).trans ?_
  funext j
  show iv d ((chunkK L).emb j) = word (iv d) (256 * (wL L).val + (j 0).val)
  have hj : (j 0).val < 256 := (j 0).isLt
  have hw : (wL L).val < 32 := (wL L).isLt
  unfold Hist.word
  rw [dif_pos (by omega)]
  congr 1
  refine Rect.emb_eq_of_coords _ _ _ fun a => ?_
  obtain rfl : a = 0 := Subsingleton.elim _ _
  show 256 * (wL L).val + (j 0).val = k0_off1 L 0 + 1 * (j 0).val
  rw [k0_off1_eq]
  show 256 * (2 * (L 1).val + (L 0).val) + (j 0).val = (512 * (L 1).val + 256 * (L 0).val) + 1 * (j 0).val
  omega

theorem tile_body (hF : (K (F := F)).Facts) (hiv : ∀ d j, (iv d j).toNat < 8192) (O : CellTallies nD τ sig (HIx 1)) (W : Waits sig (HIx 1)) (hO : ∀ g, O g none = 0) :
    iprop(levAts (K (F := F)).L (K (F := F)).lev ∗ emp
        ∗ goOf iv d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_hist_kernel L iV (Memref.isWhole_whole _) hV (Memref.isWhole_whole _)
            sI (Memref.isWhole_whole _) sC (Memref.isWhole_whole _) cc0_scoped0 cc0_scoped1)
          fun _ => iprop(tdOf iv d (wL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0_hist_kernel_eq_skeleton]; unfold cc0_hist_kernel_skel
  rw [(K (F := F)).scopedBufs_V hF d (cV L) (jV L), SparseCore.Cfg.scopedSems0_V (Val := Elt F) d (cV L) (jV L), ownSems0_V, ownBufs_V]
  iintro ⟨#Hlv, -, ⟨Hi, %fh, Hh⟩, ⟨⟨%fs, Hs⟩, ⟨%fc, Hc⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L _).symm) $$ Hi
  ihave Hh' := (Entails.of_eq (pts_hK (F := F) d L _).symm) $$ Hh
  ihave Hs' := (Entails.of_eq (pts_sI (F := F) d L _).symm) $$ Hs
  ihave Hc' := (Entails.of_eq (pts_sC (F := F) d L _).symm) $$ Hc
  sl_exec (disch := exact View.amount_pos _ _ (show 0 < S256.numel by decide))
  sl_for (inv1 (F := F) d L) $$ [Hc']
  case region =>
    intro k _
    unfold inv1
    iintro ⟨%f, %hf, Hc⟩
    sl_exec
    sl_step
    iexists _; isplitr
    swap; · iexact Hc
    ipureintro
    exact step1 d L k f hf
  · unfold inv1
    iexists fc; isplitr
    swap; · iexact Hc'
    ipureintro
    intro j hj; exact absurd hj (by omega)
  iintro %_ HI
  sl_for (inv2 (F := F) iv d L) $$ [HI Hs']
  case region =>
    intro k _
    unfold inv2
    iintro ⟨Hs, Hc⟩
    sl_exec
    rw [wp_assume_of _ _ _ _ (chk2 iv d L hiv k)]
    ihave Hc1 := (Entails.of_eq (pts_sC_whole (F := F) d L _).symm) $$ Hc
    iapply (SparseCore.wp_vectorStoreIdx 𝒱₀ (V d (cV L) (jV L)) none Set.univ (base := sC)) $$ Hc1
    iintro Hc1
    iapply (SparseCore.wp_vectorStoreIdx 𝒱₀ (V d (cV L) (jV L)) none Set.univ (base := sC)) $$ Hc1
    iintro Hc1
    ihave Hc := (Entails.of_eq (pts_sC_whole (F := F) d L _)) $$ Hc1
    sl_step
    isplitl [Hs]; · iexact Hs
    rw [Memref.write_access_whole_univ, Memref.read_access_whole, Memref.write_access_whole_univ, Memref.read_access_whole]
    rw [step2 iv d L k _ rfl]
    iexact Hc
  · unfold inv1 inv2
    icases HI with ⟨%f, %hf, Hc⟩
    isplitl [Hs']
    · iapply (Entails.of_eq (congrArg (fun g => ((sI).view.loc (V d (cV L) (jV L)) ↦{fullShare} g : sProp 𝕄)) (fetch_lands iv d L fs)))
      iexact Hs'
    · have hz : f = cBuf (F := F) iv d L 0 := by
        funext j
        refine (hf j ?_).trans ?_
        · exact (j 0).isLt
        · rfl
      rw [hz]; iexact Hc
  iintro %_ HI
  unfold inv2
  icases HI with ⟨Hs, Hc⟩
  sl_exec
  sl_step
  isplitl [Hi' Hh']
  · isplitl [Hi']; · iapply (Entails.of_eq (pts_iK (F := F) d L _)); iexact Hi'
    iapply (Entails.of_eq (pts_out iv d L fh)); iexact Hh'
  isplitl [Hs Hc Hbufs]
  · isplitl [Hs]; · iexists _; iexact Hs
    isplitl [Hc]; · iexists _; iexact Hc
    iexact Hbufs
  isplitl [HsemA HsemB Hsems]
  · isplitl [HsemA]; · iexact HsemA
    isplitl [HsemB]; · iexact HsemB
    iexact Hsems
  iexists _; isplitr
  swap; · iexact HO
  ipureintro; intro p _
  rcases p.2 with _ | q
  · exact .inr (.inl rfl)
  · exact .inr (.inr (congrArg some (Subsingleton.elim q 0)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_hist_kernel (coordsV c s)
          iV (Memref.isWhole_whole _) hV (Memref.isWhole_whole _)
          sI (Memref.isWhole_whole _) sC (Memref.isWhole_whole _) cc0_scoped0 cc0_scoped1) ⟨⟩ c s := rfl

theorem tileObl (hF : (K (F := F)).Facts) (hiv : ∀ d j, (iv d j).toNat < 8192) : (K (F := F)).TileObl (D (F := F)) 𝒱 (P iv) v₀ 0 := by
  intro d c i O W hO _ _
  simp only [show (P (F := F) iv).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body iv d (coordsV ⟨_, hci.1⟩ ⟨_, hci.2⟩) hF hiv O W hO

end Tile

theorem vecSplit : (K (F := F)).VecSplit' (P iv) 0 := by
  intro d c
  show (bigSep Finset.univ fun i : Fin 16 => goOf iv d (wid (Fin.cast nCore_zero c) i)) ⊢ |={Set.univ}=> iprop(
      (bigSep Finset.univ fun i : Fin ((K (F := F)).nSub 0) => goOf iv d (wid (Fin.cast nCore_zero c) (Fin.cast nSub_zero i)))
      ∗ ((bigSep Finset.univ fun i : Fin ((K (F := F)).nSub 0) => tdOf iv d (wid (Fin.cast nCore_zero c) (Fin.cast nSub_zero i)))
          -∗ (bigSep Finset.univ fun i : Fin 16 => tdOf iv d (wid (Fin.cast nCore_zero c) i))))
  iintro H; imodintro
  isplitl [H]; · iexact H
  iintro H; iexact H

end Cert.Proof.Alone

end
-- ==== Proof.Alone.Split.lean ====
/-
  The histogram call's arrays as its 32 tasks' pieces, and back.
-/
module

public import proofs.«01_k».proof.Proof.Alone.Sc

@[expose] public section

noncomputable section

namespace Cert.Proof.Alone

open Cert.ScHistIdeal Cert.ScHistIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- A worker is a SparseCore and a subcore. -/
def widE : Fin 2 × Fin 16 ≃ Fin 32 where
  toFun p := wid p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

theorem bigSep_wid (Φ : Fin 32 → sProp 𝕄) :
    bigSep Finset.univ Φ = bigSep Finset.univ fun c : Fin 2 => bigSep Finset.univ fun i : Fin 16 => Φ (wid c i) := by
  rw [bigSep_univ_equiv widE Φ, bigSep_univ_prod]
  rfl

theorem chunkSet_eq (w : Fin 32) : chunkSet w = (chunk w).set := View.set_slice_whole (main_arg0_scv : Ref sig .scVector) (chunk w)
theorem rowSet_eq (w : Fin 32) : rowSet w = (row w).set := View.set_slice_whole (main_v0_scv : Ref sig .scVector) (row w)

theorem iPts_whole (d : Dev nD) (f : Buf (Elt F) (iLoc d)) :
    (iLoc d ↦{fullShare} f : sProp 𝕄) = bigSep Finset.univ fun w : Fin 32 => iLoc d ↦[chunkSet w]{fullShare} f := by
  rw [← pointsTo_biUnion Finset.univ (ℓ := iLoc d) chunkSet (fun t _ t' _ h => by
      rw [chunkSet_eq, chunkSet_eq]; exact Rect.part_disjoint hdivI h),
    show Finset.univ.biUnion chunkSet = Finset.univ from
      (Finset.biUnion_congr rfl fun i _ => chunkSet_eq i).trans (Rect.biUnion_part hdivI)]
  try rfl
theorem hPts_whole (d : Dev nD) (f : Buf (Elt F) (hLoc d)) :
    (hLoc d ↦{fullShare} f : sProp 𝕄) = bigSep Finset.univ fun w : Fin 32 => hLoc d ↦[rowSet w]{fullShare} f := by
  rw [← pointsTo_biUnion Finset.univ (ℓ := hLoc d) rowSet (fun t _ t' _ h => by
      rw [rowSet_eq, rowSet_eq]; exact Rect.part_disjoint hdivH h),
    show Finset.univ.biUnion rowSet = Finset.univ from
      (Finset.biUnion_congr rfl fun i _ => rowSet_eq i).trans (Rect.biUnion_part hdivH)]
  try rfl

variable [FloatOps F]
variable (iv : Dev nD → S8192.Idx → BitVec 32)

/-- The two whole arrays make up what the call's start hands over, -/
theorem st_intro (d : Dev nD) (f : Buf (Elt F) (hLoc d)) :
    iprop((iLoc d ↦{fullShare} (show Buf (Elt F) (iLoc d) from iv d)) ∗ hLoc d ↦{fullShare} f)
      ⊢ bigSep Finset.univ fun c : Fin ((K (F := F)).nCore 0) => (P iv).st 0 d c := by
  have h : (bigSep Finset.univ fun c : Fin ((K (F := F)).nCore 0) => (P iv).st 0 d c)
      = bigSep Finset.univ fun w : Fin 32 => goOf (F := F) iv d w := (bigSep_wid (fun w => goOf (F := F) iv d w)).symm
  rw [h, iPts_whole, hPts_whole]
  rw [← bigSep_sep']
  refine bigSep_mono fun w _ => ?_
  show iprop((iPts (F := F) iv d w) ∗ hPts d w f) ⊢ goOf (F := F) iv d w
  iintro ⟨Hi, Hh⟩
  isplitl [Hi]; · iexact Hi
  iexists _; iexact Hh

/-- and what its end hands back is the two whole arrays, the histogram at the counts. -/
theorem dn_elim (d : Dev nD) :
    (bigSep Finset.univ fun c : Fin ((K (F := F)).nCore 0) => (P iv).dn 0 d c)
      ⊢ iprop((iLoc d ↦{fullShare} (show Buf (Elt F) (iLoc d) from iv d)) ∗ hLoc d ↦{fullShare} hVal iv d) := by
  have h : (bigSep Finset.univ fun c : Fin ((K (F := F)).nCore 0) => (P iv).dn 0 d c)
      = bigSep Finset.univ fun w : Fin 32 => tdOf (F := F) iv d w := (bigSep_wid (fun w => tdOf (F := F) iv d w)).symm
  rw [h, iPts_whole, hPts_whole, ← bigSep_sep']

end Cert.Proof.Alone

end
-- ==== Proof.Alone.Run.lean ====
/-
  The launch: what the launch element holds, @main on the TensorCore, and the program's run, which ends with the
  histogram of every chunk of the index list.
-/
module

public import proofs.«01_k».proof.Proof.Alone.Split

@[expose] public section

noncomputable section

namespace Cert.Proof.Alone

open Cert.ScHistIdeal Cert.ScHistIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The index list of the launch memory. -/
def iv (d : Dev nD) : S8192.Idx → BitVec 32 := m (iLoc d)

def u₀ : UU := (initOf (K (F := F)).hsCells (K (F := F)).hsToks, 1)

omit [FloatOps F] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (iv m)).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) (iv m)).x q thr) = bigSep Finset.univ fun _ => iprop(emp) from
    bigSep_congr fun _ _ => bigSep_univ_of_subsingleton (0 : Fin 1), bigSep_none]
  iempintro

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ hLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the launch leaves: the index list as it was and the histogram. -/
abbrev FIN (d : Dev nD) : sProp 𝕄 := iprop((iLoc d ↦{fullShare} m (iLoc d)) ∗ hLoc d ↦{fullShare} hVal (F := F) (iv m) d)

theorem hmain (κ : GSem nD τ sig → ℕ) (d : Dev nD) :
    iprop((K (F := F)).ctx EH (P (iv m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Hh⟩, Hts, -⟩, -⟩
  iapply ((K (F := F)).wp_run (D (F := F)) 𝒱 (EH := EH) (P := P (iv m)) κ d 0) $$ [Hst Hi Hh Hb Hts]
  isplitr; · iexact Hctx
  isplitl [Hst]; · iexact Hst
  isplitl [Hi Hh]
  · iapply (st_intro (iv m) d (m (hLoc d)))
    isplitl [Hi]; · iexact Hi
    iexact Hh
  iintro ⟨Hst, Hdn⟩
  ihave Hdn' := (dn_elim (iv m) d) $$ Hdn
  icases Hdn' with ⟨Hi, Hh⟩
  imodintro
  isplitl [Hst]; · iexact Hst
  isplitr [Hb Hts]
  · isplitl [Hi]; · iexact Hi
    iexact Hh
  isplitl [Hb] <;> iassumption

def fq (d : Dev nD) (s' : Phys nD τ sig (Elt F)) : Prop := s'.mem.mem (iLoc d) = m (iLoc d) ∧ s'.mem.mem (hLoc d) = hVal (F := F) (iv m) d

theorem hfin (d : Dev nD) (s' : Phys nD τ sig (Elt F)) : iprop(FIN m d ∗ SI s') ⊢ (⌜fq m d s'⌝ : sProp 𝕄) := by
  iintro ⟨⟨Hx, Ha⟩, HSI⟩
  ihave H := (persistent_entails_right (SI_pointsTo_agree (st := s') (ℓ := iLoc d) (I := Finset.univ) (q := fullShare) (f := m (iLoc d)))) $$ [HSI Hx]
  · isplitl [HSI] <;> iassumption
  icases H with ⟨%hx, HSI, -⟩
  ihave H := (SI_pointsTo_agree (st := s') (ℓ := hLoc d) (I := Finset.univ) (q := fullShare) (f := hVal (F := F) (iv m) d)) $$ [HSI Ha]
  · isplitl [HSI] <;> iassumption
  icases H with %ha
  ipureintro; exact ⟨funext fun i => hx i (Finset.mem_univ i), funext fun i => ha i (Finset.mem_univ i)⟩

def QC : PUnit × MemSt nD τ sig (Elt F) → Prop := fun r => (∀ c : Dev nD, r.2.mem (iLoc c) = m (iLoc c) ∧ r.2.mem (hLoc c) = hVal (F := F) (iv m) c) ∧ r.2.sem = fun _ => 0

theorem run_main [∀ e, Nonempty (Elt F e)] (hiv : ∀ d j, (iv m d j).toNat < 8192) :
    θ_run (Cert.ScHistIdeal.defs (F := F)) (Cert.ScHistIdeal.threads (F := F)) ⟨m, fun _ => 0, ρ⟩ (QC m) :=
  SparseCore.Cfg.θ_run_sc_quiescent (K := K (F := F)) (D := D (F := F)) (𝒱 := 𝒱) (EH := EH) (P := P (iv m)) (A := ∅) facts v₀
    (fun q hq => match q with | 0 => nomatch hq)
    (fun q _ => match q with | 0 => tileObl (iv m) facts hiv)
    (fun q _ => match q with | 0 => SparseCore.Cfg.VecSplit.of_plain (vecSplit (iv m)))
    m ρ main (fun _ => iprop(emp)) (FIN m) (u₀ (F := F)) (sep_elim_left.trans (hu₀ m)) (hmain m ρ) (fq m) (hfin m) (QC m) (fun _ h hz => ⟨h, hz⟩)

end Cert.Proof.Alone

end
-- ==== Proof.Alone.Value.lean ====
/-
  The reference of the histogram alone computes the same histogram, and what the precondition says of an id.
-/
module

public import proofs.«01_k».proof.Proof.Alone.Run
public import proofs.«01_k».proof.Proof.Spec
public import proofs.«01_k».proof.Proof.Gen.ScHistReferenceIdeal.Run
public import proofs.«01_k».proof.Proof.Gen.Pre_ids_in_pool
public import Idealize.ShloMosaic.Lib.IndicatorCount
public import Idealize.ShloMosaic.Lib.ReduceAll
public import Idealize.ShloMosaic.Lib.Pipeline.Value

@[expose] public section

noncomputable section

namespace Cert.Proof.AloneRef

open Cert.ScHistReferenceIdeal Cert.ScHistReferenceIdeal.Gen
open Idealize.ShloMosaic Idealize.ShloMosaic.ValueIdx Idealize.SL.Sem

theorem reduces_parts : S32x256x8192.Reduces [1] S32x8192 := by decide

/-- The reference's result: at row `w` and id `b`, how many of the `w`-th 256 words are `b`. -/
theorem value (x : S8192.Idx → BitVec 32) :
    Host.reduce IntOp.addi (extui 32 (cmpi .eq
        (broadcastInDim S32x256x8192 ![0, 1, 2] bcast_S32x256x1_S32x256x8192_0_1_2 (broadcastInDim S32x256x1 ![0, 1] bcast_S32x256_S32x256x1_0_1 (shapeCast S32x256 x shapeCasts_S8192_S32x256)))
        (broadcastInDim S32x256x8192 ![0, 1, 2] bcast_S1x1x8192_S32x256x8192_0_1_2 (broadcastInDim S1x1x8192 ![2] bcast_S8192_S1x1x8192_2 (iotaInDim S8192 32 0)))) natLt_1_32)
      (constantI S_ 32 0#32) reducesTo_S32x256x8192_S32x8192_d1 h_S_
      = Hist.histV x := by
  funext j
  rw [Host.reduce_eq_fold_single _ _ _ _ reduces_parts]
  have hterm : (extui 32 (cmpi .eq
        (broadcastInDim S32x256x8192 ![0, 1, 2] bcast_S32x256x1_S32x256x8192_0_1_2 (broadcastInDim S32x256x1 ![0, 1] bcast_S32x256_S32x256x1_0_1 (shapeCast S32x256 x shapeCasts_S8192_S32x256)))
        (broadcastInDim S32x256x8192 ![0, 1, 2] bcast_S1x1x8192_S32x256x8192_0_1_2 (broadcastInDim S1x1x8192 ![2] bcast_S8192_S1x1x8192_2 (iotaInDim S8192 32 0)))) natLt_1_32)
      ∘ reduces_parts.lift j
      = fun k : Fin 256 => (BitVec.ofBool (decide ((Hist.word x (256 * (j 0).val + k.val)).toNat = (j 1).val))).setWidth 32 := by
    funext k
    have hk : k.val < 256 := k.isLt
    have h0 : (j 0).val < 32 := (j 0).isLt
    have h1 : (j 1).val < 8192 := (j 1).isLt
    have hl : reduces_parts.lift j k = (ValueIdx.ix3 (⟨(j 0).val, h0⟩ : Fin 32) (⟨k.val, hk⟩ : Fin 256) (⟨(j 1).val, h1⟩ : Fin 8192) : S32x256x8192.Idx) := by
      funext a; apply Fin.ext; refine (Shape.Reduces.lift_val _ _ _ _).trans ?_
      match a with
      | ⟨0, _⟩ => rfl
      | ⟨1, _⟩ => rfl
      | ⟨2, _⟩ => rfl
    show extui 32 (cmpi .eq _ _) natLt_1_32 (reduces_parts.lift j k) = _
    rw [hl]
    show (IntOp.cmpi .eq (broadcastInDim S32x256x8192 _ _ _ _) (broadcastInDim S32x256x8192 _ _ _ _)).setWidth 32 = _
    rw [broadcastInDim_apply _ _ _ _ (ValueIdx.ix3 (⟨(j 0).val, h0⟩ : Fin 32) (⟨k.val, hk⟩ : Fin 256) (0 : Fin 1) : S32x256x1.Idx) (fun a => by
          match a with
          | ⟨0, _⟩ => rfl
          | ⟨1, _⟩ => rfl
          | ⟨2, _⟩ => rfl),
      broadcastInDim_apply _ _ _ _ (ValueIdx.ix2 (⟨(j 0).val, h0⟩ : Fin 32) (⟨k.val, hk⟩ : Fin 256) : S32x256.Idx) (fun a => by
          match a with
          | ⟨0, _⟩ => rfl
          | ⟨1, _⟩ => rfl),
      broadcastInDim_apply _ _ _ _ (ValueIdx.ix3 (0 : Fin 1) (0 : Fin 1) (⟨(j 1).val, h1⟩ : Fin 8192) : S1x1x8192.Idx) (fun a => by
          match a with
          | ⟨0, _⟩ => rfl
          | ⟨1, _⟩ => rfl
          | ⟨2, _⟩ => rfl),
      broadcastInDim_apply _ _ _ _ (ValueIdx.ix1 (⟨(j 1).val, h1⟩ : Fin 8192) : S8192.Idx) (fun a => by
          match a with
          | ⟨0, _⟩ => rfl),
      shapeCast_apply _ _ _ (ValueIdx.ix1 (⟨256 * (j 0).val + k.val, by omega⟩ : Fin 8192) : S8192.Idx) (by
          rw [Shape.rowMajor_val_two, Shape.rowMajor_val_one]
          show 256 * (j 0).val + k.val = (j 0).val * 256 + k.val
          omega)]
    have hw : Hist.word x (256 * (j 0).val + k.val) = x (ValueIdx.ix1 (⟨256 * (j 0).val + k.val, by omega⟩ : Fin 8192)) := by
      unfold Hist.word; rw [dif_pos (by omega)]
    rw [hw]
    generalize x (ValueIdx.ix1 (⟨256 * (j 0).val + k.val, by omega⟩ : Fin 8192)) = v
    show (BitVec.ofBool (v == BitVec.ofNat 32 (j 1).val)).setWidth 32 = _
    congr 2
    rw [Bool.eq_iff_iff]
    simp only [beq_iff_eq, decide_eq_true_eq]
    constructor
    · rintro rfl; rw [BitVec.toNat_ofNat]; exact Nat.mod_eq_of_lt (by omega)
    · intro h; rw [← h, BitVec.ofNat_toNat, BitVec.setWidth_eq]
  rw [hterm]
  refine (IndicatorCount.fold_addi_setWidth_eq_card (w := 32)
    (fun k : Fin 256 => BitVec.ofBool (decide ((Hist.word x (256 * (j 0).val + k.val)).toNat = (j 1).val))) Finset.univ).trans ?_
  show _ = BitVec.ofNat 32 (Nat.count (fun k => (Hist.word x (256 * (j 0).val + k)).toNat = (j 1).val) 256)
  rw [← Spec.filter_card]
  congr 2
  ext k
  simp only [Finset.mem_filter, Finset.mem_univ, true_and]
  by_cases h : (Hist.word x (256 * (j 0).val + k.val)).toNat = (j 1).val
  · simp [h]
  · simp [h]

/-- What the precondition says of a word. -/
theorem lt_of_ok (v : BitVec 32) (e : IntOp.andi (IntOp.cmpi .sge v 0#32) (IntOp.cmpi .slt v 8192#32) = 1#1) : v.toNat < 8192 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem ok_of_pre {F : FTy → Type} [FloatOps F] (x : S8192.Idx → BitVec 32)
    (h : Cert.Pre_ids_in_pool.fn (F := F) x = fun _ => 1#1) (j : S8192.Idx) : (x j).toNat < 8192 := by
  have hs : Subsingleton Cert.Pre_ids_in_pool.S_.Idx := ⟨fun a b => funext fun k => k.elim0⟩
  have e := Host.reduce_andi_all _ _ _ _ ValueIdx.ix0 (congrFun h ValueIdx.ix0) j
  exact lt_of_ok (x j) e

end Cert.Proof.AloneRef

end
-- ==== Proof.lean ====
/-
  The certificate: the frames of the whole kernel's ideal reading and of the reference, and the equality of their two
  results, the repeated prompts and the loss.
-/
module

public import proofs.«01_k».proof.Defs
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.KerVal
public import proofs.«01_k».proof.Proof.RefVal
public import proofs.«01_k».proof.Proof.Gen.ScHist
public import proofs.«01_k».proof.Proof.Gen.ScHistReference
public import proofs.«01_k».proof.Proof.Alone.Value
public import Idealize.ShloMosaic.Adequacy
public import Idealize.ShloMosaic.Init

@[expose] public section

noncomputable section

namespace Cert.Proof

open Idealize.ShloMosaic Idealize.SL.Sem

theorem frame_pi : Cert.quiescent_KernelIdeal := fun m ρ _ =>
  (θ_run Cert.KernelIdeal.defs _ _).mono (fun _ h => ⟨fun c => ⟨(h.1 c).1, (h.1 c).2.1, (h.1 c).2.2.1⟩, h.2⟩)
    (Sc.run_main (F := Ideal) m ρ (Sc.chks m) (Sc.iv_lt m))

theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem Ref.out_eq (m : (ℓ : Loc Cert.KernelIdeal.nD Cert.KernelIdeal.τ Cert.KernelIdeal.sig) → Buf (Elt Ideal) ℓ) (c : Dev Cert.KernelIdeal.nD) :
    Ref.outT (Sc.pM m c) (Ref.gixT (Sc.qM m c) (Sc.kM m c)) = Sc.oV m (Sc.chks m) c := by
  funext i
  obtain ⟨x, y, z, rfl⟩ : ∃ (x : Fin 1024) (y : Fin 32) (z : Fin 768), i = ix3 x y z := ⟨i 0, i 1, i 2, eq_ix3 i⟩
  exact (Ref.out_apply _ _ _ x y z).trans (Sc.oV_apply m c x y z).symm

theorem Ref.loss_eq (m : (ℓ : Loc Cert.KernelIdeal.nD Cert.KernelIdeal.τ Cert.KernelIdeal.sig) → Buf (Elt Ideal) ℓ) (c : Dev Cert.KernelIdeal.nD) :
    Ref.lossT (Sc.qM m c) (Sc.kM m c) (Ref.gixT (Sc.qM m c) (Sc.kM m c)) = Sc.rV m (Sc.chks m) c :=
  (funext fun i => Ref.loss_apply _ _ i).trans (Sc.rV_apply m c).symm

theorem algebraic : Cert.algebraic_KernelIdeal_ReferenceIdeal := by
  intro m ρ m' ρ' _ hagree
  refine ⟨fun c => Sc.oV m (Sc.chks m) c, fun c => Sc.rV m (Sc.chks m) c,
    (θ_run Cert.KernelIdeal.defs _ _).mono (fun _ h c => ⟨(h.1 c).2.2.2.1, (h.1 c).2.2.2.2, (h.1 c).1, (h.1 c).2.1, (h.1 c).2.2.1⟩)
      (Sc.run_main (F := Ideal) m ρ (Sc.chks m) (Sc.iv_lt m)),
    (θ_run Cert.ReferenceIdeal.defs _ _).mono (fun _ h c => ⟨(h c).1.trans ?_, (h c).2.1.trans ?_, (h c).2.2⟩)
      (Cert.ReferenceIdeal.Value.run (F := Ideal) m' ρ')⟩
  · refine (Ref.res_out_eq m' c).trans ?_
    rw [show Ref.pR m' c = Sc.pM m c from (hagree c).2.2, show Ref.qR m' c = Sc.qM m c from (hagree c).1, show Ref.kR m' c = Sc.kM m c from (hagree c).2.1]
    exact Ref.out_eq m c
  · refine (Ref.res_loss_eq m' c).trans ?_
    rw [show Ref.qR m' c = Sc.qM m c from (hagree c).1, show Ref.kR m' c = Sc.kM m c from (hagree c).2.1]
    exact Ref.loss_eq m c

/-! ## The histogram alone -/

theorem alone_frame : Cert.quiescent_ScHist := fun m ρ hpre =>
  (θ_run Cert.ScHistIdeal.defs _ _).mono (fun _ h => ⟨fun c => (h.1 c).1, h.2⟩)
    (Alone.run_main (F := Bits) m ρ fun d => AloneRef.ok_of_pre (F := Bits) _ (hpre d))

theorem alone_frame_ideal : Cert.quiescent_ScHistIdeal := fun m ρ hpre =>
  (θ_run Cert.ScHistIdeal.defs _ _).mono (fun _ h => ⟨fun c => (h.1 c).1, h.2⟩)
    (Alone.run_main (F := Ideal) m ρ fun d => AloneRef.ok_of_pre (F := Ideal) _ (hpre d))

theorem alone_frame_ri : Cert.quiescent_ScHistReferenceIdeal := fun m ρ _ =>
  (θ_run Cert.ScHistReferenceIdeal.defs _ _).mono (fun r h => ⟨fun c => (h c).2, sem_eq_zero_of_no_sems (by decide) r.2⟩)
    (Cert.ScHistReferenceIdeal.Value.run (F := Ideal) m ρ)

theorem alone_frame_ri_pre : Cert.quiescent_ScHistReferenceIdeal_pre_ids_in_pool := fun m ρ _ =>
  (θ_run Cert.ScHistReferenceIdeal.defs _ _).mono (fun r h => ⟨fun c => (h c).2, sem_eq_zero_of_no_sems (by decide) r.2⟩)
    (Cert.ScHistReferenceIdeal.Value.run (F := Ideal) m ρ)

theorem alone_frame_r : Cert.quiescent_ScHistReference := fun m ρ _ =>
  (θ_run Cert.ScHistReferenceIdeal.defs _ _).mono (fun r h => ⟨fun c => (h c).2, sem_eq_zero_of_no_sems (by decide) r.2⟩)
    (Cert.ScHistReferenceIdeal.Value.run (F := Bits) m ρ)

theorem alone_algebraic : Cert.algebraic_ScHistIdeal_ScHistReferenceIdeal := by
  intro m ρ m' ρ' hpre hagree
  refine ⟨fun c => Alone.hVal (F := Ideal) (Alone.iv m) c,
    (θ_run Cert.ScHistIdeal.defs _ _).mono (fun _ h c => ⟨(h.1 c).2, (h.1 c).1⟩)
      (Alone.run_main (F := Ideal) m ρ fun d => AloneRef.ok_of_pre (F := Ideal) _ (hpre d)),
    (θ_run Cert.ScHistReferenceIdeal.defs _ _).mono (fun _ h c => ⟨((h c).1.trans ?_), (h c).2⟩)
      (Cert.ScHistReferenceIdeal.Value.run (F := Ideal) m' ρ')⟩
  exact (AloneRef.value _).trans (congrArg Hist.histV (hagree c))

theorem alone_bitexact : Cert.bitexact_ScHist_ScHistReference := by
  intro m ρ m' ρ' hpre hagree
  refine ⟨fun c => Alone.hVal (F := Bits) (Alone.iv m) c,
    (θ_run Cert.ScHistIdeal.defs _ _).mono (fun _ h c => ⟨(h.1 c).2, (h.1 c).1⟩)
      (Alone.run_main (F := Bits) m ρ fun d => AloneRef.ok_of_pre (F := Bits) _ (hpre d)),
    (θ_run Cert.ScHistReferenceIdeal.defs _ _).mono (fun _ h c => ⟨((h c).1.trans ?_), (h c).2⟩)
      (Cert.ScHistReferenceIdeal.Value.run (F := Bits) m' ρ')⟩
  exact (AloneRef.value _).trans (congrArg Hist.histV (hagree c))

theorem claim : Cert.Claim :=
  ⟨Cert.KernelIdeal.Gen.facts, Cert.ReferenceIdeal.Gen.facts, Cert.ScHist.Gen.facts, Cert.ScHistIdeal.Gen.facts,
    Cert.ScHistReferenceIdeal.Gen.facts, Cert.ScHistReference.Gen.facts, Cert.Pre_ids_in_pool.Gen.facts,
    frame_pi, frame_ri, alone_frame, alone_frame_ideal, alone_frame_ri, alone_frame_ri_pre, alone_frame_r,
    algebraic, trivial, alone_algebraic, alone_bitexact⟩

end Cert.Proof

end
